-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSReferenceIdeal (m : (ℓ : Loc Cert.ProjSReferenceIdeal.nD Cert.ProjSReferenceIdeal.τ Cert.ProjSReferenceIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSReferenceIdeal (m : (ℓ : Loc Cert.MixSReferenceIdeal.nD Cert.MixSReferenceIdeal.τ Cert.MixSReferenceIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSReferenceIdeal (m : (ℓ : Loc Cert.FfnSReferenceIdeal.nD Cert.FfnSReferenceIdeal.τ Cert.FfnSReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4)
      ∧ r.2.mem ((c.tc : Thread Cert.ProjS.nD Cert.ProjS.τ).loc Cert.ProjS.main_arg5) = m ((c.tc : Thread Cert.ProjS.nD Cert.ProjS.τ).loc Cert.ProjS.main_arg5))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
      ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5))
      ∧ r.2.sem = fun _ => 0)

def quiescent_ProjSReferenceIdeal [hProjSReferenceIdeal : Cert.ProjSReferenceIdeal.Facts] : Prop :=
  ∀ (m : (ℓ : Loc Cert.ProjSReferenceIdeal.nD Cert.ProjSReferenceIdeal.τ Cert.ProjSReferenceIdeal.sig) → Buf (Elt Ideal) ℓ) (g : Dev Cert.ProjSReferenceIdeal.nD → PrngReg), Pre_ProjSReferenceIdeal m →
    θ_run (Cert.ProjSReferenceIdeal.defs (F := Ideal)) (onTc (τ := Cert.ProjSReferenceIdeal.τ) (Cert.ProjSReferenceIdeal.main (F := Ideal))) ⟨m, fun _ => 0, g⟩ (fun r => (∀ c : Dev Cert.ProjSReferenceIdeal.nD,
      r.2.mem ((c.tc : Thread Cert.ProjSReferenceIdeal.nD Cert.ProjSReferenceIdeal.τ).loc Cert.ProjSReferenceIdeal.main_arg0) = m ((c.tc : Thread Cert.ProjSReferenceIdeal.nD Cert.ProjSReferenceIdeal.τ).loc Cert.ProjSReferenceIdeal.main_arg0)
      ∧ r.2.mem ((c.tc : Thread Cert.ProjSReferenceIdeal.nD Cert.ProjSReferenceIdeal.τ).loc Cert.ProjSReferenceIdeal.main_arg1) = m ((c.tc : Thread Cert.ProjSReferenceIdeal.nD Cert.ProjSReferenceIdeal.τ).loc Cert.ProjSReferenceIdeal.main_arg1)
      ∧ r.2.mem ((c.tc : Thread Cert.ProjSReferenceIdeal.nD Cert.ProjSReferenceIdeal.τ).loc Cert.ProjSReferenceIdeal.main_arg2) = m ((c.tc : Thread Cert.ProjSReferenceIdeal.nD Cert.ProjSReferenceIdeal.τ).loc Cert.ProjSReferenceIdeal.main_arg2)
      ∧ r.2.mem ((c.tc : Thread Cert.ProjSReferenceIdeal.nD Cert.ProjSReferenceIdeal.τ).loc Cert.ProjSReferenceIdeal.main_arg3) = m ((c.tc : Thread Cert.ProjSReferenceIdeal.nD Cert.ProjSReferenceIdeal.τ).loc Cert.ProjSReferenceIdeal.main_arg3)
      ∧ r.2.mem ((c.tc : Thread Cert.ProjSReferenceIdeal.nD Cert.ProjSReferenceIdeal.τ).loc Cert.ProjSReferenceIdeal.main_arg4) = m ((c.tc : Thread Cert.ProjSReferenceIdeal.nD Cert.ProjSReferenceIdeal.τ).loc Cert.ProjSReferenceIdeal.main_arg4)
      ∧ r.2.mem ((c.tc : Thread Cert.ProjSReferenceIdeal.nD Cert.ProjSReferenceIdeal.τ).loc Cert.ProjSReferenceIdeal.main_arg5) = m ((c.tc : Thread Cert.ProjSReferenceIdeal.nD Cert.ProjSReferenceIdeal.τ).loc Cert.ProjSReferenceIdeal.main_arg5))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5))
      ∧ r.2.sem = fun _ => 0)

def quiescent_MixSReferenceIdeal [hMixSReferenceIdeal : Cert.MixSReferenceIdeal.Facts] : Prop :=
  ∀ (m : (ℓ : Loc Cert.MixSReferenceIdeal.nD Cert.MixSReferenceIdeal.τ Cert.MixSReferenceIdeal.sig) → Buf (Elt Ideal) ℓ) (g : Dev Cert.MixSReferenceIdeal.nD → PrngReg), Pre_MixSReferenceIdeal m →
    θ_run (Cert.MixSReferenceIdeal.defs (F := Ideal)) (onTc (τ := Cert.MixSReferenceIdeal.τ) (Cert.MixSReferenceIdeal.main (F := Ideal))) ⟨m, fun _ => 0, g⟩ (fun r => (∀ c : Dev Cert.MixSReferenceIdeal.nD,
      r.2.mem ((c.tc : Thread Cert.MixSReferenceIdeal.nD Cert.MixSReferenceIdeal.τ).loc Cert.MixSReferenceIdeal.main_arg0) = m ((c.tc : Thread Cert.MixSReferenceIdeal.nD Cert.MixSReferenceIdeal.τ).loc Cert.MixSReferenceIdeal.main_arg0)
      ∧ r.2.mem ((c.tc : Thread Cert.MixSReferenceIdeal.nD Cert.MixSReferenceIdeal.τ).loc Cert.MixSReferenceIdeal.main_arg1) = m ((c.tc : Thread Cert.MixSReferenceIdeal.nD Cert.MixSReferenceIdeal.τ).loc Cert.MixSReferenceIdeal.main_arg1)
      ∧ r.2.mem ((c.tc : Thread Cert.MixSReferenceIdeal.nD Cert.MixSReferenceIdeal.τ).loc Cert.MixSReferenceIdeal.main_arg2) = m ((c.tc : Thread Cert.MixSReferenceIdeal.nD Cert.MixSReferenceIdeal.τ).loc Cert.MixSReferenceIdeal.main_arg2)
      ∧ r.2.mem ((c.tc : Thread Cert.MixSReferenceIdeal.nD Cert.MixSReferenceIdeal.τ).loc Cert.MixSReferenceIdeal.main_arg3) = m ((c.tc : Thread Cert.MixSReferenceIdeal.nD Cert.MixSReferenceIdeal.τ).loc Cert.MixSReferenceIdeal.main_arg3)
      ∧ r.2.mem ((c.tc : Thread Cert.MixSReferenceIdeal.nD Cert.MixSReferenceIdeal.τ).loc Cert.MixSReferenceIdeal.main_arg4) = m ((c.tc : Thread Cert.MixSReferenceIdeal.nD Cert.MixSReferenceIdeal.τ).loc Cert.MixSReferenceIdeal.main_arg4)
      ∧ r.2.mem ((c.tc : Thread Cert.MixSReferenceIdeal.nD Cert.MixSReferenceIdeal.τ).loc Cert.MixSReferenceIdeal.main_arg5) = m ((c.tc : Thread Cert.MixSReferenceIdeal.nD Cert.MixSReferenceIdeal.τ).loc Cert.MixSReferenceIdeal.main_arg5))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6)
      ∧ r.2.mem ((c.tc : Thread Cert.FfnS.nD Cert.FfnS.τ).loc Cert.FfnS.main_arg7) = m ((c.tc : Thread Cert.FfnS.nD Cert.FfnS.τ).loc Cert.FfnS.main_arg7))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
      ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7))
      ∧ r.2.sem = fun _ => 0)

def quiescent_FfnSReferenceIdeal [hFfnSReferenceIdeal : Cert.FfnSReferenceIdeal.Facts] : Prop :=
  ∀ (m : (ℓ : Loc Cert.FfnSReferenceIdeal.nD Cert.FfnSReferenceIdeal.τ Cert.FfnSReferenceIdeal.sig) → Buf (Elt Ideal) ℓ) (g : Dev Cert.FfnSReferenceIdeal.nD → PrngReg), Pre_FfnSReferenceIdeal m →
    θ_run (Cert.FfnSReferenceIdeal.defs (F := Ideal)) (onTc (τ := Cert.FfnSReferenceIdeal.τ) (Cert.FfnSReferenceIdeal.main (F := Ideal))) ⟨m, fun _ => 0, g⟩ (fun r => (∀ c : Dev Cert.FfnSReferenceIdeal.nD,
      r.2.mem ((c.tc : Thread Cert.FfnSReferenceIdeal.nD Cert.FfnSReferenceIdeal.τ).loc Cert.FfnSReferenceIdeal.main_arg0) = m ((c.tc : Thread Cert.FfnSReferenceIdeal.nD Cert.FfnSReferenceIdeal.τ).loc Cert.FfnSReferenceIdeal.main_arg0)
      ∧ r.2.mem ((c.tc : Thread Cert.FfnSReferenceIdeal.nD Cert.FfnSReferenceIdeal.τ).loc Cert.FfnSReferenceIdeal.main_arg1) = m ((c.tc : Thread Cert.FfnSReferenceIdeal.nD Cert.FfnSReferenceIdeal.τ).loc Cert.FfnSReferenceIdeal.main_arg1)
      ∧ r.2.mem ((c.tc : Thread Cert.FfnSReferenceIdeal.nD Cert.FfnSReferenceIdeal.τ).loc Cert.FfnSReferenceIdeal.main_arg2) = m ((c.tc : Thread Cert.FfnSReferenceIdeal.nD Cert.FfnSReferenceIdeal.τ).loc Cert.FfnSReferenceIdeal.main_arg2)
      ∧ r.2.mem ((c.tc : Thread Cert.FfnSReferenceIdeal.nD Cert.FfnSReferenceIdeal.τ).loc Cert.FfnSReferenceIdeal.main_arg3) = m ((c.tc : Thread Cert.FfnSReferenceIdeal.nD Cert.FfnSReferenceIdeal.τ).loc Cert.FfnSReferenceIdeal.main_arg3)
      ∧ r.2.mem ((c.tc : Thread Cert.FfnSReferenceIdeal.nD Cert.FfnSReferenceIdeal.τ).loc Cert.FfnSReferenceIdeal.main_arg4) = m ((c.tc : Thread Cert.FfnSReferenceIdeal.nD Cert.FfnSReferenceIdeal.τ).loc Cert.FfnSReferenceIdeal.main_arg4)
      ∧ r.2.mem ((c.tc : Thread Cert.FfnSReferenceIdeal.nD Cert.FfnSReferenceIdeal.τ).loc Cert.FfnSReferenceIdeal.main_arg5) = m ((c.tc : Thread Cert.FfnSReferenceIdeal.nD Cert.FfnSReferenceIdeal.τ).loc Cert.FfnSReferenceIdeal.main_arg5)
      ∧ r.2.mem ((c.tc : Thread Cert.FfnSReferenceIdeal.nD Cert.FfnSReferenceIdeal.τ).loc Cert.FfnSReferenceIdeal.main_arg6) = m ((c.tc : Thread Cert.FfnSReferenceIdeal.nD Cert.FfnSReferenceIdeal.τ).loc Cert.FfnSReferenceIdeal.main_arg6)
      ∧ r.2.mem ((c.tc : Thread Cert.FfnSReferenceIdeal.nD Cert.FfnSReferenceIdeal.τ).loc Cert.FfnSReferenceIdeal.main_arg7) = m ((c.tc : Thread Cert.FfnSReferenceIdeal.nD Cert.FfnSReferenceIdeal.τ).loc Cert.FfnSReferenceIdeal.main_arg7))
      ∧ r.2.sem = fun _ => 0)

def preserves_Kernel_KernelIdeal : Prop :=
  IdealRules.named_const.Statement Cert.KernelIdeal.κ "mask" .f32 0xF1800000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v9_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v9_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v70) = v0 c
          ∧ r.2.mem ((c.tc : Thread Cert.FfnReferenceIdeal.nD Cert.FfnReferenceIdeal.τ).loc Cert.FfnReferenceIdeal.main_v72) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v30_0)) (v1 : (c : Dev Cert.ProjIdeal.nD) → Buf (Elt Ideal) ((c.tc : Thread Cert.ProjIdeal.nD Cert.ProjIdeal.τ).loc Cert.ProjIdeal.main_v30_1)) (v2 : (c : Dev Cert.ProjIdeal.nD) → Buf (Elt Ideal) ((c.tc : Thread Cert.ProjIdeal.nD Cert.ProjIdeal.τ).loc Cert.ProjIdeal.main_v30_2)) (v3 : (c : Dev Cert.ProjIdeal.nD) → Buf (Elt Ideal) ((c.tc : Thread Cert.ProjIdeal.nD Cert.ProjIdeal.τ).loc Cert.ProjIdeal.main_v30_3)) (v4 : (c : Dev Cert.ProjIdeal.nD) → Buf (Elt Ideal) ((c.tc : Thread Cert.ProjIdeal.nD Cert.ProjIdeal.τ).loc Cert.ProjIdeal.main_v30_4)) (v5 : (c : Dev Cert.ProjIdeal.nD) → Buf (Elt Ideal) ((c.tc : Thread Cert.ProjIdeal.nD Cert.ProjIdeal.τ).loc Cert.ProjIdeal.main_v30_5)) (v6 : (c : Dev Cert.ProjIdeal.nD) → Buf (Elt Ideal) ((c.tc : Thread Cert.ProjIdeal.nD Cert.ProjIdeal.τ).loc Cert.ProjIdeal.main_v30_6)) (v7 : (c : Dev Cert.ProjIdeal.nD) → Buf (Elt Ideal) ((c.tc : Thread Cert.ProjIdeal.nD Cert.ProjIdeal.τ).loc Cert.ProjIdeal.main_v30_7)) (v8 : (c : Dev Cert.ProjIdeal.nD) → Buf (Elt Ideal) ((c.tc : Thread Cert.ProjIdeal.nD Cert.ProjIdeal.τ).loc Cert.ProjIdeal.main_v30_8)) (v9 : (c : Dev Cert.ProjIdeal.nD) → Buf (Elt Ideal) ((c.tc : Thread Cert.ProjIdeal.nD Cert.ProjIdeal.τ).loc Cert.ProjIdeal.main_v30_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v30_0) = v0 c
          ∧ r.2.mem ((c.tc : Thread Cert.ProjIdeal.nD Cert.ProjIdeal.τ).loc Cert.ProjIdeal.main_v30_1) = v1 c
          ∧ r.2.mem ((c.tc : Thread Cert.ProjIdeal.nD Cert.ProjIdeal.τ).loc Cert.ProjIdeal.main_v30_2) = v2 c
          ∧ r.2.mem ((c.tc : Thread Cert.ProjIdeal.nD Cert.ProjIdeal.τ).loc Cert.ProjIdeal.main_v30_3) = v3 c
          ∧ r.2.mem ((c.tc : Thread Cert.ProjIdeal.nD Cert.ProjIdeal.τ).loc Cert.ProjIdeal.main_v30_4) = v4 c
          ∧ r.2.mem ((c.tc : Thread Cert.ProjIdeal.nD Cert.ProjIdeal.τ).loc Cert.ProjIdeal.main_v30_5) = v5 c
          ∧ r.2.mem ((c.tc : Thread Cert.ProjIdeal.nD Cert.ProjIdeal.τ).loc Cert.ProjIdeal.main_v30_6) = v6 c
          ∧ r.2.mem ((c.tc : Thread Cert.ProjIdeal.nD Cert.ProjIdeal.τ).loc Cert.ProjIdeal.main_v30_7) = v7 c
          ∧ r.2.mem ((c.tc : Thread Cert.ProjIdeal.nD Cert.ProjIdeal.τ).loc Cert.ProjIdeal.main_v30_8) = v8 c
          ∧ r.2.mem ((c.tc : Thread Cert.ProjIdeal.nD Cert.ProjIdeal.τ).loc Cert.ProjIdeal.main_v30_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v45) = v0 c
          ∧ r.2.mem ((c.tc : Thread Cert.ProjReferenceIdeal.nD Cert.ProjReferenceIdeal.τ).loc Cert.ProjReferenceIdeal.main_v47) = v1 c
          ∧ r.2.mem ((c.tc : Thread Cert.ProjReferenceIdeal.nD Cert.ProjReferenceIdeal.τ).loc Cert.ProjReferenceIdeal.main_v49) = v2 c
          ∧ r.2.mem ((c.tc : Thread Cert.ProjReferenceIdeal.nD Cert.ProjReferenceIdeal.τ).loc Cert.ProjReferenceIdeal.main_v52) = v3 c
          ∧ r.2.mem ((c.tc : Thread Cert.ProjReferenceIdeal.nD Cert.ProjReferenceIdeal.τ).loc Cert.ProjReferenceIdeal.main_v55) = v4 c
          ∧ r.2.mem ((c.tc : Thread Cert.ProjReferenceIdeal.nD Cert.ProjReferenceIdeal.τ).loc Cert.ProjReferenceIdeal.main_v58) = v5 c
          ∧ r.2.mem ((c.tc : Thread Cert.ProjReferenceIdeal.nD Cert.ProjReferenceIdeal.τ).loc Cert.ProjReferenceIdeal.main_v62) = v6 c
          ∧ r.2.mem ((c.tc : Thread Cert.ProjReferenceIdeal.nD Cert.ProjReferenceIdeal.τ).loc Cert.ProjReferenceIdeal.main_v63) = v7 c
          ∧ r.2.mem ((c.tc : Thread Cert.ProjReferenceIdeal.nD Cert.ProjReferenceIdeal.τ).loc Cert.ProjReferenceIdeal.main_v65) = v8 c
          ∧ r.2.mem ((c.tc : Thread Cert.ProjReferenceIdeal.nD Cert.ProjReferenceIdeal.τ).loc Cert.ProjReferenceIdeal.main_v41) = v9 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v22)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v22) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v47) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_ProjS_ProjSIdeal : Prop :=
  True

def algebraic_ProjSIdeal_ProjSReferenceIdeal [hProjSIdeal : Cert.ProjSIdeal.Facts] [hProjSReferenceIdeal : Cert.ProjSReferenceIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSReferenceIdeal.nD Cert.ProjSReferenceIdeal.τ Cert.ProjSReferenceIdeal.sig) → Buf (Elt Ideal) ℓ) (g' : Dev Cert.ProjSReferenceIdeal.nD → PrngReg), Pre_ProjSIdeal m →
    (∀ c : Dev Cert.ProjSIdeal.nD,
      m' ((c.tc : Thread Cert.ProjSReferenceIdeal.nD Cert.ProjSReferenceIdeal.τ).loc Cert.ProjSReferenceIdeal.main_arg0) = m ((c.tc : Thread Cert.ProjSIdeal.nD Cert.ProjSIdeal.τ).loc Cert.ProjSIdeal.main_arg0)
      ∧ m' ((c.tc : Thread Cert.ProjSReferenceIdeal.nD Cert.ProjSReferenceIdeal.τ).loc Cert.ProjSReferenceIdeal.main_arg1) = m ((c.tc : Thread Cert.ProjSIdeal.nD Cert.ProjSIdeal.τ).loc Cert.ProjSIdeal.main_arg1)
      ∧ m' ((c.tc : Thread Cert.ProjSReferenceIdeal.nD Cert.ProjSReferenceIdeal.τ).loc Cert.ProjSReferenceIdeal.main_arg2) = m ((c.tc : Thread Cert.ProjSIdeal.nD Cert.ProjSIdeal.τ).loc Cert.ProjSIdeal.main_arg2)
      ∧ m' ((c.tc : Thread Cert.ProjSReferenceIdeal.nD Cert.ProjSReferenceIdeal.τ).loc Cert.ProjSReferenceIdeal.main_arg3) = m ((c.tc : Thread Cert.ProjSIdeal.nD Cert.ProjSIdeal.τ).loc Cert.ProjSIdeal.main_arg3)
      ∧ m' ((c.tc : Thread Cert.ProjSReferenceIdeal.nD Cert.ProjSReferenceIdeal.τ).loc Cert.ProjSReferenceIdeal.main_arg4) = m ((c.tc : Thread Cert.ProjSIdeal.nD Cert.ProjSIdeal.τ).loc Cert.ProjSIdeal.main_arg4)
      ∧ m' ((c.tc : Thread Cert.ProjSReferenceIdeal.nD Cert.ProjSReferenceIdeal.τ).loc Cert.ProjSReferenceIdeal.main_arg5) = m ((c.tc : Thread Cert.ProjSIdeal.nD Cert.ProjSIdeal.τ).loc Cert.ProjSIdeal.main_arg5)) →
    ∃ (v0 : (c : Dev Cert.ProjSIdeal.nD) → Buf (Elt Ideal) ((c.tc : Thread Cert.ProjSIdeal.nD Cert.ProjSIdeal.τ).loc Cert.ProjSIdeal.main_v39)) (v1 : (c : Dev Cert.ProjSIdeal.nD) → Buf (Elt Ideal) ((c.tc : Thread Cert.ProjSIdeal.nD Cert.ProjSIdeal.τ).loc Cert.ProjSIdeal.main_v41)) (v2 : (c : Dev Cert.ProjSIdeal.nD) → Buf (Elt Ideal) ((c.tc : Thread Cert.ProjSIdeal.nD Cert.ProjSIdeal.τ).loc Cert.ProjSIdeal.main_v35)) (v3 : (c : Dev Cert.ProjSIdeal.nD) → Buf (Elt Ideal) ((c.tc : Thread Cert.ProjSIdeal.nD Cert.ProjSIdeal.τ).loc Cert.ProjSIdeal.main_v43)) (v4 : (c : Dev Cert.ProjSIdeal.nD) → Buf (Elt Ideal) ((c.tc : Thread Cert.ProjSIdeal.nD Cert.ProjSIdeal.τ).loc Cert.ProjSIdeal.main_v45)) (v5 : (c : Dev Cert.ProjSIdeal.nD) → Buf (Elt Ideal) ((c.tc : Thread Cert.ProjSIdeal.nD Cert.ProjSIdeal.τ).loc Cert.ProjSIdeal.main_v47)) (v6 : (c : Dev Cert.ProjSIdeal.nD) → Buf (Elt Ideal) ((c.tc : Thread Cert.ProjSIdeal.nD Cert.ProjSIdeal.τ).loc Cert.ProjSIdeal.main_v49)) (v7 : (c : Dev Cert.ProjSIdeal.nD) → Buf (Elt Ideal) ((c.tc : Thread Cert.ProjSIdeal.nD Cert.ProjSIdeal.τ).loc Cert.ProjSIdeal.main_v51)) (v8 : (c : Dev Cert.ProjSIdeal.nD) → Buf (Elt Ideal) ((c.tc : Thread Cert.ProjSIdeal.nD Cert.ProjSIdeal.τ).loc Cert.ProjSIdeal.main_v52)) (v9 : (c : Dev Cert.ProjSIdeal.nD) → Buf (Elt Ideal) ((c.tc : Thread Cert.ProjSIdeal.nD Cert.ProjSIdeal.τ).loc Cert.ProjSIdeal.main_v53)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v39) = v0 c
          ∧ r.2.mem ((c.tc : Thread Cert.ProjSIdeal.nD Cert.ProjSIdeal.τ).loc Cert.ProjSIdeal.main_v41) = v1 c
          ∧ r.2.mem ((c.tc : Thread Cert.ProjSIdeal.nD Cert.ProjSIdeal.τ).loc Cert.ProjSIdeal.main_v35) = v2 c
          ∧ r.2.mem ((c.tc : Thread Cert.ProjSIdeal.nD Cert.ProjSIdeal.τ).loc Cert.ProjSIdeal.main_v43) = v3 c
          ∧ r.2.mem ((c.tc : Thread Cert.ProjSIdeal.nD Cert.ProjSIdeal.τ).loc Cert.ProjSIdeal.main_v45) = v4 c
          ∧ r.2.mem ((c.tc : Thread Cert.ProjSIdeal.nD Cert.ProjSIdeal.τ).loc Cert.ProjSIdeal.main_v47) = v5 c
          ∧ r.2.mem ((c.tc : Thread Cert.ProjSIdeal.nD Cert.ProjSIdeal.τ).loc Cert.ProjSIdeal.main_v49) = v6 c
          ∧ r.2.mem ((c.tc : Thread Cert.ProjSIdeal.nD Cert.ProjSIdeal.τ).loc Cert.ProjSIdeal.main_v51) = v7 c
          ∧ r.2.mem ((c.tc : Thread Cert.ProjSIdeal.nD Cert.ProjSIdeal.τ).loc Cert.ProjSIdeal.main_v52) = v8 c
          ∧ r.2.mem ((c.tc : Thread Cert.ProjSIdeal.nD Cert.ProjSIdeal.τ).loc Cert.ProjSIdeal.main_v53) = v9 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
          ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5))
      ∧ θ_run (Cert.ProjSReferenceIdeal.defs (F := Ideal)) (onTc (τ := Cert.ProjSReferenceIdeal.τ) (Cert.ProjSReferenceIdeal.main (F := Ideal))) ⟨m', fun _ => 0, g'⟩ (fun r => ∀ c : Dev Cert.ProjSReferenceIdeal.nD,
          r.2.mem ((c.tc : Thread Cert.ProjSReferenceIdeal.nD Cert.ProjSReferenceIdeal.τ).loc Cert.ProjSReferenceIdeal.main_v44) = v0 c
          ∧ r.2.mem ((c.tc : Thread Cert.ProjSReferenceIdeal.nD Cert.ProjSReferenceIdeal.τ).loc Cert.ProjSReferenceIdeal.main_v45) = v1 c
          ∧ r.2.mem ((c.tc : Thread Cert.ProjSReferenceIdeal.nD Cert.ProjSReferenceIdeal.τ).loc Cert.ProjSReferenceIdeal.main_v46) = v2 c
          ∧ r.2.mem ((c.tc : Thread Cert.ProjSReferenceIdeal.nD Cert.ProjSReferenceIdeal.τ).loc Cert.ProjSReferenceIdeal.main_v48) = v3 c
          ∧ r.2.mem ((c.tc : Thread Cert.ProjSReferenceIdeal.nD Cert.ProjSReferenceIdeal.τ).loc Cert.ProjSReferenceIdeal.main_v50) = v4 c
          ∧ r.2.mem ((c.tc : Thread Cert.ProjSReferenceIdeal.nD Cert.ProjSReferenceIdeal.τ).loc Cert.ProjSReferenceIdeal.main_v53) = v5 c
          ∧ r.2.mem ((c.tc : Thread Cert.ProjSReferenceIdeal.nD Cert.ProjSReferenceIdeal.τ).loc Cert.ProjSReferenceIdeal.main_v18) = v6 c
          ∧ r.2.mem ((c.tc : Thread Cert.ProjSReferenceIdeal.nD Cert.ProjSReferenceIdeal.τ).loc Cert.ProjSReferenceIdeal.main_v54) = v7 c
          ∧ r.2.mem ((c.tc : Thread Cert.ProjSReferenceIdeal.nD Cert.ProjSReferenceIdeal.τ).loc Cert.ProjSReferenceIdeal.main_v38) = v8 c
          ∧ r.2.mem ((c.tc : Thread Cert.ProjSReferenceIdeal.nD Cert.ProjSReferenceIdeal.τ).loc Cert.ProjSReferenceIdeal.main_v33) = v9 c
          ∧ r.2.mem ((c.tc : Thread Cert.ProjSReferenceIdeal.nD Cert.ProjSReferenceIdeal.τ).loc Cert.ProjSReferenceIdeal.main_arg0) = m' ((c.tc : Thread Cert.ProjSReferenceIdeal.nD Cert.ProjSReferenceIdeal.τ).loc Cert.ProjSReferenceIdeal.main_arg0)
          ∧ r.2.mem ((c.tc : Thread Cert.ProjSReferenceIdeal.nD Cert.ProjSReferenceIdeal.τ).loc Cert.ProjSReferenceIdeal.main_arg1) = m' ((c.tc : Thread Cert.ProjSReferenceIdeal.nD Cert.ProjSReferenceIdeal.τ).loc Cert.ProjSReferenceIdeal.main_arg1)
          ∧ r.2.mem ((c.tc : Thread Cert.ProjSReferenceIdeal.nD Cert.ProjSReferenceIdeal.τ).loc Cert.ProjSReferenceIdeal.main_arg2) = m' ((c.tc : Thread Cert.ProjSReferenceIdeal.nD Cert.ProjSReferenceIdeal.τ).loc Cert.ProjSReferenceIdeal.main_arg2)
          ∧ r.2.mem ((c.tc : Thread Cert.ProjSReferenceIdeal.nD Cert.ProjSReferenceIdeal.τ).loc Cert.ProjSReferenceIdeal.main_arg3) = m' ((c.tc : Thread Cert.ProjSReferenceIdeal.nD Cert.ProjSReferenceIdeal.τ).loc Cert.ProjSReferenceIdeal.main_arg3)
          ∧ r.2.mem ((c.tc : Thread Cert.ProjSReferenceIdeal.nD Cert.ProjSReferenceIdeal.τ).loc Cert.ProjSReferenceIdeal.main_arg4) = m' ((c.tc : Thread Cert.ProjSReferenceIdeal.nD Cert.ProjSReferenceIdeal.τ).loc Cert.ProjSReferenceIdeal.main_arg4)
          ∧ r.2.mem ((c.tc : Thread Cert.ProjSReferenceIdeal.nD Cert.ProjSReferenceIdeal.τ).loc Cert.ProjSReferenceIdeal.main_arg5) = m' ((c.tc : Thread Cert.ProjSReferenceIdeal.nD Cert.ProjSReferenceIdeal.τ).loc Cert.ProjSReferenceIdeal.main_arg5))

def preserves_MixS_MixSIdeal : Prop :=
  True

def algebraic_MixSIdeal_MixSReferenceIdeal [hMixSIdeal : Cert.MixSIdeal.Facts] [hMixSReferenceIdeal : Cert.MixSReferenceIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSReferenceIdeal.nD Cert.MixSReferenceIdeal.τ Cert.MixSReferenceIdeal.sig) → Buf (Elt Ideal) ℓ) (g' : Dev Cert.MixSReferenceIdeal.nD → PrngReg), Pre_MixSIdeal m →
    (∀ c : Dev Cert.MixSIdeal.nD,
      m' ((c.tc : Thread Cert.MixSReferenceIdeal.nD Cert.MixSReferenceIdeal.τ).loc Cert.MixSReferenceIdeal.main_arg0) = m ((c.tc : Thread Cert.MixSIdeal.nD Cert.MixSIdeal.τ).loc Cert.MixSIdeal.main_arg0)
      ∧ m' ((c.tc : Thread Cert.MixSReferenceIdeal.nD Cert.MixSReferenceIdeal.τ).loc Cert.MixSReferenceIdeal.main_arg1) = m ((c.tc : Thread Cert.MixSIdeal.nD Cert.MixSIdeal.τ).loc Cert.MixSIdeal.main_arg1)
      ∧ m' ((c.tc : Thread Cert.MixSReferenceIdeal.nD Cert.MixSReferenceIdeal.τ).loc Cert.MixSReferenceIdeal.main_arg2) = m ((c.tc : Thread Cert.MixSIdeal.nD Cert.MixSIdeal.τ).loc Cert.MixSIdeal.main_arg2)
      ∧ m' ((c.tc : Thread Cert.MixSReferenceIdeal.nD Cert.MixSReferenceIdeal.τ).loc Cert.MixSReferenceIdeal.main_arg3) = m ((c.tc : Thread Cert.MixSIdeal.nD Cert.MixSIdeal.τ).loc Cert.MixSIdeal.main_arg3)
      ∧ m' ((c.tc : Thread Cert.MixSReferenceIdeal.nD Cert.MixSReferenceIdeal.τ).loc Cert.MixSReferenceIdeal.main_arg4) = m ((c.tc : Thread Cert.MixSIdeal.nD Cert.MixSIdeal.τ).loc Cert.MixSIdeal.main_arg4)
      ∧ m' ((c.tc : Thread Cert.MixSReferenceIdeal.nD Cert.MixSReferenceIdeal.τ).loc Cert.MixSReferenceIdeal.main_arg5) = m ((c.tc : Thread Cert.MixSIdeal.nD Cert.MixSIdeal.τ).loc Cert.MixSIdeal.main_arg5)) →
    ∃ (v0 : (c : Dev Cert.MixSIdeal.nD) → Buf (Elt Ideal) ((c.tc : Thread Cert.MixSIdeal.nD Cert.MixSIdeal.τ).loc Cert.MixSIdeal.main_v22)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v22) = v0 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5))
      ∧ θ_run (Cert.MixSReferenceIdeal.defs (F := Ideal)) (onTc (τ := Cert.MixSReferenceIdeal.τ) (Cert.MixSReferenceIdeal.main (F := Ideal))) ⟨m', fun _ => 0, g'⟩ (fun r => ∀ c : Dev Cert.MixSReferenceIdeal.nD,
          r.2.mem ((c.tc : Thread Cert.MixSReferenceIdeal.nD Cert.MixSReferenceIdeal.τ).loc Cert.MixSReferenceIdeal.main_v47) = v0 c
          ∧ r.2.mem ((c.tc : Thread Cert.MixSReferenceIdeal.nD Cert.MixSReferenceIdeal.τ).loc Cert.MixSReferenceIdeal.main_arg0) = m' ((c.tc : Thread Cert.MixSReferenceIdeal.nD Cert.MixSReferenceIdeal.τ).loc Cert.MixSReferenceIdeal.main_arg0)
          ∧ r.2.mem ((c.tc : Thread Cert.MixSReferenceIdeal.nD Cert.MixSReferenceIdeal.τ).loc Cert.MixSReferenceIdeal.main_arg1) = m' ((c.tc : Thread Cert.MixSReferenceIdeal.nD Cert.MixSReferenceIdeal.τ).loc Cert.MixSReferenceIdeal.main_arg1)
          ∧ r.2.mem ((c.tc : Thread Cert.MixSReferenceIdeal.nD Cert.MixSReferenceIdeal.τ).loc Cert.MixSReferenceIdeal.main_arg2) = m' ((c.tc : Thread Cert.MixSReferenceIdeal.nD Cert.MixSReferenceIdeal.τ).loc Cert.MixSReferenceIdeal.main_arg2)
          ∧ r.2.mem ((c.tc : Thread Cert.MixSReferenceIdeal.nD Cert.MixSReferenceIdeal.τ).loc Cert.MixSReferenceIdeal.main_arg3) = m' ((c.tc : Thread Cert.MixSReferenceIdeal.nD Cert.MixSReferenceIdeal.τ).loc Cert.MixSReferenceIdeal.main_arg3)
          ∧ r.2.mem ((c.tc : Thread Cert.MixSReferenceIdeal.nD Cert.MixSReferenceIdeal.τ).loc Cert.MixSReferenceIdeal.main_arg4) = m' ((c.tc : Thread Cert.MixSReferenceIdeal.nD Cert.MixSReferenceIdeal.τ).loc Cert.MixSReferenceIdeal.main_arg4)
          ∧ r.2.mem ((c.tc : Thread Cert.MixSReferenceIdeal.nD Cert.MixSReferenceIdeal.τ).loc Cert.MixSReferenceIdeal.main_arg5) = m' ((c.tc : Thread Cert.MixSReferenceIdeal.nD Cert.MixSReferenceIdeal.τ).loc Cert.MixSReferenceIdeal.main_arg5))

def preserves_FfnS_FfnSIdeal : Prop :=
  True

def algebraic_FfnSIdeal_FfnSReferenceIdeal [hFfnSIdeal : Cert.FfnSIdeal.Facts] [hFfnSReferenceIdeal : Cert.FfnSReferenceIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSReferenceIdeal.nD Cert.FfnSReferenceIdeal.τ Cert.FfnSReferenceIdeal.sig) → Buf (Elt Ideal) ℓ) (g' : Dev Cert.FfnSReferenceIdeal.nD → PrngReg), Pre_FfnSIdeal m →
    (∀ c : Dev Cert.FfnSIdeal.nD,
      m' ((c.tc : Thread Cert.FfnSReferenceIdeal.nD Cert.FfnSReferenceIdeal.τ).loc Cert.FfnSReferenceIdeal.main_arg0) = m ((c.tc : Thread Cert.FfnSIdeal.nD Cert.FfnSIdeal.τ).loc Cert.FfnSIdeal.main_arg0)
      ∧ m' ((c.tc : Thread Cert.FfnSReferenceIdeal.nD Cert.FfnSReferenceIdeal.τ).loc Cert.FfnSReferenceIdeal.main_arg1) = m ((c.tc : Thread Cert.FfnSIdeal.nD Cert.FfnSIdeal.τ).loc Cert.FfnSIdeal.main_arg1)
      ∧ m' ((c.tc : Thread Cert.FfnSReferenceIdeal.nD Cert.FfnSReferenceIdeal.τ).loc Cert.FfnSReferenceIdeal.main_arg2) = m ((c.tc : Thread Cert.FfnSIdeal.nD Cert.FfnSIdeal.τ).loc Cert.FfnSIdeal.main_arg2)
      ∧ m' ((c.tc : Thread Cert.FfnSReferenceIdeal.nD Cert.FfnSReferenceIdeal.τ).loc Cert.FfnSReferenceIdeal.main_arg3) = m ((c.tc : Thread Cert.FfnSIdeal.nD Cert.FfnSIdeal.τ).loc Cert.FfnSIdeal.main_arg3)
      ∧ m' ((c.tc : Thread Cert.FfnSReferenceIdeal.nD Cert.FfnSReferenceIdeal.τ).loc Cert.FfnSReferenceIdeal.main_arg4) = m ((c.tc : Thread Cert.FfnSIdeal.nD Cert.FfnSIdeal.τ).loc Cert.FfnSIdeal.main_arg4)
      ∧ m' ((c.tc : Thread Cert.FfnSReferenceIdeal.nD Cert.FfnSReferenceIdeal.τ).loc Cert.FfnSReferenceIdeal.main_arg5) = m ((c.tc : Thread Cert.FfnSIdeal.nD Cert.FfnSIdeal.τ).loc Cert.FfnSIdeal.main_arg5)
      ∧ m' ((c.tc : Thread Cert.FfnSReferenceIdeal.nD Cert.FfnSReferenceIdeal.τ).loc Cert.FfnSReferenceIdeal.main_arg6) = m ((c.tc : Thread Cert.FfnSIdeal.nD Cert.FfnSIdeal.τ).loc Cert.FfnSIdeal.main_arg6)
      ∧ m' ((c.tc : Thread Cert.FfnSReferenceIdeal.nD Cert.FfnSReferenceIdeal.τ).loc Cert.FfnSReferenceIdeal.main_arg7) = m ((c.tc : Thread Cert.FfnSIdeal.nD Cert.FfnSIdeal.τ).loc Cert.FfnSIdeal.main_arg7)) →
    ∃ (v0 : (c : Dev Cert.FfnSIdeal.nD) → Buf (Elt Ideal) ((c.tc : Thread Cert.FfnSIdeal.nD Cert.FfnSIdeal.τ).loc Cert.FfnSIdeal.main_v20)) (v1 : (c : Dev Cert.FfnSIdeal.nD) → Buf (Elt Ideal) ((c.tc : Thread Cert.FfnSIdeal.nD Cert.FfnSIdeal.τ).loc Cert.FfnSIdeal.main_v21)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v20) = v0 c
          ∧ r.2.mem ((c.tc : Thread Cert.FfnSIdeal.nD Cert.FfnSIdeal.τ).loc Cert.FfnSIdeal.main_v21) = v1 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
          ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7))
      ∧ θ_run (Cert.FfnSReferenceIdeal.defs (F := Ideal)) (onTc (τ := Cert.FfnSReferenceIdeal.τ) (Cert.FfnSReferenceIdeal.main (F := Ideal))) ⟨m', fun _ => 0, g'⟩ (fun r => ∀ c : Dev Cert.FfnSReferenceIdeal.nD,
          r.2.mem ((c.tc : Thread Cert.FfnSReferenceIdeal.nD Cert.FfnSReferenceIdeal.τ).loc Cert.FfnSReferenceIdeal.main_v69) = v0 c
          ∧ r.2.mem ((c.tc : Thread Cert.FfnSReferenceIdeal.nD Cert.FfnSReferenceIdeal.τ).loc Cert.FfnSReferenceIdeal.main_v71) = v1 c
          ∧ r.2.mem ((c.tc : Thread Cert.FfnSReferenceIdeal.nD Cert.FfnSReferenceIdeal.τ).loc Cert.FfnSReferenceIdeal.main_arg0) = m' ((c.tc : Thread Cert.FfnSReferenceIdeal.nD Cert.FfnSReferenceIdeal.τ).loc Cert.FfnSReferenceIdeal.main_arg0)
          ∧ r.2.mem ((c.tc : Thread Cert.FfnSReferenceIdeal.nD Cert.FfnSReferenceIdeal.τ).loc Cert.FfnSReferenceIdeal.main_arg1) = m' ((c.tc : Thread Cert.FfnSReferenceIdeal.nD Cert.FfnSReferenceIdeal.τ).loc Cert.FfnSReferenceIdeal.main_arg1)
          ∧ r.2.mem ((c.tc : Thread Cert.FfnSReferenceIdeal.nD Cert.FfnSReferenceIdeal.τ).loc Cert.FfnSReferenceIdeal.main_arg2) = m' ((c.tc : Thread Cert.FfnSReferenceIdeal.nD Cert.FfnSReferenceIdeal.τ).loc Cert.FfnSReferenceIdeal.main_arg2)
          ∧ r.2.mem ((c.tc : Thread Cert.FfnSReferenceIdeal.nD Cert.FfnSReferenceIdeal.τ).loc Cert.FfnSReferenceIdeal.main_arg3) = m' ((c.tc : Thread Cert.FfnSReferenceIdeal.nD Cert.FfnSReferenceIdeal.τ).loc Cert.FfnSReferenceIdeal.main_arg3)
          ∧ r.2.mem ((c.tc : Thread Cert.FfnSReferenceIdeal.nD Cert.FfnSReferenceIdeal.τ).loc Cert.FfnSReferenceIdeal.main_arg4) = m' ((c.tc : Thread Cert.FfnSReferenceIdeal.nD Cert.FfnSReferenceIdeal.τ).loc Cert.FfnSReferenceIdeal.main_arg4)
          ∧ r.2.mem ((c.tc : Thread Cert.FfnSReferenceIdeal.nD Cert.FfnSReferenceIdeal.τ).loc Cert.FfnSReferenceIdeal.main_arg5) = m' ((c.tc : Thread Cert.FfnSReferenceIdeal.nD Cert.FfnSReferenceIdeal.τ).loc Cert.FfnSReferenceIdeal.main_arg5)
          ∧ r.2.mem ((c.tc : Thread Cert.FfnSReferenceIdeal.nD Cert.FfnSReferenceIdeal.τ).loc Cert.FfnSReferenceIdeal.main_arg6) = m' ((c.tc : Thread Cert.FfnSReferenceIdeal.nD Cert.FfnSReferenceIdeal.τ).loc Cert.FfnSReferenceIdeal.main_arg6)
          ∧ r.2.mem ((c.tc : Thread Cert.FfnSReferenceIdeal.nD Cert.FfnSReferenceIdeal.τ).loc Cert.FfnSReferenceIdeal.main_arg7) = m' ((c.tc : Thread Cert.FfnSReferenceIdeal.nD Cert.FfnSReferenceIdeal.τ).loc Cert.FfnSReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts) (hMix : Cert.Mix.Facts) (hMixIdeal : Cert.MixIdeal.Facts) (hMixReferenceIdeal : Cert.MixReferenceIdeal.Facts) (hProjS : Cert.ProjS.Facts) (hProjSIdeal : Cert.ProjSIdeal.Facts) (hProjSReferenceIdeal : Cert.ProjSReferenceIdeal.Facts) (hMixS : Cert.MixS.Facts) (hMixSIdeal : Cert.MixSIdeal.Facts) (hMixSReferenceIdeal : Cert.MixSReferenceIdeal.Facts) (hFfnS : Cert.FfnS.Facts) (hFfnSIdeal : Cert.FfnSIdeal.Facts) (hFfnSReferenceIdeal : Cert.FfnSReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Mix (hMix := hMix)
    ∧ quiescent_MixIdeal (hMixIdeal := hMixIdeal)
    ∧ quiescent_MixReferenceIdeal (hMixReferenceIdeal := hMixReferenceIdeal)
    ∧ quiescent_ProjS (hProjS := hProjS)
    ∧ quiescent_ProjSIdeal (hProjSIdeal := hProjSIdeal)
    ∧ quiescent_ProjSReferenceIdeal (hProjSReferenceIdeal := hProjSReferenceIdeal)
    ∧ quiescent_MixS (hMixS := hMixS)
    ∧ quiescent_MixSIdeal (hMixSIdeal := hMixSIdeal)
    ∧ quiescent_MixSReferenceIdeal (hMixSReferenceIdeal := hMixSReferenceIdeal)
    ∧ quiescent_FfnS (hFfnS := hFfnS)
    ∧ quiescent_FfnSIdeal (hFfnSIdeal := hFfnSIdeal)
    ∧ quiescent_FfnSReferenceIdeal (hFfnSReferenceIdeal := hFfnSReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal (hProjIdeal := hProjIdeal) (hProjReferenceIdeal := hProjReferenceIdeal)
    ∧ preserves_Mix_MixIdeal
    ∧ algebraic_MixIdeal_MixReferenceIdeal (hMixIdeal := hMixIdeal) (hMixReferenceIdeal := hMixReferenceIdeal)
    ∧ preserves_ProjS_ProjSIdeal
    ∧ algebraic_ProjSIdeal_ProjSReferenceIdeal (hProjSIdeal := hProjSIdeal) (hProjSReferenceIdeal := hProjSReferenceIdeal)
    ∧ preserves_MixS_MixSIdeal
    ∧ algebraic_MixSIdeal_MixSReferenceIdeal (hMixSIdeal := hMixSIdeal) (hMixSReferenceIdeal := hMixSReferenceIdeal)
    ∧ preserves_FfnS_FfnSIdeal
    ∧ algebraic_FfnSIdeal_FfnSReferenceIdeal (hFfnSIdeal := hFfnSIdeal) (hFfnSReferenceIdeal := hFfnSReferenceIdeal)
-- ==== Pre_finite.lean ====
abbrev S2x8192x512 : Shape := ⟨3, ![2, 8192, 512]⟩
abbrev S2x8192x1024 : Shape := ⟨3, ![2, 8192, 1024]⟩
abbrev S2x8192x128 : Shape := ⟨3, ![2, 8192, 128]⟩
abbrev S2x8192x32 : Shape := ⟨3, ![2, 8192, 32]⟩
abbrev S2x8192x4x4x2 : Shape := ⟨5, ![2, 8192, 4, 4, 2]⟩
abbrev S2x8192x4x3x2 : Shape := ⟨5, ![2, 8192, 4, 3, 2]⟩
abbrev S_ : Shape := ⟨0, ![]⟩

class Facts : Prop where
  slices_S2x8192x128_S2x8192x32_0_0_0 : S2x8192x128.Slices ![0, 0, 0] S2x8192x32
  shapeCasts_S2x8192x32_S2x8192x4x4x2 : S2x8192x32.ShapeCasts S2x8192x4x4x2
  slices_S2x8192x4x4x2_S2x8192x4x3x2_0_0_0_0_0 : S2x8192x4x4x2.Slices ![0, 0, 0, 0, 0] S2x8192x4x3x2
  bitsLt_bf16_f32 : FTy.bits .bf16 < FTy.bits .f32
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  slices_S2x8192x1024_S2x8192x512_0_0_0 : S2x8192x1024.Slices ![0, 0, 0] S2x8192x512
  bcast_S_S2x8192x4x3x2 : S_.BroadcastsInDim S2x8192x4x3x2 (![] : Fin 0 → Fin S2x8192x4x3x2.rank)
  reducesTo_S2x8192x4x3x2_S_d0_1_2_3_4 : S2x8192x4x3x2.ReducesTo [0, 1, 2, 3, 4] S_

variable [Facts]

def fn_part1 {F : FTy → Type} [FloatOps F] (main_v14 : IVec S_ 1) (main_v18 : IVec S2x8192x4x3x2 1) : IVec S_ 1 :=
  let main_c_3 : IVec S_ 1 := constantI S_ 1 1#1
  let main_v19 : IVec S_ 1 := (fun x v => Host.reduce IntOp.andi x v reducesTo_S2x8192x4x3x2_S_d0_1_2_3_4 h_S_) main_v18 main_c_3
  let main_v20 : IVec S_ 1 := andi main_v14 main_v19
  main_v20

def fn {F : FTy → Type} [FloatOps F] (main_arg0 : FVec F S2x8192x512 .bf16) (main_arg1 : FVec F S2x8192x1024 .bf16) (main_arg2 : FVec F S2x8192x128 .bf16) : IVec S_ 1 :=
  let main_v0 : FVec F S2x8192x32 .bf16 := (extractStridedSlice S2x8192x32 ![0, 0, 0] · slices_S2x8192x128_S2x8192x32_0_0_0) main_arg2
  let main_v1 : FVec F S2x8192x4x4x2 .bf16 := shapeCast S2x8192x4x4x2 main_v0 shapeCasts_S2x8192x32_S2x8192x4x4x2
  let main_v2 : FVec F S2x8192x4x3x2 .bf16 := (extractStridedSlice S2x8192x4x3x2 ![0, 0, 0, 0, 0] · slices_S2x8192x4x4x2_S2x8192x4x3x2_0_0_0_0_0) main_v1
  let main_v3 : FVec F S2x8192x512 .f32 := (extf .f32 · bitsLt_bf16_f32) main_arg0
  let main_v4 : FVec F S2x8192x512 .f32 := Host.absf main_v3
  let main_cst : FVec F S_ .f32 := constant S_ .f32 0x7F800000#32
  let main_v5 : FVec F S2x8192x512 .f32 := broadcastInDim S2x8192x512 ![] bcast_S_S2x8192x512 main_cst
  let main_v6 : IVec S2x8192x512 1 := cmpf .olt main_v4 main_v5
  let main_c : IVec S_ 1 := constantI S_ 1 1#1
  let main_v7 : IVec S_ 1 := (fun x v => Host.reduce IntOp.andi x v reducesTo_S2x8192x512_S_d0_1_2 h_S_) main_v6 main_c
  let main_v8 : FVec F S2x8192x512 .bf16 := (extractStridedSlice S2x8192x512 ![0, 0, 0] · slices_S2x8192x1024_S2x8192x512_0_0_0) main_arg1
  let main_v9 : FVec F S2x8192x512 .f32 := (extf .f32 · bitsLt_bf16_f32) main_v8
  let main_v10 : FVec F S2x8192x512 .f32 := Host.absf main_v9
  let main_cst_0 : FVec F S_ .f32 := constant S_ .f32 0x7F800000#32
  let main_v11 : FVec F S2x8192x512 .f32 := broadcastInDim S2x8192x512 ![] bcast_S_S2x8192x512 main_cst_0
  let main_v12 : IVec S2x8192x512 1 := cmpf .olt main_v10 main_v11
  let main_c_1 : IVec S_ 1 := constantI S_ 1 1#1
  let main_v13 : IVec S_ 1 := (fun x v => Host.reduce IntOp.andi x v reducesTo_S2x8192x512_S_d0_1_2 h_S_) main_v12 main_c_1
  let main_v14 : IVec S_ 1 := andi main_v7 main_v13
  let main_v15 : FVec F S2x8192x4x3x2 .f32 := (extf .f32 · bitsLt_bf16_f32) main_v2
  let main_v16 : FVec F S2x8192x4x3x2 .f32 := Host.absf main_v15
  let main_cst_2 : FVec F S_ .f32 := constant S_ .f32 0x7F800000#32
  let main_v17 : FVec F S2x8192x4x3x2 .f32 := broadcastInDim S2x8192x4x3x2 ![] bcast_S_S2x8192x4x3x2 main_cst_2
  let main_v18 : IVec S2x8192x4x3x2 1 := cmpf .olt main_v16 main_v17
  fn_part1 (F := F) main_v14 main_v18
-- ==== Kernel.lean ====
abbrev S2x8192x512 : Shape := ⟨3, ![2, 8192, 512]⟩
abbrev S2x8192x1024 : Shape := ⟨3, ![2, 8192, 1024]⟩
abbrev S2x8192x128 : Shape := ⟨3, ![2, 8192, 128]⟩
abbrev S1x2048x128 : Shape := ⟨3, ![1, 2048, 128]⟩
abbrev S1x8192x128 : Shape := ⟨3, ![1, 8192, 128]⟩
abbrev S4096x256 : Shape := ⟨2, ![4096, 256]⟩
abbrev S4096x128 : Shape := ⟨2, ![4096, 128]⟩
abbrev S2048x128 : Shape := ⟨2, ![2048, 128]⟩
abbrev S2048x256 : Shape := ⟨2, ![2048, 256]⟩
abbrev S1x512x128 : Shape := ⟨3, ![1, 512, 128]⟩
abbrev S512x128 : Shape := ⟨2, ![512, 128]⟩
abbrev S512x256 : Shape := ⟨2, ![512, 256]⟩
abbrev S256x256 : Shape := ⟨2, ![256, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S2x2048x128 : Shape := ⟨3, ![2, 2048, 128]⟩

abbrev nBuf : Space → Nat
  | .hbm => 4
  | .vmem => 13
  | .smem => 0
  | _ => 0

abbrev bufTy : (tb : Table) → Fin (tcTables nBuf tb) → BufTy
  | .hbm, ⟨0, _⟩ => ⟨S2x8192x512, .bf16⟩
  | .hbm, ⟨1, _⟩ => ⟨S2x8192x1024, .bf16⟩
  | .hbm, ⟨2, _⟩ => ⟨S2x8192x128, .bf16⟩
  | .hbm, ⟨3, _⟩ => ⟨S2x8192x512, .f32⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x2048x128, .f32⟩
  | .local _ .vmem, ⟨9, _⟩ => ⟨S1x2048x128, .f32⟩
  | .local _ .vmem, ⟨10, _⟩ => ⟨S4096x256, .bf16⟩
  | .local _ .vmem, ⟨11, _⟩ => ⟨S4096x128, .f32⟩
  | .local _ .vmem, ⟨12, _⟩ => ⟨S4096x256, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

@[reducible] def k0_t1_loop (i : grid0.Coords) : Scf.Loop 32 :=
  let c0_i32_29 : BitVec 32 := 0#32
  let arg2 : BitVec 32 := BitVec.ofNat 32 (i 2).val
  let c4_i32_27 : BitVec 32 := 4#32
  let v65 : BitVec 32 := Scalar.muli arg2 c4_i32_27
  let v66 : BitVec 32 := Scalar.subi v65 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let c1_i32_31 : BitVec 32 := 1#32
  ⟨c0_i32_29, v70, c1_i32_31⟩
def k0_mult1 (i : grid0.Coords) (k0_t1 : Fin (k0_t1_loop i).trips) : BitVec 32 :=
  let c0_i32_29 : BitVec 32 := 0#32
  let c1_i32_31 : BitVec 32 := 1#32
  let arg11 : BitVec 32 := Scf.iv c0_i32_29 c1_i32_31 k0_t1
  let c512_i32_639 : BitVec 32 := 512#32
  let v1287 : BitVec 32 := Scalar.muli arg11 c512_i32_639
  v1287
def k0_off1 (i : grid0.Coords) (k0_t1 : Fin (k0_t1_loop i).trips) : Fin 3 → Nat :=
  let c0_640 : Index := 0#32
  let c0_i32_29 : BitVec 32 := 0#32
  let c1_i32_31 : BitVec 32 := 1#32
  let arg11 : BitVec 32 := Scf.iv c0_i32_29 c1_i32_31 k0_t1
  let c512_i32_639 : BitVec 32 := 512#32
  let v1287 : BitVec 32 := Scalar.muli arg11 c512_i32_639
  let v1288 : BitVec 32 := v1287
  let v1289 : Index := Scalar.indexCast v1288
  let c0_641 : Index := 0#32
  ![0, v1289.toNat, 0]
@[reducible] def k0_t2_loop (i : grid0.Coords) : Scf.Loop 32 :=
  let c0_i32_29 : BitVec 32 := 0#32
  let arg2 : BitVec 32 := BitVec.ofNat 32 (i 2).val
  let c4_i32_27 : BitVec 32 := 4#32
  let v65 : BitVec 32 := Scalar.muli arg2 c4_i32_27
  let v66 : BitVec 32 := Scalar.subi v65 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let v67 : BitVec 32 := Scalar.addi c0_i32_29 v66
  let c1_i32_32 : BitVec 32 := 1#32
  ⟨v70, v67, c1_i32_32⟩
def k0_mult2 (i : grid0.Coords) (k0_t2 : Fin (k0_t2_loop i).trips) : BitVec 32 :=
  let c0_i32_29 : BitVec 32 := 0#32
  let arg2 : BitVec 32 := BitVec.ofNat 32 (i 2).val
  let c4_i32_27 : BitVec 32 := 4#32
  let v65 : BitVec 32 := Scalar.muli arg2 c4_i32_27
  let v66 : BitVec 32 := Scalar.subi v65 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let c1_i32_32 : BitVec 32 := 1#32
  let arg11 : BitVec 32 := Scf.iv v70 c1_i32_32 k0_t2
  let c512_i32_639 : BitVec 32 := 512#32
  let v1287 : BitVec 32 := Scalar.muli arg11 c512_i32_639
  v1287
def k0_off2 (i : grid0.Coords) (k0_t2 : Fin (k0_t2_loop i).trips) : Fin 3 → Nat :=
  let c0_640 : Index := 0#32
  let c0_i32_29 : BitVec 32 := 0#32
  let arg2 : BitVec 32 := BitVec.ofNat 32 (i 2).val
  let c4_i32_27 : BitVec 32 := 4#32
  let v65 : BitVec 32 := Scalar.muli arg2 c4_i32_27
  let v66 : BitVec 32 := Scalar.subi v65 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let c1_i32_32 : BitVec 32 := 1#32
  let arg11 : BitVec 32 := Scf.iv v70 c1_i32_32 k0_t2
  let c512_i32_639 : BitVec 32 := 512#32
  let v1287 : BitVec 32 := Scalar.muli arg11 c512_i32_639
  let v1288 : BitVec 32 := v1287
  let v1289 : Index := Scalar.indexCast v1288
  let c0_641 : Index := 0#32
  ![0, v1289.toNat, 0]
def k0_mult3 (i : grid0.Coords) : BitVec 32 :=
  let arg2 : BitVec 32 := BitVec.ofNat 32 (i 2).val
  let c4_i32_33 : BitVec 32 := 4#32
  let v71 : BitVec 32 := Scalar.muli arg2 c4_i32_33
  let c0_i32_34 : BitVec 32 := 0#32
  let v72 : BitVec 32 := Scalar.addi v71 c0_i32_34
  let c512_i32 : BitVec 32 := 512#32
  let v73 : BitVec 32 := Scalar.muli v72 c512_i32
  v73
def k0_off3 (i : grid0.Coords) (c0_i32_34 : BitVec 32) : Fin 3 → Nat :=
  let c0_35 : Index := 0#32
  let arg2 : BitVec 32 := BitVec.ofNat 32 (i 2).val
  let c4_i32_33 : BitVec 32 := 4#32
  let v71 : BitVec 32 := Scalar.muli arg2 c4_i32_33
  let v72 : BitVec 32 := Scalar.addi v71 c0_i32_34
  let c512_i32 : BitVec 32 := 512#32
  let v73 : BitVec 32 := Scalar.muli v72 c512_i32
  let v74 : BitVec 32 := v73
  let v75 : Index := Scalar.indexCast v74
  let c0_36 : Index := 0#32
  ![0, v75.toNat, 0]
def k0_mult4 (i : grid0.Coords) : BitVec 32 :=
  let arg2 : BitVec 32 := BitVec.ofNat 32 (i 2).val
  let c4_i32_250 : BitVec 32 := 4#32
  let v515 : BitVec 32 := Scalar.muli arg2 c4_i32_250
  let c1_i32_251 : BitVec 32 := 1#32
  let v516 : BitVec 32 := Scalar.addi v515 c1_i32_251
  let c512_i32_252 : BitVec 32 := 512#32
  let v517 : BitVec 32 := Scalar.muli v516 c512_i32_252
  v517
def k0_mult5 (i : grid0.Coords) : BitVec 32 :=
  let arg2 : BitVec 32 := BitVec.ofNat 32 (i 2).val
  let c4_i32_431 : BitVec 32 := 4#32
  let v863 : BitVec 32 := Scalar.muli arg2 c4_i32_431
  let c2_i32_432 : BitVec 32 := 2#32
  let v864 : BitVec 32 := Scalar.addi v863 c2_i32_432
  let c512_i32_433 : BitVec 32 := 512#32
  let v865 : BitVec 32 := Scalar.muli v864 c512_i32_433
  v865
def k0_mult6 (i : grid0.Coords) : BitVec 32 :=
  let arg2 : BitVec 32 := BitVec.ofNat 32 (i 2).val
  let c4_i32_559 : BitVec 32 := 4#32
  let v1115 : BitVec 32 := Scalar.muli arg2 c4_i32_559
  let c3_i32 : BitVec 32 := 3#32
  let v1116 : BitVec 32 := Scalar.addi v1115 c3_i32
  let c512_i32_560 : BitVec 32 := 512#32
  let v1117 : BitVec 32 := Scalar.muli v1116 c512_i32_560
  v1117
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x512 : Shape := ⟨3, ![2, 8192, 512]⟩
abbrev S2x8192x1024 : Shape := ⟨3, ![2, 8192, 1024]⟩
abbrev S2x8192x128 : Shape := ⟨3, ![2, 8192, 128]⟩
abbrev S2x8192x8x64 : Shape := ⟨4, ![2, 8192, 8, 64]⟩
abbrev S2x8192x2x8x64 : Shape := ⟨5, ![2, 8192, 2, 8, 64]⟩
abbrev S2x8192x1x8x64 : Shape := ⟨5, ![2, 8192, 1, 8, 64]⟩
abbrev S2x8192x32 : Shape := ⟨3, ![2, 8192, 32]⟩
abbrev S2x8192x4x4x2 : Shape := ⟨5, ![2, 8192, 4, 4, 2]⟩
abbrev S2x8192x4x1x2 : Shape := ⟨5, ![2, 8192, 4, 1, 2]⟩
abbrev S2x8192x4x2 : Shape := ⟨4, ![2, 8192, 4, 2]⟩
abbrev S2x8192x8 : Shape := ⟨3, ![2, 8192, 8]⟩
abbrev S2x8x8192 : Shape := ⟨3, ![2, 8, 8192]⟩
abbrev S8192 : Shape := ⟨1, ![8192]⟩
abbrev S2x8x8192x8192 : Shape := ⟨4, ![2, 8, 8192, 8192]⟩
abbrev S2x8x8192x1 : Shape := ⟨4, ![2, 8, 8192, 1]⟩
abbrev S2x8x1x8192 : Shape := ⟨4, ![2, 8, 1, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x64x8192 : Shape := ⟨4, ![2, 8, 64, 8192]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x1024, .bf16⟩
  | .hbm, ⟨2, _⟩ => ⟨S2x8192x128, .bf16⟩
  | .hbm, ⟨3, _⟩ => ⟨S2x8192x512, .f32⟩
  | .hbm, ⟨4, _⟩ => ⟨S2x8192x8x64, .f32⟩
  | .hbm, ⟨5, _⟩ => ⟨S2x8192x1024, .f32⟩
  | .hbm, ⟨6, _⟩ => ⟨S2x8192x2x8x64, .f32⟩
  | .hbm, ⟨7, _⟩ => ⟨S2x8192x1x8x64, .f32⟩
  | .hbm, ⟨8, _⟩ => ⟨S2x8192x8x64, .f32⟩
  | .hbm, ⟨9, _⟩ => ⟨S2x8192x1x8x64, .f32⟩
  | .hbm, ⟨10, _⟩ => ⟨S2x8192x8x64, .f32⟩
  | .hbm, ⟨11, _⟩ => ⟨S2x8192x128, .f32⟩
  | .hbm, ⟨12, _⟩ => ⟨S2x8192x32, .f32⟩
  | .hbm, ⟨13, _⟩ => ⟨S2x8192x4x4x2, .f32⟩
  | .hbm, ⟨14, _⟩ => ⟨S2x8192x4x1x2, .f32⟩
  | .hbm, ⟨15, _⟩ => ⟨S2x8192x4x2, .f32⟩
  | .hbm, ⟨16, _⟩ => ⟨S2x8192x4x1x2, .f32⟩
  | .hbm, ⟨17, _⟩ => ⟨S2x8192x4x2, .f32⟩
  | .hbm, ⟨18, _⟩ => ⟨S2x8192x4x2, .f32⟩
  | .hbm, ⟨19, _⟩ => ⟨S2x8192x4x1x2, .f32⟩
  | .hbm, ⟨20, _⟩ => ⟨S2x8192x4x2, .f32⟩
  | .hbm, ⟨21, _⟩ => ⟨S2x8192x4x2, .f32⟩
  | .hbm, ⟨22, _⟩ => ⟨S2x8192x8, .f32⟩
  | .hbm, ⟨23, _⟩ => ⟨S2x8x8192, .f32⟩
  | .hbm, ⟨24, _⟩ => ⟨S8192, .i32⟩
  | .hbm, ⟨25, _⟩ => ⟨S2x8x8192x8192, .f32⟩
  | .hbm, ⟨26, _⟩ => ⟨S2x8x8192x1, .f32⟩
  | .hbm, ⟨27, _⟩ => ⟨S2x8x8192x8192, .f32⟩
  | .hbm, ⟨28, _⟩ => ⟨S2x8x8192x8192, .f32⟩
  | .hbm, ⟨29, _⟩ => ⟨S2x8x1x8192, .f32⟩
  | .hbm, ⟨30, _⟩ => ⟨S2x8x8192x8192, .f32⟩
  | .hbm, ⟨31, _⟩ => ⟨S2x8x8192x8192, .f32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S_, .f32⟩
  | .hbm, ⟨38, _⟩ => ⟨S_, .f32⟩
  | .hbm, ⟨39, _⟩ => ⟨S2x8x8192x8192, .i1⟩
  | .hbm, ⟨40, _⟩ => ⟨S2x8x8192x8192, .f32⟩
  | .hbm, ⟨41, _⟩ => ⟨S2x8x8192x8192, .f32⟩
  | .hbm, ⟨42, _⟩ => ⟨S_, .f32⟩
  | .hbm, ⟨43, _⟩ => ⟨S2x8x8192, .f32⟩
  | .hbm, ⟨44, _⟩ => ⟨S2x8x8192x1, .f32⟩
  | .hbm, ⟨45, _⟩ => ⟨S2x8x8192x8192, .f32⟩
  | .hbm, ⟨46, _⟩ => ⟨S2x8x8192x8192, .f32⟩
  | .hbm, ⟨47, _⟩ => ⟨S2x8x8192x8192, .f32⟩
  | .hbm, ⟨48, _⟩ => ⟨S_, .f32⟩
  | .hbm, ⟨49, _⟩ => ⟨S_, .f32⟩
  | .hbm, ⟨50, _⟩ => ⟨S2x8x8192x8192, .i1⟩
  | .hbm, ⟨51, _⟩ => ⟨S2x8x8192x8192, .f32⟩
  | .hbm, ⟨52, _⟩ => ⟨S2x8x8192x8192, .f32⟩
  | .hbm, ⟨53, _⟩ => ⟨S_, .f32⟩
  | .hbm, ⟨54, _⟩ => ⟨S2x8x8192, .f32⟩
  | .hbm, ⟨55, _⟩ => ⟨S2x8x8192x1, .f32⟩
  | .hbm, ⟨56, _⟩ => ⟨S_, .f32⟩
  | .hbm, ⟨57, _⟩ => ⟨S2x8x8192x1, .f32⟩
  | .hbm, ⟨58, _⟩ => ⟨S2x8x8192x1, .f32⟩
  | .hbm, ⟨59, _⟩ => ⟨S2x8x8192x8192, .f32⟩
  | .hbm, ⟨60, _⟩ => ⟨S2x8x8192x8192, .f32⟩
  | .hbm, ⟨61, _⟩ => ⟨S2x8x64x8192, .f32⟩
  | .hbm, ⟨62, _⟩ => ⟨S2x8192x8x64, .f32⟩
  | .hbm, ⟨63, _⟩ => ⟨S2x8192x512, .f32⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v34 : Ref sig .tc := ⟨.hbm, 41, rfl⟩
abbrev main_cst_0 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_1 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Ffn.lean ====
abbrev S2x8192x1024 : Shape := ⟨3, ![2, 8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x2816 : Shape := ⟨2, ![1024, 2816]⟩
abbrev S1x1024 : Shape := ⟨2, ![1, 1024]⟩
abbrev S1x2816 : Shape := ⟨2, ![1, 2816]⟩
abbrev S16384x1024 : Shape := ⟨2, ![16384, 1024]⟩
abbrev S32x8x2816 : Shape := ⟨3, ![32, 8, 2816]⟩
abbrev S512x1024 : Shape := ⟨2, ![512, 1024]⟩
abbrev S8x1024 : Shape := ⟨2, ![8, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x8x1408 : Shape := ⟨3, ![1, 8, 1408]⟩
abbrev S520x1024 : Shape := ⟨2, ![520, 1024]⟩
abbrev S8 : Shape := ⟨1, ![8]⟩
abbrev S8x1 : Shape := ⟨2, ![8, 1]⟩
abbrev S512 : Shape := ⟨1, ![512]⟩
abbrev S512x1 : Shape := ⟨2, ![512, 1]⟩
abbrev S520x1408 : Shape := ⟨2, ![520, 1408]⟩
abbrev S512x1408 : Shape := ⟨2, ![512, 1408]⟩
abbrev S8x1408 : Shape := ⟨2, ![8, 1408]⟩

abbrev nBuf : Space → Nat
  | .hbm => 18
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x2816, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S32x8x2816, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1408x1024, .bf16⟩
  | .local _ .vmem, ⟨14, _⟩ => ⟨S1408x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x8x1408, .f32⟩
  | .local _ .vmem, ⟨19, _⟩ => ⟨S1x8x1408, .f32⟩
  | .local _ .vmem, ⟨20, _⟩ => ⟨S520x1024, .bf16⟩
  | .local _ .vmem, ⟨21, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32_33 : BitVec 32 := 1#32
  let v78 : BitVec 1 := Scalar.cmpi .eq arg1 c1_i32_33
  let v79 : BitVec 32 := Scalar.extui v78
  let c0_i32_34 : BitVec 32 := 0#32
  let v80 : BitVec 1 := Scalar.cmpi .ne v79 c0_i32_34
  v80

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnReferenceIdeal.lean ====
abbrev S2x8192x1024 : Shape := ⟨3, ![2, 8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S2x2x2816 : Shape := ⟨3, ![2, 2, 2816]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S2x8194x2816 : Shape := ⟨3, ![2, 8194, 2816]⟩
abbrev S1x2816 : Shape := ⟨2, ![1, 2816]⟩
abbrev S1x1x2816 : Shape := ⟨3, ![1, 1, 2816]⟩
abbrev S16384x1024 : Shape := ⟨2, ![16384, 1024]⟩
abbrev S32x512x2816 : Shape := ⟨3, ![32, 512, 2816]⟩
abbrev S32x8x2816 : Shape := ⟨3, ![32, 8, 2816]⟩

abbrev nBuf : Space → Nat
  | .hbm => 91
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S_, .f32⟩
  | .hbm, ⟨8, _⟩ => ⟨S2x2x2816, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x8192x5632, .f32⟩
  | .hbm, ⟨26, _⟩ => ⟨S2x8192x2816, .f32⟩
  | .hbm, ⟨27, _⟩ => ⟨S2x8192x2816, .f32⟩
  | .hbm, ⟨28, _⟩ => ⟨S2x8194x2816, .f32⟩
  | .hbm, ⟨29, _⟩ => ⟨S1x2816, .f32⟩
  | .hbm, ⟨30, _⟩ => ⟨S2816, .f32⟩
  | .hbm, ⟨31, _⟩ => ⟨S2x8192x2816, .f32⟩
  | .hbm, ⟨32, _⟩ => ⟨S1x1x2816, .f32⟩
  | .hbm, ⟨33, _⟩ => ⟨S2x8192x2816, .f32⟩
  | .hbm, ⟨34, _⟩ => ⟨S2x8192x2816, .f32⟩
  | .hbm, ⟨35, _⟩ => ⟨S1x1x2816, .f32⟩
  | .hbm, ⟨36, _⟩ => ⟨S2x8192x2816, .f32⟩
  | .hbm, ⟨37, _⟩ => ⟨S2x8192x2816, .f32⟩
  | .hbm, ⟨38, _⟩ => ⟨S1x2816, .f32⟩
  | .hbm, ⟨39, _⟩ => ⟨S2816, .f32⟩
  | .hbm, ⟨40, _⟩ => ⟨S2x8192x2816, .f32⟩
  | .hbm, ⟨41, _⟩ => ⟨S1x1x2816, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S1x2816, .f32⟩
  | .hbm, ⟨46, _⟩ => ⟨S2816, .f32⟩
  | .hbm, ⟨47, _⟩ => ⟨S2x8192x2816, .f32⟩
  | .hbm, ⟨48, _⟩ => ⟨S1x1x2816, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S_, .f32⟩
  | .hbm, ⟨55, _⟩ => ⟨S2x8192x2816, .f32⟩
  | .hbm, ⟨56, _⟩ => ⟨S2x8192x2816, .f32⟩
  | .hbm, ⟨57, _⟩ => ⟨S2x8192x2816, .f32⟩
  | .hbm, ⟨58, _⟩ => ⟨S_, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S_, .f32⟩
  | .hbm, ⟨63, _⟩ => ⟨S2x8192x2816, .f32⟩
  | .hbm, ⟨64, _⟩ => ⟨S2x8192x2816, .f32⟩
  | .hbm, ⟨65, _⟩ => ⟨S_, .f32⟩
  | .hbm, ⟨66, _⟩ => ⟨S2x8192x2816, .f32⟩
  | .hbm, ⟨67, _⟩ => ⟨S2x8192x2816, .f32⟩
  | .hbm, ⟨68, _⟩ => ⟨S2x8192x2816, .f32⟩
  | .hbm, ⟨69, _⟩ => ⟨S2x8192x2816, .f32⟩
  | .hbm, ⟨70, _⟩ => ⟨S2x8192x1024, .f32⟩
  | .hbm, ⟨71, _⟩ => ⟨S2x8192x1024, .f32⟩
  | .hbm, ⟨72, _⟩ => ⟨S_, .f32⟩
  | .hbm, ⟨73, _⟩ => ⟨S2x8192, .f32⟩
  | .hbm, ⟨74, _⟩ => ⟨S2x8192x1, .f32⟩
  | .hbm, ⟨75, _⟩ => ⟨S_, .f32⟩
  | .hbm, ⟨76, _⟩ => ⟨S2x8192x1, .f32⟩
  | .hbm, ⟨77, _⟩ => ⟨S2x8192x1, .f32⟩
  | .hbm, ⟨78, _⟩ => ⟨S_, .f32⟩
  | .hbm, ⟨79, _⟩ => ⟨S2x8192x1, .f32⟩
  | .hbm, ⟨80, _⟩ => ⟨S2x8192x1, .f32⟩
  | .hbm, ⟨81, _⟩ => ⟨S2x8192x1, .f32⟩
  | .hbm, ⟨82, _⟩ => ⟨S2x8192x1024, .f32⟩
  | .hbm, ⟨83, _⟩ => ⟨S2x8192x1024, .f32⟩
  | .hbm, ⟨84, _⟩ => ⟨S1x1x1024, .f32⟩
  | .hbm, ⟨85, _⟩ => ⟨S2x8192x1024, .f32⟩
  | .hbm, ⟨86, _⟩ => ⟨S2x8192x1024, .f32⟩
  | .hbm, ⟨87, _⟩ => ⟨S2x8192x1024, .f32⟩
  | .hbm, ⟨88, _⟩ => ⟨S16384x1024, .f32⟩
  | .hbm, ⟨89, _⟩ => ⟨S32x512x2816, .f32⟩
  | .hbm, ⟨90, _⟩ => ⟨S32x8x2816, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Proj.lean ====
abbrev S2x8192x1024 : Shape := ⟨3, ![2, 8192, 1024]⟩
abbrev S1024 : Shape := ⟨1, ![1024]⟩
abbrev S1024x2848 : Shape := ⟨2, ![1024, 2848]⟩
abbrev S24 : Shape := ⟨1, ![24]⟩
abbrev S8 : Shape := ⟨1, ![8]⟩
abbrev S1024x512 : Shape := ⟨2, ![1024, 512]⟩
abbrev S1024x768 : Shape := ⟨2, ![1024, 768]⟩
abbrev S1024x24 : Shape := ⟨2, ![1024, 24]⟩
abbrev S1024x1024 : Shape := ⟨2, ![1024, 1024]⟩
abbrev S1024x8 : Shape := ⟨2, ![1024, 8]⟩
abbrev S1024x8x64 : Shape := ⟨3, ![1024, 8, 64]⟩
abbrev S1024x2x4x64 : Shape := ⟨4, ![1024, 2, 4, 64]⟩
abbrev S1024x4x2x64 : Shape := ⟨4, ![1024, 4, 2, 64]⟩
abbrev S1024x3x8 : Shape := ⟨3, ![1024, 3, 8]⟩
abbrev S1024x3x2x4 : Shape := ⟨4, ![1024, 3, 2, 4]⟩
abbrev S1024x3x4x2 : Shape := ⟨4, ![1024, 3, 4, 2]⟩
abbrev S_ : Shape := ⟨0, ![]⟩
abbrev S1024x96 : Shape := ⟨2, ![1024, 96]⟩
abbrev S1024x128 : Shape := ⟨2, ![1024, 128]⟩
abbrev S1024x2944 : Shape := ⟨2, ![1024, 2944]⟩
abbrev S3x8 : Shape := ⟨2, ![3, 8]⟩
abbrev S3x2x4 : Shape := ⟨3, ![3, 2, 4]⟩
abbrev S3x4x2 : Shape := ⟨3, ![3, 4, 2]⟩
abbrev S96 : Shape := ⟨1, ![96]⟩
abbrev S128 : Shape := ⟨1, ![128]⟩
abbrev S1x128 : Shape := ⟨2, ![1, 128]⟩
abbrev S16384x1024 : Shape := ⟨2, ![16384, 1024]⟩
abbrev S1x1024 : Shape := ⟨2, ![1, 1024]⟩
abbrev S16384x512 : Shape := ⟨2, ![16384, 512]⟩
abbrev S2x512x8192 : Shape := ⟨3, ![2, 512, 8192]⟩
abbrev S2x256x8192 : Shape := ⟨3, ![2, 256, 8192]⟩
abbrev S16384x256 : Shape := ⟨2, ![16384, 256]⟩
abbrev S2x1024x8192 : Shape := ⟨3, ![2, 1024, 8192]⟩
abbrev S16384x128 : Shape := ⟨2, ![16384, 128]⟩
abbrev S512x1024 : Shape := ⟨2, ![512, 1024]⟩
abbrev S512x512 : Shape := ⟨2, ![512, 512]⟩
abbrev S1x512x512 : Shape := ⟨3, ![1, 512, 512]⟩
abbrev S1x256x512 : Shape := ⟨3, ![1, 256, 512]⟩
abbrev S512x256 : Shape := ⟨2, ![512, 256]⟩
abbrev S1x1024x512 : Shape := ⟨3, ![1, 1024, 512]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S256x512 : Shape := ⟨2, ![256, 512]⟩

abbrev nBuf : Space → Nat
  | .hbm => 47
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2848, .f32⟩
  | .hbm, ⟨3, _⟩ => ⟨S24, .f32⟩
  | .hbm, ⟨4, _⟩ => ⟨S8, .f32⟩
  | .hbm, ⟨5, _⟩ => ⟨S1024x512, .f32⟩
  | .hbm, ⟨6, _⟩ => ⟨S1024x768, .f32⟩
  | .hbm, ⟨7, _⟩ => ⟨S1024x24, .f32⟩
  | .hbm, ⟨8, _⟩ => ⟨S1024x512, .f32⟩
  | .hbm, ⟨9, _⟩ => ⟨S1024x1024, .f32⟩
  | .hbm, ⟨10, _⟩ => ⟨S1024x8, .f32⟩
  | .hbm, ⟨11, _⟩ => ⟨S1024x8x64, .f32⟩
  | .hbm, ⟨12, _⟩ => ⟨S1024x2x4x64, .f32⟩
  | .hbm, ⟨13, _⟩ => ⟨S1024x4x2x64, .f32⟩
  | .hbm, ⟨14, _⟩ => ⟨S1024x8x64, .f32⟩
  | .hbm, ⟨15, _⟩ => ⟨S1024x512, .f32⟩
  | .hbm, ⟨16, _⟩ => ⟨S1024x3x8, .f32⟩
  | .hbm, ⟨17, _⟩ => ⟨S1024x3x2x4, .f32⟩
  | .hbm, ⟨18, _⟩ => ⟨S1024x3x4x2, .f32⟩
  | .hbm, ⟨19, _⟩ => ⟨S1024x3x8, .f32⟩
  | .hbm, ⟨20, _⟩ => ⟨S1024x24, .f32⟩
  | .hbm, ⟨21, _⟩ => ⟨S_, .f32⟩
  | .hbm, ⟨22, _⟩ => ⟨S1024x96, .f32⟩
  | .hbm, ⟨23, _⟩ => ⟨S1024x128, .f32⟩
  | .hbm, ⟨24, _⟩ => ⟨S1024x2944, .f32⟩
  | .hbm, ⟨25, _⟩ => ⟨S1024x2944, .bf16⟩
  | .hbm, ⟨26, _⟩ => ⟨S3x8, .f32⟩
  | .hbm, ⟨27, _⟩ => ⟨S3x2x4, .f32⟩
  | .hbm, ⟨28, _⟩ => ⟨S3x4x2, .f32⟩
  | .hbm, ⟨29, _⟩ => ⟨S3x8, .f32⟩
  | .hbm, ⟨30, _⟩ => ⟨S24, .f32⟩
  | .hbm, ⟨31, _⟩ => ⟨S_, .f32⟩
  | .hbm, ⟨32, _⟩ => ⟨S96, .f32⟩
  | .hbm, ⟨33, _⟩ => ⟨S128, .f32⟩
  | .hbm, ⟨34, _⟩ => ⟨S1x128, .f32⟩
  | .hbm, ⟨35, _⟩ => ⟨S16384x1024, .f32⟩
  | .hbm, ⟨36, _⟩ => ⟨S1x1024, .f32⟩
  | .hbm, ⟨37, _⟩ => ⟨S16384x512, .bf16⟩
  | .hbm, ⟨38, _⟩ => ⟨S2x512x8192, .f32⟩
  | .hbm, ⟨39, _⟩ => ⟨S2x256x8192, .f32⟩
  | .hbm, ⟨40, _⟩ => ⟨S16384x256, .bf16⟩
  | .hbm, ⟨41, _⟩ => ⟨S16384x256, .bf16⟩
  | .hbm, ⟨42, _⟩ => ⟨S16384x256, .bf16⟩
  | .hbm, ⟨43, _⟩ => ⟨S16384x512, .bf16⟩
  | .hbm, ⟨44, _⟩ => ⟨S2x1024x8192, .f32⟩
  | .hbm, ⟨45, _⟩ => ⟨S16384x1024, .bf16⟩
  | .hbm, ⟨46, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S1x512x512, .f32⟩
  | .local _ .vmem, ⟨8, _⟩ => ⟨S1x512x512, .f32⟩
  | .local _ .vmem, ⟨9, _⟩ => ⟨S1x256x512, .f32⟩
  | .local _ .vmem, ⟨10, _⟩ => ⟨S1x256x512, .f32⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x512, .bf16⟩
  | .local _ .vmem, ⟨18, _⟩ => ⟨S512x512, .bf16⟩
  | .local _ .vmem, ⟨19, _⟩ => ⟨S1x1024x512, .f32⟩
  | .local _ .vmem, ⟨20, _⟩ => ⟨S1x1024x512, .f32⟩
  | .local _ .vmem, ⟨21, _⟩ => ⟨S512x1024, .bf16⟩
  | .local _ .vmem, ⟨22, _⟩ => ⟨S512x1024, .bf16⟩
  | .local _ .vmem, ⟨23, _⟩ => ⟨S512x128, .f32⟩
  | .local _ .vmem, ⟨24, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev main_v30_3 : Ref sig .tc := ⟨.hbm, 40, rfl⟩
abbrev main_v30_4 : Ref sig .tc := ⟨.hbm, 41, rfl⟩
abbrev main_v30_5 : Ref sig .tc := ⟨.hbm, 42, rfl⟩
abbrev main_v30_6 : Ref sig .tc := ⟨.hbm, 43, rfl⟩
abbrev main_v30_7 : Ref sig .tc := ⟨.hbm, 44, rfl⟩
abbrev main_v30_8 : Ref sig .tc := ⟨.hbm, 45, rfl⟩
abbrev main_v30_9 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjReferenceIdeal.lean ====
abbrev S2x8192x1024 : Shape := ⟨3, ![2, 8192, 1024]⟩
abbrev S1024 : Shape := ⟨1, ![1024]⟩
abbrev S1024x2848 : Shape := ⟨2, ![1024, 2848]⟩
abbrev S24 : Shape := ⟨1, ![24]⟩
abbrev S8 : Shape := ⟨1, ![8]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2848 : Shape := ⟨3, ![2, 8192, 2848]⟩
abbrev S2x8192x512 : Shape := ⟨3, ![2, 8192, 512]⟩
abbrev S2x8192x768 : Shape := ⟨3, ![2, 8192, 768]⟩
abbrev S2x8192x24 : Shape := ⟨3, ![2, 8192, 24]⟩
abbrev S2x8192x8 : Shape := ⟨3, ![2, 8192, 8]⟩
abbrev S1x1x24 : Shape := ⟨3, ![1, 1, 24]⟩
abbrev S2x8192x3x2x4 : Shape := ⟨5, ![2, 8192, 3, 2, 4]⟩
abbrev S1x1x8 : Shape := ⟨3, ![1, 1, 8]⟩
abbrev S2x8192x2x4x64 : Shape := ⟨5, ![2, 8192, 2, 4, 64]⟩
abbrev S2x8192x4x2x64 : Shape := ⟨5, ![2, 8192, 4, 2, 64]⟩
abbrev S2x8192x3x4x2 : Shape := ⟨5, ![2, 8192, 3, 4, 2]⟩
abbrev S16384x96 : Shape := ⟨2, ![16384, 96]⟩
abbrev S16384x24 : Shape := ⟨2, ![16384, 24]⟩
abbrev S16384x8 : Shape := ⟨2, ![16384, 8]⟩
abbrev S16384x128 : Shape := ⟨2, ![16384, 128]⟩
abbrev S16384x512 : Shape := ⟨2, ![16384, 512]⟩
abbrev S2x512x8192 : Shape := ⟨3, ![2, 512, 8192]⟩
abbrev S2x8192x256 : Shape := ⟨3, ![2, 8192, 256]⟩
abbrev S2x256x8192 : Shape := ⟨3, ![2, 256, 8192]⟩
abbrev S16384x256 : Shape := ⟨2, ![16384, 256]⟩
abbrev S2x1024x8192 : Shape := ⟨3, ![2, 1024, 8192]⟩
abbrev S16384x1024 : Shape := ⟨2, ![16384, 1024]⟩

abbrev nBuf : Space → Nat
  | .hbm => 109
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2848, .f32⟩
  | .hbm, ⟨3, _⟩ => ⟨S24, .f32⟩
  | .hbm, ⟨4, _⟩ => ⟨S8, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x2848, .f32⟩
  | .hbm, ⟨22, _⟩ => ⟨S2x8192x512, .f32⟩
  | .hbm, ⟨23, _⟩ => ⟨S2x8192x768, .f32⟩
  | .hbm, ⟨24, _⟩ => ⟨S2x8192x24, .f32⟩
  | .hbm, ⟨25, _⟩ => ⟨S2x8192x512, .f32⟩
  | .hbm, ⟨26, _⟩ => ⟨S2x8192x1024, .f32⟩
  | .hbm, ⟨27, _⟩ => ⟨S2x8192x8, .f32⟩
  | .hbm, ⟨28, _⟩ => ⟨S1x1x24, .f32⟩
  | .hbm, ⟨29, _⟩ => ⟨S2x8192x24, .f32⟩
  | .hbm, ⟨30, _⟩ => ⟨S2x8192x24, .f32⟩
  | .hbm, ⟨31, _⟩ => ⟨S2x8192x24, .f32⟩
  | .hbm, ⟨32, _⟩ => ⟨S2x8192x24, .f32⟩
  | .hbm, ⟨33, _⟩ => ⟨S_, .f32⟩
  | .hbm, ⟨34, _⟩ => ⟨S2x8192x24, .f32⟩
  | .hbm, ⟨35, _⟩ => ⟨S2x8192x24, .f32⟩
  | .hbm, ⟨36, _⟩ => ⟨S_, .f32⟩
  | .hbm, ⟨37, _⟩ => ⟨S2x8192x24, .f32⟩
  | .hbm, ⟨38, _⟩ => ⟨S2x8192x24, .f32⟩
  | .hbm, ⟨39, _⟩ => ⟨S2x8192x3x2x4, .f32⟩
  | .hbm, ⟨40, _⟩ => ⟨S1x1x8, .f32⟩
  | .hbm, ⟨41, _⟩ => ⟨S2x8192x8, .f32⟩
  | .hbm, ⟨42, _⟩ => ⟨S2x8192x8, .f32⟩
  | .hbm, ⟨43, _⟩ => ⟨S2x8192x8, .f32⟩
  | .hbm, ⟨44, _⟩ => ⟨S_, .f32⟩
  | .hbm, ⟨45, _⟩ => ⟨S2x8192x8, .f32⟩
  | .hbm, ⟨46, _⟩ => ⟨S2x8192x8, .f32⟩
  | .hbm, ⟨47, _⟩ => ⟨S2x8192x8, .f32⟩
  | .hbm, ⟨48, _⟩ => ⟨S2x8192x8, .f32⟩
  | .hbm, ⟨49, _⟩ => ⟨S2x8192x8, .i1⟩
  | .hbm, ⟨50, _⟩ => ⟨S2x8192x8, .f32⟩
  | .hbm, ⟨51, _⟩ => ⟨S2x8192x8, .f32⟩
  | .hbm, ⟨52, _⟩ => ⟨S2x8192x8, .f32⟩
  | .hbm, ⟨53, _⟩ => ⟨S2x8192x8, .f32⟩
  | .hbm, ⟨54, _⟩ => ⟨S2x8192x8, .f32⟩
  | .hbm, ⟨55, _⟩ => ⟨S2x8192x8, .f32⟩
  | .hbm, ⟨56, _⟩ => ⟨S2x8192x8, .f32⟩
  | .hbm, ⟨57, _⟩ => ⟨S2x8192x8, .f32⟩
  | .hbm, ⟨58, _⟩ => ⟨S2x8192x8, .f32⟩
  | .hbm, ⟨59, _⟩ => ⟨S2x8192x2x4x64, .f32⟩
  | .hbm, ⟨60, _⟩ => ⟨S2x8192x4x2x64, .f32⟩
  | .hbm, ⟨61, _⟩ => ⟨S2x8192x3x4x2, .f32⟩
  | .hbm, ⟨62, _⟩ => ⟨S_, .f32⟩
  | .hbm, ⟨63, _⟩ => ⟨S16384x96, .f32⟩
  | .hbm, ⟨64, _⟩ => ⟨S16384x96, .f32⟩
  | .hbm, ⟨65, _⟩ => ⟨S_, .f32⟩
  | .hbm, ⟨66, _⟩ => ⟨S16384x96, .f32⟩
  | .hbm, ⟨67, _⟩ => ⟨S16384x96, .f32⟩
  | .hbm, ⟨68, _⟩ => ⟨S16384x96, .f32⟩
  | .hbm, ⟨69, _⟩ => ⟨S16384x96, .f32⟩
  | .hbm, ⟨70, _⟩ => ⟨S16384x96, .i1⟩
  | .hbm, ⟨71, _⟩ => ⟨S16384x96, .f32⟩
  | .hbm, ⟨72, _⟩ => ⟨S16384x96, .f32⟩
  | .hbm, ⟨73, _⟩ => ⟨S16384x96, .f32⟩
  | .hbm, ⟨74, _⟩ => ⟨S16384x96, .f32⟩
  | .hbm, ⟨75, _⟩ => ⟨S16384x96, .f32⟩
  | .hbm, ⟨76, _⟩ => ⟨S16384x96, .f32⟩
  | .hbm, ⟨77, _⟩ => ⟨S16384x96, .f32⟩
  | .hbm, ⟨78, _⟩ => ⟨S16384x96, .f32⟩
  | .hbm, ⟨79, _⟩ => ⟨S16384x96, .f32⟩
  | .hbm, ⟨80, _⟩ => ⟨S16384x24, .f32⟩
  | .hbm, ⟨81, _⟩ => ⟨S16384x8, .f32⟩
  | .hbm, ⟨82, _⟩ => ⟨S16384x128, .f32⟩
  | .hbm, ⟨83, _⟩ => ⟨S_, .f32⟩
  | .hbm, ⟨84, _⟩ => ⟨S2x8192x4x2x64, .f32⟩
  | .hbm, ⟨85, _⟩ => ⟨S2x8192x4x2x64, .f32⟩
  | .hbm, ⟨86, _⟩ => ⟨S16384x512, .f32⟩
  | .hbm, ⟨87, _⟩ => ⟨S16384x512, .bf16⟩
  | .hbm, ⟨88, _⟩ => ⟨S2x8192x512, .f32⟩
  | .hbm, ⟨89, _⟩ => ⟨S2x512x8192, .f32⟩
  | .hbm, ⟨90, _⟩ => ⟨S2x8192x256, .f32⟩
  | .hbm, ⟨91, _⟩ => ⟨S2x256x8192, .f32⟩
  | .hbm, ⟨92, _⟩ => ⟨S2x8192x256, .f32⟩
  | .hbm, ⟨93, _⟩ => ⟨S16384x256, .f32⟩
  | .hbm, ⟨94, _⟩ => ⟨S16384x256, .bf16⟩
  | .hbm, ⟨95, _⟩ => ⟨S2x8192x256, .f32⟩
  | .hbm, ⟨96, _⟩ => ⟨S16384x256, .f32⟩
  | .hbm, ⟨97, _⟩ => ⟨S16384x256, .bf16⟩
  | .hbm, ⟨98, _⟩ => ⟨S2x8192x256, .f32⟩
  | .hbm, ⟨99, _⟩ => ⟨S16384x256, .f32⟩
  | .hbm, ⟨100, _⟩ => ⟨S16384x256, .bf16⟩
  | .hbm, ⟨101, _⟩ => ⟨S_, .f32⟩
  | .hbm, ⟨102, _⟩ => ⟨S2x8192x512, .f32⟩
  | .hbm, ⟨103, _⟩ => ⟨S2x8192x512, .f32⟩
  | .hbm, ⟨104, _⟩ => ⟨S16384x512, .f32⟩
  | .hbm, ⟨105, _⟩ => ⟨S16384x512, .bf16⟩
  | .hbm, ⟨106, _⟩ => ⟨S2x1024x8192, .f32⟩
  | .hbm, ⟨107, _⟩ => ⟨S16384x1024, .f32⟩
  | .hbm, ⟨108, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_call1_v0 : Ref sig .tc := ⟨.hbm, 64, rfl⟩
abbrev main_call1_call0_cst : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_call0_v2 : Ref sig .tc := ⟨.hbm, 68, rfl⟩
abbrev main_call1_call0_v3 : Ref sig .tc := ⟨.hbm, 69, rfl⟩
abbrev main_call1_call0_v4 : Ref sig .tc := ⟨.hbm, 70, rfl⟩
abbrev main_call1_call0_v5 : Ref sig .tc := ⟨.hbm, 71, rfl⟩
abbrev main_call1_call0_v6 : Ref sig .tc := ⟨.hbm, 72, rfl⟩
abbrev main_call1_call0_v7 : Ref sig .tc := ⟨.hbm, 73, rfl⟩
abbrev main_call1_call0_v8 : Ref sig .tc := ⟨.hbm, 74, rfl⟩
abbrev main_call1_call0_v9 : Ref sig .tc := ⟨.hbm, 75, rfl⟩
abbrev main_call1_call0_v10 : Ref sig .tc := ⟨.hbm, 76, rfl⟩
abbrev main_call1_call0_v11 : Ref sig .tc := ⟨.hbm, 77, rfl⟩
abbrev main_call1_v1 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_5 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_6 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩

abbrev nD : Nat := 1
abbrev τ : Topo := Topo.v7x

variable {F : FTy → Type} [FloatOps F]
-- ==== Mix.lean ====
abbrev S2x8192x512 : Shape := ⟨3, ![2, 8192, 512]⟩
abbrev S2x8192x1024 : Shape := ⟨3, ![2, 8192, 1024]⟩
abbrev S1024 : Shape := ⟨1, ![1024]⟩
abbrev S1024x1024 : Shape := ⟨2, ![1024, 1024]⟩
abbrev S512 : Shape := ⟨1, ![512]⟩
abbrev S8x64 : Shape := ⟨2, ![8, 64]⟩
abbrev S2x4x64 : Shape := ⟨3, ![2, 4, 64]⟩
abbrev S4x2x64 : Shape := ⟨3, ![4, 2, 64]⟩
abbrev S1x1024 : Shape := ⟨2, ![1, 1024]⟩
abbrev S512x1024 : Shape := ⟨2, ![512, 1024]⟩
abbrev S8x64x1024 : Shape := ⟨3, ![8, 64, 1024]⟩
abbrev S2x4x64x1024 : Shape := ⟨4, ![2, 4, 64, 1024]⟩
abbrev S4x2x64x1024 : Shape := ⟨4, ![4, 2, 64, 1024]⟩
abbrev S16384x512 : Shape := ⟨2, ![16384, 512]⟩
abbrev S16384x1024 : Shape := ⟨2, ![16384, 1024]⟩
abbrev S512x512 : Shape := ⟨2, ![512, 512]⟩
abbrev S1x512 : Shape := ⟨2, ![1, 512]⟩
abbrev S512x1 : Shape := ⟨2, ![512, 1]⟩

abbrev nBuf : Space → Nat
  | .hbm => 29
  | .vmem => 11
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S512, .f32⟩
  | .hbm, ⟨7, _⟩ => ⟨S8x64, .f32⟩
  | .hbm, ⟨8, _⟩ => ⟨S2x4x64, .f32⟩
  | .hbm, ⟨9, _⟩ => ⟨S4x2x64, .f32⟩
  | .hbm, ⟨10, _⟩ => ⟨S8x64, .f32⟩
  | .hbm, ⟨11, _⟩ => ⟨S512, .f32⟩
  | .hbm, ⟨12, _⟩ => ⟨S512, .f32⟩
  | .hbm, ⟨13, _⟩ => ⟨S1024, .f32⟩
  | .hbm, ⟨14, _⟩ => ⟨S1x1024, .f32⟩
  | .hbm, ⟨15, _⟩ => ⟨S512x1024, .f32⟩
  | .hbm, ⟨16, _⟩ => ⟨S8x64x1024, .f32⟩
  | .hbm, ⟨17, _⟩ => ⟨S2x4x64x1024, .f32⟩
  | .hbm, ⟨18, _⟩ => ⟨S4x2x64x1024, .f32⟩
  | .hbm, ⟨19, _⟩ => ⟨S8x64x1024, .f32⟩
  | .hbm, ⟨20, _⟩ => ⟨S512x1024, .f32⟩
  | .hbm, ⟨21, _⟩ => ⟨S512x1024, .f32⟩
  | .hbm, ⟨22, _⟩ => ⟨S1024x1024, .f32⟩
  | .hbm, ⟨23, _⟩ => ⟨S1024x1024, .bf16⟩
  | .hbm, ⟨24, _⟩ => ⟨S16384x512, .f32⟩
  | .hbm, ⟨25, _⟩ => ⟨S16384x512, .f32⟩
  | .hbm, ⟨26, _⟩ => ⟨S16384x1024, .f32⟩
  | .hbm, ⟨27, _⟩ => ⟨S1x1024, .f32⟩
  | .hbm, ⟨28, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixReferenceIdeal.lean ====
abbrev S2x8192x512 : Shape := ⟨3, ![2, 8192, 512]⟩
abbrev S2x8192x1024 : Shape := ⟨3, ![2, 8192, 1024]⟩
abbrev S1024 : Shape := ⟨1, ![1024]⟩
abbrev S1024x1024 : Shape := ⟨2, ![1024, 1024]⟩
abbrev S2x8192x4x2x64 : Shape := ⟨5, ![2, 8192, 4, 2, 64]⟩
abbrev S2x8192x2x4x64 : Shape := ⟨5, ![2, 8192, 2, 4, 64]⟩
abbrev S512 : Shape := ⟨1, ![512]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S1x1x1024 : Shape := ⟨3, ![1, 1, 1024]⟩
abbrev S16384x1024 : Shape := ⟨2, ![16384, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S2x8192x4x2x64, .f32⟩
  | .hbm, ⟨7, _⟩ => ⟨S2x8192x2x4x64, .f32⟩
  | .hbm, ⟨8, _⟩ => ⟨S2x8192x512, .f32⟩
  | .hbm, ⟨9, _⟩ => ⟨S512, .f32⟩
  | .hbm, ⟨10, _⟩ => ⟨S2x8192x512, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x512, .f32⟩
  | .hbm, ⟨22, _⟩ => ⟨S2x8192x512, .f32⟩
  | .hbm, ⟨23, _⟩ => ⟨S1x1x512, .f32⟩
  | .hbm, ⟨24, _⟩ => ⟨S2x8192x512, .f32⟩
  | .hbm, ⟨25, _⟩ => ⟨S2x8192x512, .f32⟩
  | .hbm, ⟨26, _⟩ => ⟨S512, .f32⟩
  | .hbm, ⟨27, _⟩ => ⟨S2x8192x512, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x512, .f32⟩
  | .hbm, ⟨39, _⟩ => ⟨S2x8192x512, .f32⟩
  | .hbm, ⟨40, _⟩ => ⟨S1x1x512, .f32⟩
  | .hbm, ⟨41, _⟩ => ⟨S2x8192x512, .f32⟩
  | .hbm, ⟨42, _⟩ => ⟨S2x8192x512, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S2x8192x1, .f32⟩
  | .hbm, ⟨56, _⟩ => ⟨S2x8192x1024, .f32⟩
  | .hbm, ⟨57, _⟩ => ⟨S2x8192x1024, .f32⟩
  | .hbm, ⟨58, _⟩ => ⟨S1x1x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S16384x1024, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== ProjS.lean ====
abbrev S32x4x1024 : Shape := ⟨3, ![32, 4, 1024]⟩
abbrev S32x512x2x2x64 : Shape := ⟨5, ![32, 512, 2, 2, 64]⟩
abbrev S1024 : Shape := ⟨1, ![1024]⟩
abbrev S1024x2848 : Shape := ⟨2, ![1024, 2848]⟩
abbrev S24 : Shape := ⟨1, ![24]⟩
abbrev S8 : Shape := ⟨1, ![8]⟩
abbrev S1024x512 : Shape := ⟨2, ![1024, 512]⟩
abbrev S1024x768 : Shape := ⟨2, ![1024, 768]⟩
abbrev S1024x24 : Shape := ⟨2, ![1024, 24]⟩
abbrev S1024x1024 : Shape := ⟨2, ![1024, 1024]⟩
abbrev S1024x8 : Shape := ⟨2, ![1024, 8]⟩
abbrev S1024x8x64 : Shape := ⟨3, ![1024, 8, 64]⟩
abbrev S1024x2x4x64 : Shape := ⟨4, ![1024, 2, 4, 64]⟩
abbrev S1024x4x2x64 : Shape := ⟨4, ![1024, 4, 2, 64]⟩
abbrev S1024x3x8 : Shape := ⟨3, ![1024, 3, 8]⟩
abbrev S1024x3x2x4 : Shape := ⟨4, ![1024, 3, 2, 4]⟩
abbrev S1024x3x4x2 : Shape := ⟨4, ![1024, 3, 4, 2]⟩
abbrev S_ : Shape := ⟨0, ![]⟩
abbrev S1024x96 : Shape := ⟨2, ![1024, 96]⟩
abbrev S1024x128 : Shape := ⟨2, ![1024, 128]⟩
abbrev S1024x2944 : Shape := ⟨2, ![1024, 2944]⟩
abbrev S3x8 : Shape := ⟨2, ![3, 8]⟩
abbrev S3x2x4 : Shape := ⟨3, ![3, 2, 4]⟩
abbrev S3x4x2 : Shape := ⟨3, ![3, 4, 2]⟩
abbrev S96 : Shape := ⟨1, ![96]⟩
abbrev S128 : Shape := ⟨1, ![128]⟩
abbrev S1x128 : Shape := ⟨2, ![1, 128]⟩
abbrev S32x8x1024 : Shape := ⟨3, ![32, 8, 1024]⟩
abbrev S256x1024 : Shape := ⟨2, ![256, 1024]⟩
abbrev S1x1024 : Shape := ⟨2, ![1, 1024]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1024x256 : Shape := ⟨2, ![1024, 256]⟩
abbrev S32x8x2x2x64 : Shape := ⟨5, ![32, 8, 2, 2, 64]⟩
abbrev S32x4x2x2x64 : Shape := ⟨5, ![32, 4, 2, 2, 64]⟩
abbrev S32x516x2x2x64 : Shape := ⟨5, ![32, 516, 2, 2, 64]⟩
abbrev S32x8x128 : Shape := ⟨3, ![32, 8, 128]⟩
abbrev S32x4x128 : Shape := ⟨3, ![32, 4, 128]⟩
abbrev S32x8x512 : Shape := ⟨3, ![32, 8, 512]⟩
abbrev S32x4x512 : Shape := ⟨3, ![32, 4, 512]⟩
abbrev S32x8x256 : Shape := ⟨3, ![32, 8, 256]⟩
abbrev S32x4x256 : Shape := ⟨3, ![32, 4, 256]⟩
abbrev S32x4x24 : Shape := ⟨3, ![32, 4, 24]⟩
abbrev S32x4x8 : Shape := ⟨3, ![32, 4, 8]⟩

abbrev nBuf : Space → Nat
  | .hbm => 73
  | .vmem => 14
  | .smem => 0
  | _ => 0

abbrev bufTy : (tb : Table) → Fin (tcTables nBuf tb) → BufTy
  | .hbm, ⟨0, _⟩ => ⟨S32x4x1024, .f32⟩
  | .hbm, ⟨1, _⟩ => ⟨S32x512x2x2x64, .f32⟩
  | .hbm, ⟨2, _⟩ => ⟨S1024, .f32⟩
  | .hbm, ⟨3, _⟩ => ⟨S1024x2848, .f32⟩
  | .hbm, ⟨4, _⟩ => ⟨S24, .f32⟩
  | .hbm, ⟨5, _⟩ => ⟨S8, .f32⟩
  | .hbm, ⟨6, _⟩ => ⟨S1024x512, .f32⟩
  | .hbm, ⟨7, _⟩ => ⟨S1024x768, .f32⟩
  | .hbm, ⟨8, _⟩ => ⟨S1024x24, .f32⟩
  | .hbm, ⟨9, _⟩ => ⟨S1024x512, .f32⟩
  | .hbm, ⟨10, _⟩ => ⟨S1024x1024, .f32⟩
  | .hbm, ⟨11, _⟩ => ⟨S1024x8, .f32⟩
  | .hbm, ⟨12, _⟩ => ⟨S1024x8x64, .f32⟩
  | .hbm, ⟨13, _⟩ => ⟨S1024x2x4x64, .f32⟩
  | .hbm, ⟨14, _⟩ => ⟨S1024x4x2x64, .f32⟩
  | .hbm, ⟨15, _⟩ => ⟨S1024x8x64, .f32⟩
  | .hbm, ⟨16, _⟩ => ⟨S1024x512, .f32⟩
  | .hbm, ⟨17, _⟩ => ⟨S1024x3x8, .f32⟩
  | .hbm, ⟨18, _⟩ => ⟨S1024x3x2x4, .f32⟩
  | .hbm, ⟨19, _⟩ => ⟨S1024x3x4x2, .f32⟩
  | .hbm, ⟨20, _⟩ => ⟨S1024x3x8, .f32⟩
  | .hbm, ⟨21, _⟩ => ⟨S1024x24, .f32⟩
  | .hbm, ⟨22, _⟩ => ⟨S_, .f32⟩
  | .hbm, ⟨23, _⟩ => ⟨S1024x96, .f32⟩
  | .hbm, ⟨24, _⟩ => ⟨S1024x128, .f32⟩
  | .hbm, ⟨25, _⟩ => ⟨S1024x2944, .f32⟩
  | .hbm, ⟨26, _⟩ => ⟨S1024x2944, .bf16⟩
  | .hbm, ⟨27, _⟩ => ⟨S3x8, .f32⟩
  | .hbm, ⟨28, _⟩ => ⟨S3x2x4, .f32⟩
  | .hbm, ⟨29, _⟩ => ⟨S3x4x2, .f32⟩
  | .hbm, ⟨30, _⟩ => ⟨S3x8, .f32⟩
  | .hbm, ⟨31, _⟩ => ⟨S24, .f32⟩
  | .hbm, ⟨32, _⟩ => ⟨S_, .f32⟩
  | .hbm, ⟨33, _⟩ => ⟨S96, .f32⟩
  | .hbm, ⟨34, _⟩ => ⟨S128, .f32⟩
  | .hbm, ⟨35, _⟩ => ⟨S1x128, .f32⟩
  | .hbm, ⟨36, _⟩ => ⟨S_, .i32⟩
  | .hbm, ⟨37, _⟩ => ⟨S_, .f32⟩
  | .hbm, ⟨38, _⟩ => ⟨S32x8x1024, .f32⟩
  | .hbm, ⟨39, _⟩ => ⟨S256x1024, .f32⟩
  | .hbm, ⟨40, _⟩ => ⟨S1x1024, .f32⟩
  | .hbm, ⟨41, _⟩ => ⟨S256x512, .bf16⟩
  | .hbm, ⟨42, _⟩ => ⟨S256x512, .f32⟩
  | .hbm, ⟨43, _⟩ => ⟨S256x256, .f32⟩
  | .hbm, ⟨44, _⟩ => ⟨S256x256, .bf16⟩
  | .hbm, ⟨45, _⟩ => ⟨S256x256, .bf16⟩
  | .hbm, ⟨46, _⟩ => ⟨S256x256, .bf16⟩
  | .hbm, ⟨47, _⟩ => ⟨S256x512, .bf16⟩
  | .hbm, ⟨48, _⟩ => ⟨S256x1024, .f32⟩
  | .hbm, ⟨49, _⟩ => ⟨S256x1024, .bf16⟩
  | .hbm, ⟨50, _⟩ => ⟨S256x128, .f32⟩
  | .hbm, ⟨51, _⟩ => ⟨S32x8x2x2x64, .f32⟩
  | .hbm, ⟨52, _⟩ => ⟨S32x4x2x2x64, .f32⟩
  | .hbm, ⟨53, _⟩ => ⟨S32x516x2x2x64, .f32⟩
  | .hbm, ⟨54, _⟩ => ⟨S32x512x2x2x64, .f32⟩
  | .hbm, ⟨55, _⟩ => ⟨S32x8x128, .f32⟩
  | .hbm, ⟨56, _⟩ => ⟨S32x4x128, .f32⟩
  | .hbm, ⟨57, _⟩ => ⟨S32x8x512, .bf16⟩
  | .hbm, ⟨58, _⟩ => ⟨S32x4x512, .bf16⟩
  | .hbm, ⟨59, _⟩ => ⟨S32x8x512, .f32⟩
  | .hbm, ⟨60, _⟩ => ⟨S32x4x512, .f32⟩
  | .hbm, ⟨61, _⟩ => ⟨S32x8x256, .bf16⟩
  | .hbm, ⟨62, _⟩ => ⟨S32x4x256, .bf16⟩
  | .hbm, ⟨63, _⟩ => ⟨S32x8x256, .bf16⟩
  | .hbm, ⟨64, _⟩ => ⟨S32x4x256, .bf16⟩
  | .hbm, ⟨65, _⟩ => ⟨S32x8x512, .bf16⟩
  | .hbm, ⟨66, _⟩ => ⟨S32x4x512, .bf16⟩
  | .hbm, ⟨67, _⟩ => ⟨S32x8x1024, .f32⟩
  | .hbm, ⟨68, _⟩ => ⟨S32x4x1024, .f32⟩
  | .hbm, ⟨69, _⟩ => ⟨S32x8x1024, .bf16⟩
  | .hbm, ⟨70, _⟩ => ⟨S32x4x1024, .bf16⟩
  | .hbm, ⟨71, _⟩ => ⟨S32x4x24, .f32⟩
  | .hbm, ⟨72, _⟩ => ⟨S32x4x8, .f32⟩
  | .local _ .vmem, ⟨0, _⟩ => ⟨S256x1024, .f32⟩
  | .local _ .vmem, ⟨1, _⟩ => ⟨S1x1024, .f32⟩
  | .local _ .vmem, ⟨2, _⟩ => ⟨S1024x2944, .bf16⟩
  | .local _ .vmem, ⟨3, _⟩ => ⟨S1x128, .f32⟩
  | .local _ .vmem, ⟨4, _⟩ => ⟨S256x512, .bf16⟩
  | .local _ .vmem, ⟨5, _⟩ => ⟨S256x512, .f32⟩
  | .local _ .vmem, ⟨6, _⟩ => ⟨S256x256, .f32⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x512, .bf16⟩
  | .local _ .vmem, ⟨11, _⟩ => ⟨S256x1024, .f32⟩
  | .local _ .vmem, ⟨12, _⟩ => ⟨S256x1024, .bf16⟩
  | .local _ .vmem, ⟨13, _⟩ => ⟨S256x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev main_v31_2 : Ref sig .tc := ⟨.hbm, 43, rfl⟩
abbrev main_v31_3 : Ref sig .tc := ⟨.hbm, 44, rfl⟩
abbrev main_v31_4 : Ref sig .tc := ⟨.hbm, 45, rfl⟩
abbrev main_v31_5 : Ref sig .tc := ⟨.hbm, 46, rfl⟩
abbrev main_v31_6 : Ref sig .tc := ⟨.hbm, 47, rfl⟩
abbrev main_v31_7 : Ref sig .tc := ⟨.hbm, 48, rfl⟩
abbrev main_v31_8 : Ref sig .tc := ⟨.hbm, 49, rfl⟩
abbrev main_v31_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== ProjSReferenceIdeal.lean ====
abbrev S32x4x1024 : Shape := ⟨3, ![32, 4, 1024]⟩
abbrev S32x512x2x2x64 : Shape := ⟨5, ![32, 512, 2, 2, 64]⟩
abbrev S1024 : Shape := ⟨1, ![1024]⟩
abbrev S1024x2848 : Shape := ⟨2, ![1024, 2848]⟩
abbrev S24 : Shape := ⟨1, ![24]⟩
abbrev S8 : Shape := ⟨1, ![8]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2848 : Shape := ⟨3, ![32, 4, 2848]⟩
abbrev S32x4x512 : Shape := ⟨3, ![32, 4, 512]⟩
abbrev S32x4x768 : Shape := ⟨3, ![32, 4, 768]⟩
abbrev S32x4x24 : Shape := ⟨3, ![32, 4, 24]⟩
abbrev S32x4x8 : Shape := ⟨3, ![32, 4, 8]⟩
abbrev S1x1x24 : Shape := ⟨3, ![1, 1, 24]⟩
abbrev S32x4x3x2x4 : Shape := ⟨5, ![32, 4, 3, 2, 4]⟩
abbrev S1x1x8 : Shape := ⟨3, ![1, 1, 8]⟩
abbrev S32x4x2x4x64 : Shape := ⟨5, ![32, 4, 2, 4, 64]⟩
abbrev S32x4x4x2x64 : Shape := ⟨5, ![32, 4, 4, 2, 64]⟩
abbrev S32x4x3x4x2 : Shape := ⟨5, ![32, 4, 3, 4, 2]⟩
abbrev S32x4x256 : Shape := ⟨3, ![32, 4, 256]⟩
abbrev S32x4x2x2x64 : Shape := ⟨5, ![32, 4, 2, 2, 64]⟩
abbrev S32x516x2x2x64 : Shape := ⟨5, ![32, 516, 2, 2, 64]⟩

abbrev nBuf : Space → Nat
  | .hbm => 83
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x512x2x2x64, .f32⟩
  | .hbm, ⟨2, _⟩ => ⟨S1024, .f32⟩
  | .hbm, ⟨3, _⟩ => ⟨S1024x2848, .f32⟩
  | .hbm, ⟨4, _⟩ => ⟨S24, .f32⟩
  | .hbm, ⟨5, _⟩ => ⟨S8, .f32⟩
  | .hbm, ⟨6, _⟩ => ⟨S32x4x1024, .f32⟩
  | .hbm, ⟨7, _⟩ => ⟨S_, .f32⟩
  | .hbm, ⟨8, _⟩ => ⟨S32x4, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S32x4x1, .f32⟩
  | .hbm, ⟨17, _⟩ => ⟨S32x4x1024, .f32⟩
  | .hbm, ⟨18, _⟩ => ⟨S32x4x1024, .f32⟩
  | .hbm, ⟨19, _⟩ => ⟨S1x1x1024, .f32⟩
  | .hbm, ⟨20, _⟩ => ⟨S32x4x1024, .f32⟩
  | .hbm, ⟨21, _⟩ => ⟨S32x4x1024, .f32⟩
  | .hbm, ⟨22, _⟩ => ⟨S32x4x2848, .f32⟩
  | .hbm, ⟨23, _⟩ => ⟨S32x4x512, .f32⟩
  | .hbm, ⟨24, _⟩ => ⟨S32x4x768, .f32⟩
  | .hbm, ⟨25, _⟩ => ⟨S32x4x24, .f32⟩
  | .hbm, ⟨26, _⟩ => ⟨S32x4x512, .f32⟩
  | .hbm, ⟨27, _⟩ => ⟨S32x4x1024, .f32⟩
  | .hbm, ⟨28, _⟩ => ⟨S32x4x8, .f32⟩
  | .hbm, ⟨29, _⟩ => ⟨S1x1x24, .f32⟩
  | .hbm, ⟨30, _⟩ => ⟨S32x4x24, .f32⟩
  | .hbm, ⟨31, _⟩ => ⟨S32x4x24, .f32⟩
  | .hbm, ⟨32, _⟩ => ⟨S32x4x24, .f32⟩
  | .hbm, ⟨33, _⟩ => ⟨S32x4x24, .f32⟩
  | .hbm, ⟨34, _⟩ => ⟨S_, .f32⟩
  | .hbm, ⟨35, _⟩ => ⟨S32x4x24, .f32⟩
  | .hbm, ⟨36, _⟩ => ⟨S32x4x24, .f32⟩
  | .hbm, ⟨37, _⟩ => ⟨S_, .f32⟩
  | .hbm, ⟨38, _⟩ => ⟨S32x4x24, .f32⟩
  | .hbm, ⟨39, _⟩ => ⟨S32x4x24, .f32⟩
  | .hbm, ⟨40, _⟩ => ⟨S32x4x3x2x4, .f32⟩
  | .hbm, ⟨41, _⟩ => ⟨S1x1x8, .f32⟩
  | .hbm, ⟨42, _⟩ => ⟨S32x4x8, .f32⟩
  | .hbm, ⟨43, _⟩ => ⟨S32x4x8, .f32⟩
  | .hbm, ⟨44, _⟩ => ⟨S32x4x8, .f32⟩
  | .hbm, ⟨45, _⟩ => ⟨S_, .f32⟩
  | .hbm, ⟨46, _⟩ => ⟨S32x4x8, .f32⟩
  | .hbm, ⟨47, _⟩ => ⟨S32x4x8, .f32⟩
  | .hbm, ⟨48, _⟩ => ⟨S32x4x8, .f32⟩
  | .hbm, ⟨49, _⟩ => ⟨S32x4x8, .f32⟩
  | .hbm, ⟨50, _⟩ => ⟨S32x4x8, .i1⟩
  | .hbm, ⟨51, _⟩ => ⟨S32x4x8, .f32⟩
  | .hbm, ⟨52, _⟩ => ⟨S32x4x8, .f32⟩
  | .hbm, ⟨53, _⟩ => ⟨S32x4x8, .f32⟩
  | .hbm, ⟨54, _⟩ => ⟨S32x4x8, .f32⟩
  | .hbm, ⟨55, _⟩ => ⟨S32x4x8, .f32⟩
  | .hbm, ⟨56, _⟩ => ⟨S32x4x8, .f32⟩
  | .hbm, ⟨57, _⟩ => ⟨S32x4x8, .f32⟩
  | .hbm, ⟨58, _⟩ => ⟨S32x4x8, .f32⟩
  | .hbm, ⟨59, _⟩ => ⟨S32x4x8, .f32⟩
  | .hbm, ⟨60, _⟩ => ⟨S32x4x2x4x64, .f32⟩
  | .hbm, ⟨61, _⟩ => ⟨S32x4x4x2x64, .f32⟩
  | .hbm, ⟨62, _⟩ => ⟨S32x4x512, .f32⟩
  | .hbm, ⟨63, _⟩ => ⟨S32x4x3x4x2, .f32⟩
  | .hbm, ⟨64, _⟩ => ⟨S32x4x24, .f32⟩
  | .hbm, ⟨65, _⟩ => ⟨S32x4x256, .f32⟩
  | .hbm, ⟨66, _⟩ => ⟨S32x4x2x2x64, .f32⟩
  | .hbm, ⟨67, _⟩ => ⟨S32x516x2x2x64, .f32⟩
  | .hbm, ⟨68, _⟩ => ⟨S_, .f32⟩
  | .hbm, ⟨69, _⟩ => ⟨S32x4x512, .f32⟩
  | .hbm, ⟨70, _⟩ => ⟨S32x4x512, .f32⟩
  | .hbm, ⟨71, _⟩ => ⟨S32x4x512, .bf16⟩
  | .hbm, ⟨72, _⟩ => ⟨S32x4x512, .f32⟩
  | .hbm, ⟨73, _⟩ => ⟨S32x512x2x2x64, .f32⟩
  | .hbm, ⟨74, _⟩ => ⟨S32x4x256, .f32⟩
  | .hbm, ⟨75, _⟩ => ⟨S32x4x256, .bf16⟩
  | .hbm, ⟨76, _⟩ => ⟨S32x4x256, .f32⟩
  | .hbm, ⟨77, _⟩ => ⟨S32x4x256, .bf16⟩
  | .hbm, ⟨78, _⟩ => ⟨S_, .f32⟩
  | .hbm, ⟨79, _⟩ => ⟨S32x4x512, .f32⟩
  | .hbm, ⟨80, _⟩ => ⟨S32x4x512, .f32⟩
  | .hbm, ⟨81, _⟩ => ⟨S32x4x512, .bf16⟩
  | .hbm, ⟨82, _⟩ => ⟨S32x4x1024, .bf16⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== MixS.lean ====
abbrev S32x8x512 : Shape := ⟨3, ![32, 8, 512]⟩
abbrev S32x8x1024 : Shape := ⟨3, ![32, 8, 1024]⟩
abbrev S1024 : Shape := ⟨1, ![1024]⟩
abbrev S1024x1024 : Shape := ⟨2, ![1024, 1024]⟩
abbrev S512 : Shape := ⟨1, ![512]⟩
abbrev S8x64 : Shape := ⟨2, ![8, 64]⟩
abbrev S2x4x64 : Shape := ⟨3, ![2, 4, 64]⟩
abbrev S4x2x64 : Shape := ⟨3, ![4, 2, 64]⟩
abbrev S1x1024 : Shape := ⟨2, ![1, 1024]⟩
abbrev S512x1024 : Shape := ⟨2, ![512, 1024]⟩
abbrev S8x64x1024 : Shape := ⟨3, ![8, 64, 1024]⟩
abbrev S2x4x64x1024 : Shape := ⟨4, ![2, 4, 64, 1024]⟩
abbrev S4x2x64x1024 : Shape := ⟨4, ![4, 2, 64, 1024]⟩
abbrev S256x512 : Shape := ⟨2, ![256, 512]⟩
abbrev S256x1024 : Shape := ⟨2, ![256, 1024]⟩
abbrev S1x512 : Shape := ⟨2, ![1, 512]⟩
abbrev S256 : Shape := ⟨1, ![256]⟩
abbrev S256x1 : Shape := ⟨2, ![256, 1]⟩

abbrev nBuf : Space → Nat
  | .hbm => 29
  | .vmem => 7
  | .smem => 0
  | _ => 0

abbrev bufTy : (tb : Table) → Fin (tcTables nBuf tb) → BufTy
  | .hbm, ⟨0, _⟩ => ⟨S32x8x512, .f32⟩
  | .hbm, ⟨1, _⟩ => ⟨S32x8x512, .f32⟩
  | .hbm, ⟨2, _⟩ => ⟨S32x8x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S512, .f32⟩
  | .hbm, ⟨7, _⟩ => ⟨S8x64, .f32⟩
  | .hbm, ⟨8, _⟩ => ⟨S2x4x64, .f32⟩
  | .hbm, ⟨9, _⟩ => ⟨S4x2x64, .f32⟩
  | .hbm, ⟨10, _⟩ => ⟨S8x64, .f32⟩
  | .hbm, ⟨11, _⟩ => ⟨S512, .f32⟩
  | .hbm, ⟨12, _⟩ => ⟨S512, .f32⟩
  | .hbm, ⟨13, _⟩ => ⟨S1024, .f32⟩
  | .hbm, ⟨14, _⟩ => ⟨S1x1024, .f32⟩
  | .hbm, ⟨15, _⟩ => ⟨S512x1024, .f32⟩
  | .hbm, ⟨16, _⟩ => ⟨S8x64x1024, .f32⟩
  | .hbm, ⟨17, _⟩ => ⟨S2x4x64x1024, .f32⟩
  | .hbm, ⟨18, _⟩ => ⟨S4x2x64x1024, .f32⟩
  | .hbm, ⟨19, _⟩ => ⟨S8x64x1024, .f32⟩
  | .hbm, ⟨20, _⟩ => ⟨S512x1024, .f32⟩
  | .hbm, ⟨21, _⟩ => ⟨S512x1024, .f32⟩
  | .hbm, ⟨22, _⟩ => ⟨S1024x1024, .f32⟩
  | .hbm, ⟨23, _⟩ => ⟨S1024x1024, .bf16⟩
  | .hbm, ⟨24, _⟩ => ⟨S256x512, .f32⟩
  | .hbm, ⟨25, _⟩ => ⟨S256x512, .f32⟩
  | .hbm, ⟨26, _⟩ => ⟨S256x1024, .f32⟩
  | .hbm, ⟨27, _⟩ => ⟨S1x1024, .f32⟩
  | .hbm, ⟨28, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S256x1024, .f32⟩
  | _, _ => ⟨S32x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== MixSReferenceIdeal.lean ====
abbrev S32x8x512 : Shape := ⟨3, ![32, 8, 512]⟩
abbrev S32x8x1024 : Shape := ⟨3, ![32, 8, 1024]⟩
abbrev S1024 : Shape := ⟨1, ![1024]⟩
abbrev S1024x1024 : Shape := ⟨2, ![1024, 1024]⟩
abbrev S32x8x4x2x64 : Shape := ⟨5, ![32, 8, 4, 2, 64]⟩
abbrev S32x8x2x4x64 : Shape := ⟨5, ![32, 8, 2, 4, 64]⟩
abbrev S512 : Shape := ⟨1, ![512]⟩
abbrev S_ : Shape := ⟨0, ![]⟩
abbrev S32x8 : Shape := ⟨2, ![32, 8]⟩
abbrev S32x8x1 : Shape := ⟨3, ![32, 8, 1]⟩
abbrev S1x1x512 : Shape := ⟨3, ![1, 1, 512]⟩
abbrev S1x1x1024 : Shape := ⟨3, ![1, 1, 1024]⟩
abbrev S256x1024 : Shape := ⟨2, ![256, 1024]⟩

abbrev nBuf : Space → Nat
  | .hbm => 63
  | .vmem => 0
  | .smem => 0
  | _ => 0

abbrev bufTy : (tb : Table) → Fin (tcTables nBuf tb) → BufTy
  | .hbm, ⟨0, _⟩ => ⟨S32x8x512, .f32⟩
  | .hbm, ⟨1, _⟩ => ⟨S32x8x512, .f32⟩
  | .hbm, ⟨2, _⟩ => ⟨S32x8x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S32x8x4x2x64, .f32⟩
  | .hbm, ⟨7, _⟩ => ⟨S32x8x2x4x64, .f32⟩
  | .hbm, ⟨8, _⟩ => ⟨S32x8x512, .f32⟩
  | .hbm, ⟨9, _⟩ => ⟨S512, .f32⟩
  | .hbm, ⟨10, _⟩ => ⟨S32x8x512, .f32⟩
  | .hbm, ⟨11, _⟩ => ⟨S_, .f32⟩
  | .hbm, ⟨12, _⟩ => ⟨S32x8, .f32⟩
  | .hbm, ⟨13, _⟩ => ⟨S32x8x1, .f32⟩
  | .hbm, ⟨14, _⟩ => ⟨S_, .f32⟩
  | .hbm, ⟨15, _⟩ => ⟨S32x8x1, .f32⟩
  | .hbm, ⟨16, _⟩ => ⟨S32x8x1, .f32⟩
  | .hbm, ⟨17, _⟩ => ⟨S_, .f32⟩
  | .hbm, ⟨18, _⟩ => ⟨S32x8x1, .f32⟩
  | .hbm, ⟨19, _⟩ => ⟨S32x8x1, .f32⟩
  | .hbm, ⟨20, _⟩ => ⟨S32x8x1, .f32⟩
  | .hbm, ⟨21, _⟩ => ⟨S32x8x512, .f32⟩
  | .hbm, ⟨22, _⟩ => ⟨S32x8x512, .f32⟩
  | .hbm, ⟨23, _⟩ => ⟨S1x1x512, .f32⟩
  | .hbm, ⟨24, _⟩ => ⟨S32x8x512, .f32⟩
  | .hbm, ⟨25, _⟩ => ⟨S32x8x512, .f32⟩
  | .hbm, ⟨26, _⟩ => ⟨S512, .f32⟩
  | .hbm, ⟨27, _⟩ => ⟨S32x8x512, .f32⟩
  | .hbm, ⟨28, _⟩ => ⟨S_, .f32⟩
  | .hbm, ⟨29, _⟩ => ⟨S32x8, .f32⟩
  | .hbm, ⟨30, _⟩ => ⟨S32x8x1, .f32⟩
  | .hbm, ⟨31, _⟩ => ⟨S_, .f32⟩
  | .hbm, ⟨32, _⟩ => ⟨S32x8x1, .f32⟩
  | .hbm, ⟨33, _⟩ => ⟨S32x8x1, .f32⟩
  | .hbm, ⟨34, _⟩ => ⟨S_, .f32⟩
  | .hbm, ⟨35, _⟩ => ⟨S32x8x1, .f32⟩
  | .hbm, ⟨36, _⟩ => ⟨S32x8x1, .f32⟩
  | .hbm, ⟨37, _⟩ => ⟨S32x8x1, .f32⟩
  | .hbm, ⟨38, _⟩ => ⟨S32x8x512, .f32⟩
  | .hbm, ⟨39, _⟩ => ⟨S32x8x512, .f32⟩
  | .hbm, ⟨40, _⟩ => ⟨S1x1x512, .f32⟩
  | .hbm, ⟨41, _⟩ => ⟨S32x8x512, .f32⟩
  | .hbm, ⟨42, _⟩ => ⟨S32x8x512, .f32⟩
  | .hbm, ⟨43, _⟩ => ⟨S32x8x1024, .f32⟩
  | .hbm, ⟨44, _⟩ => ⟨S32x8x1024, .f32⟩
  | .hbm, ⟨45, _⟩ => ⟨S32x8x1024, .f32⟩
  | .hbm, ⟨46, _⟩ => ⟨S_, .f32⟩
  | .hbm, ⟨47, _⟩ => ⟨S32x8, .f32⟩
  | .hbm, ⟨48, _⟩ => ⟨S32x8x1, .f32⟩
  | .hbm, ⟨49, _⟩ => ⟨S_, .f32⟩
  | .hbm, ⟨50, _⟩ => ⟨S32x8x1, .f32⟩
  | .hbm, ⟨51, _⟩ => ⟨S32x8x1, .f32⟩
  | .hbm, ⟨52, _⟩ => ⟨S_, .f32⟩
  | .hbm, ⟨53, _⟩ => ⟨S32x8x1, .f32⟩
  | .hbm, ⟨54, _⟩ => ⟨S32x8x1, .f32⟩
  | .hbm, ⟨55, _⟩ => ⟨S32x8x1, .f32⟩
  | .hbm, ⟨56, _⟩ => ⟨S32x8x1024, .f32⟩
  | .hbm, ⟨57, _⟩ => ⟨S32x8x1024, .f32⟩
  | .hbm, ⟨58, _⟩ => ⟨S1x1x1024, .f32⟩
  | .hbm, ⟨59, _⟩ => ⟨S32x8x1024, .f32⟩
  | .hbm, ⟨60, _⟩ => ⟨S32x8x1024, .f32⟩
  | .hbm, ⟨61, _⟩ => ⟨S32x8x1024, .f32⟩
  | .hbm, ⟨62, _⟩ => ⟨S256x1024, .f32⟩
  | _, _ => ⟨S32x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== FfnS.lean ====
abbrev S32x8x1024 : Shape := ⟨3, ![32, 8, 1024]⟩
abbrev S32x2x2816 : Shape := ⟨3, ![32, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x2816 : Shape := ⟨2, ![1024, 2816]⟩
abbrev S1x1024 : Shape := ⟨2, ![1, 1024]⟩
abbrev S1x2816 : Shape := ⟨2, ![1, 2816]⟩
abbrev S_ : Shape := ⟨0, ![]⟩
abbrev S33x8x2816 : Shape := ⟨3, ![33, 8, 2816]⟩
abbrev S1 : Shape := ⟨1, ![1]⟩
abbrev S2 : Shape := ⟨1, ![2]⟩
abbrev S256x1024 : Shape := ⟨2, ![256, 1024]⟩
abbrev S264x2816 : Shape := ⟨2, ![264, 2816]⟩
abbrev S1x256x2816 : Shape := ⟨3, ![1, 256, 2816]⟩
abbrev S8x1024 : Shape := ⟨2, ![8, 1024]⟩
abbrev S264x1408 : Shape := ⟨2, ![264, 1408]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x256x1408 : Shape := ⟨3, ![1, 256, 1408]⟩
abbrev S264x1024 : Shape := ⟨2, ![264, 1024]⟩
abbrev S8 : Shape := ⟨1, ![8]⟩
abbrev S8x1 : Shape := ⟨2, ![8, 1]⟩
abbrev S256 : Shape := ⟨1, ![256]⟩
abbrev S256x1 : Shape := ⟨2, ![256, 1]⟩
abbrev S256x1408 : Shape := ⟨2, ![256, 1408]⟩
abbrev S32x8x2816 : Shape := ⟨3, ![32, 8, 2816]⟩
abbrev S32x4x2816 : Shape := ⟨3, ![32, 4, 2816]⟩
abbrev S32x6x2816 : Shape := ⟨3, ![32, 6, 2816]⟩
abbrev S32x4x1024 : Shape := ⟨3, ![32, 4, 1024]⟩

abbrev nBuf : Space → Nat
  | .hbm => 34
  | .vmem => 21
  | .smem => 0
  | _ => 0

abbrev bufTy : (tb : Table) → Fin (tcTables nBuf tb) → BufTy
  | .hbm, ⟨0, _⟩ => ⟨S32x8x1024, .f32⟩
  | .hbm, ⟨1, _⟩ => ⟨S32x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S1x2816, .f32⟩
  | .hbm, ⟨15, _⟩ => ⟨S1x1024, .f32⟩
  | .hbm, ⟨16, _⟩ => ⟨S_, .f32⟩
  | .hbm, ⟨17, _⟩ => ⟨S33x8x2816, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S33x8x2816, .f32⟩
  | .hbm, ⟨24, _⟩ => ⟨S256x1024, .f32⟩
  | .hbm, ⟨25, _⟩ => ⟨S264x2816, .f32⟩
  | .hbm, ⟨26, _⟩ => ⟨S256x1024, .f32⟩
  | .hbm, ⟨27, _⟩ => ⟨S1x256x2816, .f32⟩
  | .hbm, ⟨28, _⟩ => ⟨S32x8x2816, .f32⟩
  | .hbm, ⟨29, _⟩ => ⟨S32x4x2816, .f32⟩
  | .hbm, ⟨30, _⟩ => ⟨S32x6x2816, .f32⟩
  | .hbm, ⟨31, _⟩ => ⟨S32x8x1024, .f32⟩
  | .hbm, ⟨32, _⟩ => ⟨S32x4x1024, .f32⟩
  | .hbm, ⟨33, _⟩ => ⟨S32x2x2816, .f32⟩
  | .local _ .vmem, ⟨0, _⟩ => ⟨S256x1024, .f32⟩
  | .local _ .vmem, ⟨1, _⟩ => ⟨S8x1024, .f32⟩
  | .local _ .vmem, ⟨2, _⟩ => ⟨S264x1408, .f32⟩
  | .local _ .vmem, ⟨3, _⟩ => ⟨S264x1408, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1408x1024, .bf16⟩
  | .local _ .vmem, ⟨14, _⟩ => ⟨S1408x1024, .bf16⟩
  | .local _ .vmem, ⟨15, _⟩ => ⟨S1x1024, .f32⟩
  | .local _ .vmem, ⟨16, _⟩ => ⟨S256x1024, .f32⟩
  | .local _ .vmem, ⟨17, _⟩ => ⟨S1x256x1408, .f32⟩
  | .local _ .vmem, ⟨18, _⟩ => ⟨S1x256x1408, .f32⟩
  | .local _ .vmem, ⟨19, _⟩ => ⟨S264x1024, .bf16⟩
  | .local _ .vmem, ⟨20, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32_28 : BitVec 32 := 1#32
  let v66 : BitVec 1 := Scalar.cmpi .eq arg1 c1_i32_28
  let v67 : BitVec 32 := Scalar.extui v66
  let c0_i32_29 : BitVec 32 := 0#32
  let v68 : BitVec 1 := Scalar.cmpi .ne v67 c0_i32_29
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S264x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1408x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S1x256x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnSReferenceIdeal.lean ====
abbrev S32x8x1024 : Shape := ⟨3, ![32, 8, 1024]⟩
abbrev S32x2x2816 : Shape := ⟨3, ![32, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32x4x1024 : Shape := ⟨3, ![32, 4, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x5632 : Shape := ⟨3, ![32, 4, 5632]⟩
abbrev S32x4x2816 : Shape := ⟨3, ![32, 4, 2816]⟩
abbrev S32x6x2816 : Shape := ⟨3, ![32, 6, 2816]⟩
abbrev S1x2816 : Shape := ⟨2, ![1, 2816]⟩
abbrev S1x1x2816 : Shape := ⟨3, ![1, 1, 2816]⟩

abbrev nBuf : Space → Nat
  | .hbm => 90
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S32x4x1024, .f32⟩
  | .hbm, ⟨9, _⟩ => ⟨S32x4x1024, .f32⟩
  | .hbm, ⟨10, _⟩ => ⟨S_, .f32⟩
  | .hbm, ⟨11, _⟩ => ⟨S32x4, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S_, .f32⟩
  | .hbm, ⟨17, _⟩ => ⟨S32x4x1, .f32⟩
  | .hbm, ⟨18, _⟩ => ⟨S32x4x1, .f32⟩
  | .hbm, ⟨19, _⟩ => ⟨S32x4x1, .f32⟩
  | .hbm, ⟨20, _⟩ => ⟨S32x4x1024, .f32⟩
  | .hbm, ⟨21, _⟩ => ⟨S32x4x1024, .f32⟩
  | .hbm, ⟨22, _⟩ => ⟨S1x1x1024, .f32⟩
  | .hbm, ⟨23, _⟩ => ⟨S32x4x1024, .f32⟩
  | .hbm, ⟨24, _⟩ => ⟨S32x4x1024, .f32⟩
  | .hbm, ⟨25, _⟩ => ⟨S32x4x5632, .f32⟩
  | .hbm, ⟨26, _⟩ => ⟨S32x4x2816, .f32⟩
  | .hbm, ⟨27, _⟩ => ⟨S32x4x2816, .f32⟩
  | .hbm, ⟨28, _⟩ => ⟨S32x6x2816, .f32⟩
  | .hbm, ⟨29, _⟩ => ⟨S1x2816, .f32⟩
  | .hbm, ⟨30, _⟩ => ⟨S2816, .f32⟩
  | .hbm, ⟨31, _⟩ => ⟨S32x4x2816, .f32⟩
  | .hbm, ⟨32, _⟩ => ⟨S1x1x2816, .f32⟩
  | .hbm, ⟨33, _⟩ => ⟨S32x4x2816, .f32⟩
  | .hbm, ⟨34, _⟩ => ⟨S32x4x2816, .f32⟩
  | .hbm, ⟨35, _⟩ => ⟨S1x1x2816, .f32⟩
  | .hbm, ⟨36, _⟩ => ⟨S32x4x2816, .f32⟩
  | .hbm, ⟨37, _⟩ => ⟨S32x4x2816, .f32⟩
  | .hbm, ⟨38, _⟩ => ⟨S1x2816, .f32⟩
  | .hbm, ⟨39, _⟩ => ⟨S2816, .f32⟩
  | .hbm, ⟨40, _⟩ => ⟨S32x4x2816, .f32⟩
  | .hbm, ⟨41, _⟩ => ⟨S1x1x2816, .f32⟩
  | .hbm, ⟨42, _⟩ => ⟨S32x4x2816, .f32⟩
  | .hbm, ⟨43, _⟩ => ⟨S32x4x2816, .f32⟩
  | .hbm, ⟨44, _⟩ => ⟨S32x4x2816, .f32⟩
  | .hbm, ⟨45, _⟩ => ⟨S1x2816, .f32⟩
  | .hbm, ⟨46, _⟩ => ⟨S2816, .f32⟩
  | .hbm, ⟨47, _⟩ => ⟨S32x4x2816, .f32⟩
  | .hbm, ⟨48, _⟩ => ⟨S1x1x2816, .f32⟩
  | .hbm, ⟨49, _⟩ => ⟨S32x4x2816, .f32⟩
  | .hbm, ⟨50, _⟩ => ⟨S32x4x2816, .f32⟩
  | .hbm, ⟨51, _⟩ => ⟨S32x4x2816, .f32⟩
  | .hbm, ⟨52, _⟩ => ⟨S32x4x2816, .f32⟩
  | .hbm, ⟨53, _⟩ => ⟨S32x4x2816, .f32⟩
  | .hbm, ⟨54, _⟩ => ⟨S_, .f32⟩
  | .hbm, ⟨55, _⟩ => ⟨S32x4x2816, .f32⟩
  | .hbm, ⟨56, _⟩ => ⟨S32x4x2816, .f32⟩
  | .hbm, ⟨57, _⟩ => ⟨S32x4x2816, .f32⟩
  | .hbm, ⟨58, _⟩ => ⟨S_, .f32⟩
  | .hbm, ⟨59, _⟩ => ⟨S32x4x2816, .f32⟩
  | .hbm, ⟨60, _⟩ => ⟨S32x4x2816, .f32⟩
  | .hbm, ⟨61, _⟩ => ⟨S32x4x2816, .f32⟩
  | .hbm, ⟨62, _⟩ => ⟨S_, .f32⟩
  | .hbm, ⟨63, _⟩ => ⟨S32x4x2816, .f32⟩
  | .hbm, ⟨64, _⟩ => ⟨S32x4x2816, .f32⟩
  | .hbm, ⟨65, _⟩ => ⟨S_, .f32⟩
  | .hbm, ⟨66, _⟩ => ⟨S32x4x2816, .f32⟩
  | .hbm, ⟨67, _⟩ => ⟨S32x4x2816, .f32⟩
  | .hbm, ⟨68, _⟩ => ⟨S32x4x2816, .f32⟩
  | .hbm, ⟨69, _⟩ => ⟨S32x4x2816, .f32⟩
  | .hbm, ⟨70, _⟩ => ⟨S32x4x1024, .f32⟩
  | .hbm, ⟨71, _⟩ => ⟨S32x4x1024, .f32⟩
  | .hbm, ⟨72, _⟩ => ⟨S_, .f32⟩
  | .hbm, ⟨73, _⟩ => ⟨S32x4, .f32⟩
  | .hbm, ⟨74, _⟩ => ⟨S32x4x1, .f32⟩
  | .hbm, ⟨75, _⟩ => ⟨S_, .f32⟩
  | .hbm, ⟨76, _⟩ => ⟨S32x4x1, .f32⟩
  | .hbm, ⟨77, _⟩ => ⟨S32x4x1, .f32⟩
  | .hbm, ⟨78, _⟩ => ⟨S_, .f32⟩
  | .hbm, ⟨79, _⟩ => ⟨S32x4x1, .f32⟩
  | .hbm, ⟨80, _⟩ => ⟨S32x4x1, .f32⟩
  | .hbm, ⟨81, _⟩ => ⟨S32x4x1, .f32⟩
  | .hbm, ⟨82, _⟩ => ⟨S32x4x1024, .f32⟩
  | .hbm, ⟨83, _⟩ => ⟨S32x4x1024, .f32⟩
  | .hbm, ⟨84, _⟩ => ⟨S1x1x1024, .f32⟩
  | .hbm, ⟨85, _⟩ => ⟨S32x4x1024, .f32⟩
  | .hbm, ⟨86, _⟩ => ⟨S32x4x1024, .f32⟩
  | .hbm, ⟨87, _⟩ => ⟨S32x4x1024, .f32⟩
  | .hbm, ⟨88, _⟩ => ⟨S32x6x2816, .f32⟩
  | .hbm, ⟨89, _⟩ => ⟨S32x2x2816, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Row.lean ====
module

public import Idealize.ShloMosaic.Lib.Pointwise

/-! One row of the running softmax, over the real numbers: the sum of the weighted values seen so far, how it
    changes when the running maximum changes, and what one more tile of 512 keys adds to it. -/

@[expose] public section

noncomputable section

namespace Cert.Fox

open Idealize.ShloMosaic

/-- The sum, over the first `512 * n` keys not after `t`, of the values weighted by `exp (score - μ)`. -/
def part (σ : ℕ → ℝ) (v : ℕ → EReal) (t n : ℕ) (μ : ℝ) : EReal :=
  ∑ s ∈ Finset.range (512 * n), if s ≤ t then ((Real.exp (σ s - μ) : ℝ) : EReal) * v s else 0

/-- A nonnegative real number distributes over a finite sum of extended reals. -/
theorem coe_mul_sum {ι : Type} (S : Finset ι) (a : ℝ) (ha : 0 ≤ a) (f : ι → EReal) :
    (a : EReal) * ∑ i ∈ S, f i = ∑ i ∈ S, (a : EReal) * f i := by
  classical
  induction S using Finset.induction_on with
  | empty => simp
  | insert i S hi ih =>
    rw [Finset.sum_insert hi, Finset.sum_insert hi,
      EReal.left_distrib_of_nonneg_of_ne_top (EReal.coe_nonneg.mpr ha) (EReal.coe_ne_top a), ih]

theorem part_rescale (σ : ℕ → ℝ) (v : ℕ → EReal) (t n : ℕ) (μ μ' : ℝ) :
    ((Real.exp (μ - μ') : ℝ) : EReal) * part σ v t n μ = part σ v t n μ' := by
  unfold part
  rw [coe_mul_sum _ _ (Real.exp_pos _).le]
  refine Finset.sum_congr rfl fun s _ => ?_
  split_ifs
  · rw [← mul_assoc, ← EReal.coe_mul, ← Real.exp_add]
    congr 3; ring
  · exact mul_zero _

theorem part_succ (σ : ℕ → ℝ) (v : ℕ → EReal) (t n : ℕ) (μ : ℝ) :
    part σ v t (n + 1) μ = part σ v t n μ
      + ∑ j : Fin 512, if 512 * n + j.val ≤ t then ((Real.exp (σ (512 * n + j.val) - μ) : ℝ) : EReal) * v (512 * n + j.val) else 0 := by
  unfold part
  rw [show 512 * (n + 1) = 512 * n + 512 by ring, Finset.sum_range_add]
  exact congrArg _ (Fin.sum_univ_eq_sum_range (fun j => if 512 * n + j ≤ t then ((Real.exp (σ (512 * n + j) - μ) : ℝ) : EReal) * v (512 * n + j) else 0) 512).symm

/-- Keys after `t` count for nothing: past `t` the number of tiles no longer matters. -/
theorem part_full (σ : ℕ → ℝ) (v : ℕ → EReal) (t n N : ℕ) (μ : ℝ) (h : t < 512 * n) (hN : n ≤ N) :
    part σ v t n μ = part σ v t N μ := by
  unfold part
  refine Finset.sum_subset (fun s hs => ?_) fun s _ hs => ?_
  · rw [Finset.mem_range] at hs ⊢; omega
  · rw [Finset.mem_range] at hs; exact if_neg (by omega)

/-- The running maximum stays a real number. -/
theorem max_fold_real (μ : ℝ) (f : Fin 512 → EReal) (hf : ∀ j, f j ≠ ⊤) :
    ∃ μ' : ℝ, max (μ : EReal) (Finset.univ.fold max ⊥ f) = (μ' : EReal) := by
  have h1 : max (μ : EReal) (Finset.univ.fold max ⊥ f) ≠ ⊤ := by
    rw [Ne, max_eq_top, not_or]
    refine ⟨EReal.coe_ne_top μ, ?_⟩
    have : Finset.univ.fold max ⊥ f < ⊤ :=
      (Finset.fold_max_lt _).mpr ⟨bot_lt_top, fun j _ => lt_top_iff_ne_top.mpr (hf j)⟩
    exact this.ne
  have h2 : max (μ : EReal) (Finset.univ.fold max ⊥ f) ≠ ⊥ := by
    rw [Ne, max_eq_bot, not_and]
    exact fun h => absurd h (EReal.coe_ne_bot μ)
  exact ⟨_, (EReal.coe_toReal h1 h2).symm⟩

end Cert.Fox
-- ==== Proof.Chunk.lean ====
module

public import proofs.«01_k».proof.Proof.Gen.KernelIdeal.Skeleton
public import proofs.«01_k».proof.Proof.Row

/-! One chunk of the flash update (256 query rows against 512 keys): the new running maximum and the new
    accumulator, read at a row. -/

@[expose] public section

set_option maxRecDepth 16384

noncomputable section

namespace Cert.Fox

open Idealize.ShloMosaic Idealize.ShloMosaic.TcCoe
open Cert.KernelIdeal Cert.KernelIdeal.Gen

/-- The new running maximum of a chunk with scores `s`, the old one being `m`. -/
def newM (s : FVec Ideal S256x512 .f32) (m : FVec Ideal S256x128 .f32) : FVec Ideal S256x128 .f32 :=
  maximumf m (broadcastTo S256x128
    (shapeCast S256x1 (multiReduction .maximumf [1] S256 s 0xFF800000#32 reduces_S256x512_S256 (.inl rfl) rfl) shapeCasts_S256_S256x1)
    broadcasts_S256x1_S256x128)

/-- The new accumulator of a chunk with scores `s`, values `va` (the ones beside them), the old maximum and accumulator
    being `m` and `a`. -/
def newA (s : FVec Ideal S256x512 .f32) (m : FVec Ideal S256x128 .f32) (va : FVec Ideal S512x256 .bf16)
    (a : FVec Ideal S256x256 .f32) : FVec Ideal S256x256 .f32 :=
  addf
    (mulf (concatenate S256x256 1 [⟨S256x128, exp (subf m (newM s m))⟩, ⟨S256x128, exp (subf m (newM s m))⟩]
      concatenates_S256x128_S256x128_S256x256_d1) a)
    (matmul dot_S256x512_S512x256_S256x256_1_0_0_1_n_n none
      (truncf .bf16 (exp (subf s (concatenate S256x512 1 [⟨S256x128, newM s m⟩, ⟨S256x128, newM s m⟩, ⟨S256x128, newM s m⟩, ⟨S256x128, newM s m⟩]
        concatenates_S256x128_S256x128_S256x128_S256x128_S256x512_d1))) bitsLt_bf16_f32)
      va (constant S256x256 .f32 0x00000000#32))

/-- What is stored: the same vectors, under a shape cast that changes nothing. -/
def putM (s : FVec Ideal S256x512 .f32) (m : FVec Ideal S256x128 .f32) : FVec Ideal S256x128 .f32 :=
  shapeCast S256x128 (newM s m) shapeCasts_S256x128_S256x128
def putA (s : FVec Ideal S256x512 .f32) (m : FVec Ideal S256x128 .f32) (va : FVec Ideal S512x256 .bf16)
    (a : FVec Ideal S256x256 .f32) : FVec Ideal S256x256 .f32 :=
  shapeCast S256x256 (newA s m va a) shapeCasts_S256x256_S256x256

theorem ofBits_low : Ideal.ofBits FTy.f32 0xFF800000#32 = ⊥ := by
  simp [Ideal.ofBits, Ideal.ieee]

theorem putM_at (s : FVec Ideal S256x512 .f32) (m : FVec Ideal S256x128 .f32) (r : Fin 256) (l : Fin 128) :
    putM s m (ix2 r l) = max (m (ix2 r l)) (Finset.univ.fold max ⊥ fun j : Fin 512 => s (ix2 r j)) := by
  pointwise [putM, newM]
  rw [ofBits_low]

theorem newM_at (s : FVec Ideal S256x512 .f32) (m : FVec Ideal S256x128 .f32) (r : Fin 256) (l : Fin 128) :
    newM s m (ix2 r l) = max (m (ix2 r l)) (Finset.univ.fold max ⊥ fun j : Fin 512 => s (ix2 r j)) := by
  pointwise [newM]
  rw [ofBits_low]

theorem putA_at (s : FVec Ideal S256x512 .f32) (m : FVec Ideal S256x128 .f32) (va : FVec Ideal S512x256 .bf16)
    (a : FVec Ideal S256x256 .f32) (r : Fin 256) (μ μ' : ℝ) (hm : ∀ l : Fin 128, m (ix2 r l) = (μ : EReal))
    (hM : ∀ l : Fin 128, newM s m (ix2 r l) = (μ' : EReal)) (l : Fin 256) :
    putA s m va a (ix2 r l)
      = ((Real.exp (μ - μ') : ℝ) : EReal) * a (ix2 r l)
        + ∑ j : Fin 512, Ideal.exp (s (ix2 r j) - (μ' : EReal)) * va (ix2 j l) := by
  pointwise [putA, newA]
  simp only [hm, hM, dite_eq_ite, ite_self, ← EReal.coe_sub, Ideal.exp_coe]

/-- One chunk's update of one row: from `n` tiles to `n + 1`. -/
theorem chunk_row (s : FVec Ideal S256x512 .f32) (m : FVec Ideal S256x128 .f32) (va : FVec Ideal S512x256 .bf16)
    (a : FVec Ideal S256x256 .f32) (r : Fin 256) (σ : ℕ → ℝ) (v : ℕ → ℕ → EReal) (t n : ℕ) (μ : ℝ)
    (hm : ∀ l : Fin 128, m (ix2 r l) = (μ : EReal))
    (ha : ∀ l : Fin 256, a (ix2 r l) = part σ (fun k => v k l.val) t n μ)
    (hs : ∀ j : Fin 512, s (ix2 r j) = if 512 * n + j.val ≤ t then ((σ (512 * n + j.val) : ℝ) : EReal) else ⊥)
    (hv : ∀ (j : Fin 512) (l : Fin 256), va (ix2 j l) = v (512 * n + j.val) l.val) :
    ∃ μ' : ℝ, (∀ l : Fin 128, putM s m (ix2 r l) = (μ' : EReal))
      ∧ ∀ l : Fin 256, putA s m va a (ix2 r l) = part σ (fun k => v k l.val) t (n + 1) μ' := by
  obtain ⟨μ', hμ⟩ := max_fold_real μ (fun j : Fin 512 => s (ix2 r j)) fun j => by
    show s (ix2 r j) ≠ ⊤
    rw [hs]; split_ifs
    · exact EReal.coe_ne_top _
    · exact bot_ne_top
  have hN : ∀ l : Fin 128, newM s m (ix2 r l) = (μ' : EReal) := fun l => by rw [newM_at, hm, hμ]
  refine ⟨μ', fun l => by rw [putM_at, hm, hμ], fun l => ?_⟩
  rw [putA_at s m va a r μ μ' hm hN l, ha, part_rescale, part_succ]
  refine congrArg _ (Finset.sum_congr rfl fun j _ => ?_)
  rw [hs, hv]
  split_ifs
  · rw [← EReal.coe_sub, Ideal.exp_coe]
  · rw [EReal.bot_sub, Ideal.exp_bot, zero_mul]

end Cert.Fox
-- ==== Proof.Step.lean ====
module

public import proofs.«01_k».proof.Proof.Chunk
public import Idealize.ShloMosaic.Lib.WritesUnit
public import Idealize.ShloMosaic.Lib.WholeRead

/-! What one chunk's two stores do to the running state held in the scratch buffers. -/

@[expose] public section

set_option maxRecDepth 16384

noncomputable section

namespace Cert.Fox

open Idealize.ShloMosaic Idealize.ShloMosaic.TcCoe
open Cert.KernelIdeal Cert.KernelIdeal.Gen

/-- The scores of a chunk of queries against a tile of keys. -/
def scoreU (q : FVec Ideal S256x256 .bf16) (K : FVec Ideal S512x256 .bf16) : FVec Ideal S256x512 .f32 :=
  matmul dot_S256x256_S512x256_S256x512_1_1_0_0_n_n none q K (constant S256x512 .f32 0x00000000#32)

/-- The same on the diagonal, keys after the query masked; `r0`, `k0` the first row and the first key of the chunk. -/
def scoreM (r0 k0 : BitVec 32) (q : FVec Ideal S256x256 .bf16) (K : FVec Ideal S512x256 .bf16) : FVec Ideal S256x512 .f32 :=
  addf (scoreU q K)
    (select (cmpi .sle (addi (broadcast S256x512 k0) (iota .tc S256x512 32 [1] iota_S256x512_d1_w32))
        (addi (broadcast S256x512 r0) (iota .tc S256x512 32 [0] iota_S256x512_d0_w32)))
      (broadcast S256x512 (Scalar.ofBits .f32 0x00000000#32 : Ideal .f32))
      (broadcast S256x512 (Named.named κ "mask" 0xF1800000#32 : Ideal .f32)))

theorem scoreU_at (q : FVec Ideal S256x256 .bf16) (K : FVec Ideal S512x256 .bf16) (r : Fin 256) (j : Fin 512) :
    scoreU q K (ix2 r j) = ∑ d : Fin 256, q (ix2 r d) * K (ix2 j d) := by
  pointwise [scoreU]

theorem scoreM_at (r0 k0 : ℕ) (hr : r0 < 2048) (hk : k0 < 2048) (q : FVec Ideal S256x256 .bf16) (K : FVec Ideal S512x256 .bf16)
    (r : Fin 256) (j : Fin 512) :
    scoreM (BitVec.ofNat 32 r0) (BitVec.ofNat 32 k0) q K (ix2 r j)
      = scoreU q K (ix2 r j) + if k0 + j.val ≤ r0 + r.val then 0 else ⊥ := by
  have hs : (BitVec.ofNat 32 k0 + BitVec.ofNat 32 j.val).sle (BitVec.ofNat 32 r0 + BitVec.ofNat 32 r.val)
      = decide (k0 + j.val ≤ r0 + r.val) := by
    have := j.isLt; have := r.isLt
    rw [BitVec.sle_eq_decide]
    congr 1
    rw [← BitVec.ofNat_add, ← BitVec.ofNat_add, BitVec.toInt_eq_toNat_of_lt, BitVec.toInt_eq_toNat_of_lt] <;>
      simp only [BitVec.toNat_ofNat] <;> try omega
    rw [Nat.mod_eq_of_lt (by omega), Nat.mod_eq_of_lt (by omega)]
    exact propext Int.ofNat_le
  pointwise [scoreM]
  have hb : (Named.named κ "mask" 0xF1800000#32 : Ideal .f32) = ⊥ := rfl
  rw [hb]
  show _ + Scalar.select (BitVec.ofBool ((BitVec.ofNat 32 k0 + BitVec.ofNat 32 j.val).sle (BitVec.ofNat 32 r0 + BitVec.ofNat 32 r.val))) 0 ⊥ = _
  rw [hs]
  by_cases h : k0 + j.val ≤ r0 + r.val
  · rw [if_pos h, decide_eq_true h]; rfl
  · rw [if_neg h, decide_eq_false h]; rfl

/-- Row `R` of the state: its running maximum a real number, its accumulator the sum over the first `n` tiles. -/
def RowGood (V9 : S4096x128.Idx → EReal) (V10 : S4096x256.Idx → EReal) (σ : ℕ → ℕ → ℝ) (v : ℕ → ℕ → EReal) (t : ℕ → ℕ)
    (n : ℕ) (R : Fin 4096) : Prop :=
  ∃ μ : ℝ, (∀ l : Fin 128, V9 (ix2 R l) = (μ : EReal))
    ∧ ∀ l : Fin 256, V10 (ix2 R l) = part (σ R.val) (fun k => v k l.val) (t R.val) n μ

/-- Row `256 * j + r`. -/
abbrev rowOf (j : Fin 16) (r : Fin 256) : Fin 4096 := ⟨256 * j.val + r.val, by omega⟩

/-- The rows of the chunk `j` are updated by its two stores. -/
theorem row_new (v9 : View sig .tc .vmem S4096x128 .f32) (v10 : View sig .tc .vmem S4096x256 .f32)
    (f9 : v9.ty.Contents (Elt Ideal)) (f10 : v10.ty.Contents (Elt Ideal))
    (L9 : List (View.Piece (Elt Ideal) S4096x128 .f32)) (L10 : List (View.Piece (Elt Ideal) S4096x256 .f32))
    (σ : ℕ → ℕ → ℝ) (v : ℕ → ℕ → EReal) (t : ℕ → ℕ) (n : ℕ) (j : Fin 16) (r : Fin 256)
    (inb9 : ∀ a, (![256 * j.val, 0] : Fin 2 → ℕ) a + S256x128.size a ≤ S4096x128.size a)
    (inb10 : ∀ a, (![256 * j.val, 0] : Fin 2 → ℕ) a + S256x256.size a ≤ S4096x256.size a)
    (s : FVec Ideal S256x512 .f32) (m : FVec Ideal S256x128 .f32) (va : FVec Ideal S512x256 .bf16) (a : FVec Ideal S256x256 .f32)
    (μ : ℝ) (hm : ∀ l : Fin 128, m (ix2 r l) = (μ : EReal))
    (ha : ∀ l : Fin 256, a (ix2 r l) = part (σ (256 * j.val + r.val)) (fun k => v k l.val) (t (256 * j.val + r.val)) n μ)
    (hs : ∀ k : Fin 512, s (ix2 r k) = if 512 * n + k.val ≤ t (256 * j.val + r.val)
      then ((σ (256 * j.val + r.val) (512 * n + k.val) : ℝ) : EReal) else ⊥)
    (hv : ∀ (k : Fin 512) (l : Fin 256), va (ix2 k l) = v (512 * n + k.val) l.val) :
    RowGood (v9.read (Elt Ideal) (v9.writes (Elt Ideal) f9 (⟨Rect.unit ![256 * j.val, 0] S256x128.size inb9, putM s m⟩ :: L9)))
      (v10.read (Elt Ideal) (v10.writes (Elt Ideal) f10 (⟨Rect.unit ![256 * j.val, 0] S256x256.size inb10, putA s m va a⟩ :: L10)))
      σ v t (n + 1) (rowOf j r) := by
  obtain ⟨μ', h9, h10⟩ := chunk_row s m va a r (σ (256 * j.val + r.val)) v (t (256 * j.val + r.val)) n μ hm ha hs hv
  refine ⟨μ', fun l => ?_, fun l => ?_⟩
  · exact (View.read_writes_cons_rows_of_mem v9 f9 inb9 (putM s m) L9 (ix2 (rowOf j r) l) (ix2 r l) rfl rfl rfl).trans (h9 l)
  · exact (View.read_writes_cons_rows_of_mem v10 f10 inb10 (putA s m va a) L10 (ix2 (rowOf j r) l) (ix2 r l) rfl rfl rfl).trans (h10 l)

/-- The other rows stay as they are. -/
theorem row_old (v9 : View sig .tc .vmem S4096x128 .f32) (v10 : View sig .tc .vmem S4096x256 .f32)
    (f9 : v9.ty.Contents (Elt Ideal)) (f10 : v10.ty.Contents (Elt Ideal))
    (L9 : List (View.Piece (Elt Ideal) S4096x128 .f32)) (L10 : List (View.Piece (Elt Ideal) S4096x256 .f32))
    (j : Fin 16) (R : Fin 4096) (hR : R.val < 256 * j.val ∨ 256 * j.val + 256 ≤ R.val)
    (inb9 : ∀ a, (![256 * j.val, 0] : Fin 2 → ℕ) a + S256x128.size a ≤ S4096x128.size a)
    (inb10 : ∀ a, (![256 * j.val, 0] : Fin 2 → ℕ) a + S256x256.size a ≤ S4096x256.size a)
    (w9 : FVec Ideal S256x128 .f32) (w10 : FVec Ideal S256x256 .f32) :
    (∀ l : Fin 128, v9.read (Elt Ideal) (v9.writes (Elt Ideal) f9 (⟨Rect.unit ![256 * j.val, 0] S256x128.size inb9, w9⟩ :: L9)) (ix2 R l)
        = v9.read (Elt Ideal) (v9.writes (Elt Ideal) f9 L9) (ix2 R l))
      ∧ ∀ l : Fin 256, v10.read (Elt Ideal) (v10.writes (Elt Ideal) f10 (⟨Rect.unit ![256 * j.val, 0] S256x256.size inb10, w10⟩ :: L10)) (ix2 R l)
        = v10.read (Elt Ideal) (v10.writes (Elt Ideal) f10 L10) (ix2 R l) :=
  ⟨fun l => View.read_writes_cons_rows_of_not_mem v9 f9 inb9 w9 L9 (ix2 R l) rfl rfl hR,
   fun l => View.read_writes_cons_rows_of_not_mem v10 f10 inb10 w10 L10 (ix2 R l) rfl rfl hR⟩

end Cert.Fox
-- ==== Proof.Trip.lean ====
module

public import proofs.«01_k».proof.Proof.Step
public import proofs.«01_k».proof.Proof.Gen.KernelIdeal.Loops

/-! One trip of the loop over the full tiles takes every row from `n` tiles to `n + 1`. -/

@[expose] public section

set_option maxRecDepth 16384

noncomputable section

namespace Cert.Fox

open Idealize.ShloMosaic Idealize.ShloMosaic.TcCoe
open Cert.KernelIdeal Cert.KernelIdeal.Gen

/-- What the queries, the keys and the values are to one another: row `R`'s score on key `k` is the real number
    `σ R k`. -/
def Scores (Q KA : ℕ → ℕ → EReal) (σ : ℕ → ℕ → ℝ) : Prop :=
  ∀ R k, R < 4096 → k < 8192 → ∑ d : Fin 256, Q R d.val * KA k d.val = ((σ R k : ℝ) : EReal)

section
variable (v9 : View sig .tc .vmem S4096x128 .f32) (v10 : View sig .tc .vmem S4096x256 .f32)
  (Q KA : ℕ → ℕ → EReal) (σ : ℕ → ℕ → ℝ) (v : ℕ → ℕ → EReal) (t : ℕ → ℕ)

/-- The state inside a trip: the first `J` chunks updated, the others as the trip found them. -/
def TInv (f9 : v9.ty.Contents (Elt Ideal)) (f10 : v10.ty.Contents (Elt Ideal)) (n : ℕ)
    (L9 : List (View.Piece (Elt Ideal) S4096x128 .f32)) (L10 : List (View.Piece (Elt Ideal) S4096x256 .f32)) (J : ℕ) : Prop :=
  (∀ R : Fin 4096, R.val < 256 * J → RowGood (v9.read (Elt Ideal) (v9.writes (Elt Ideal) f9 L9))
    (v10.read (Elt Ideal) (v10.writes (Elt Ideal) f10 L10)) σ v t (n + 1) R)

theorem TInv.step {f9 : v9.ty.Contents (Elt Ideal)} {f10 : v10.ty.Contents (Elt Ideal)} {n : ℕ}
    {L9 : List (View.Piece (Elt Ideal) S4096x128 .f32)} {L10 : List (View.Piece (Elt Ideal) S4096x256 .f32)}
    (q : FVec Ideal S256x256 .bf16) (K va : FVec Ideal S512x256 .bf16) (m : FVec Ideal S256x128 .f32) (a : FVec Ideal S256x256 .f32)
    (j : Fin 16) (hn : 512 * n + 512 ≤ 8192)
    (hS : Scores Q KA σ)
    (hK : ∀ (k : Fin 512) (d : Fin 256), K (ix2 k d) = KA (512 * n + k.val) d.val)
    (hv : ∀ (k : Fin 512) (l : Fin 256), va (ix2 k l) = v (512 * n + k.val) l.val)
    (ht : ∀ R, R < 4096 → 512 * n + 512 ≤ t R + 1)
    (hq : ∀ r d : Fin 256, q (ix2 r d) = Q (256 * j.val + r.val) d.val)
    (h0 : ∀ R : Fin 4096, RowGood (v9.read (Elt Ideal) f9) (v10.read (Elt Ideal) f10) σ v t n R)
    (hm : ∀ (r : Fin 256) (l : Fin 128), m (ix2 r l) = v9.read (Elt Ideal) f9 (ix2 (rowOf j r) l))
    (ha : ∀ r l : Fin 256, a (ix2 r l) = v10.read (Elt Ideal) f10 (ix2 (rowOf j r) l))
    (h : TInv v9 v10 σ v t f9 f10 n L9 L10 j.val)
    {inb9 : ∀ a, (![256 * j.val, 0] : Fin 2 → ℕ) a + S256x128.size a ≤ S4096x128.size a}
    {inb10 : ∀ a, (![256 * j.val, 0] : Fin 2 → ℕ) a + S256x256.size a ≤ S4096x256.size a} :
    TInv v9 v10 σ v t f9 f10 n (⟨Rect.unit ![256 * j.val, 0] S256x128.size inb9, putM (scoreU q K) m⟩ :: L9)
      (⟨Rect.unit ![256 * j.val, 0] S256x256.size inb10, putA (scoreU q K) m va a⟩ :: L10) (j.val + 1) := by
  intro R hR
  by_cases hlt : R.val < 256 * j.val
  · obtain ⟨μ, h9, h10⟩ := h R hlt
    have ho := row_old v9 v10 f9 f10 L9 L10 j R (.inl hlt) inb9 inb10 (putM (scoreU q K) m) (putA (scoreU q K) m va a)
    exact ⟨μ, fun l => (ho.1 l).trans (h9 l), fun l => (ho.2 l).trans (h10 l)⟩
  · have hj := j.isLt
    obtain ⟨r, rfl⟩ : ∃ r : Fin 256, R = rowOf j r := ⟨⟨R.val - 256 * j.val, by omega⟩, Fin.ext (by show R.val = 256 * j.val + (R.val - 256 * j.val); omega)⟩
    obtain ⟨μ, h9, h10⟩ := h0 (rowOf j r)
    refine row_new v9 v10 f9 f10 L9 L10 σ v t n j r inb9 inb10 (scoreU q K) m va a μ
      (fun l => (hm r l).trans (h9 l)) (fun l => (ha r l).trans (h10 l)) (fun k => ?_) hv
    have hlast := ht (rowOf j r).val (rowOf j r).isLt
    have hk := k.isLt
    rw [scoreU_at, if_pos (by change _ ≤ t (rowOf j r).val; omega), ← hS _ _ (rowOf j r).isLt (by omega)]
    exact Finset.sum_congr rfl fun d _ => by rw [hq, hK]
end

theorem unit_idx {W : ℕ} (o : ℕ) (inb : ∀ a, (![o, 0] : Fin 2 → ℕ) a + (⟨2, ![256, W]⟩ : Shape).size a ≤ (⟨2, ![4096, W]⟩ : Shape).size a)
    (r : Fin 256) (l : Fin W) (h : o + r.val < 4096) :
    (Rect.unit (s := ⟨2, ![4096, W]⟩) ![o, 0] (⟨2, ![256, W]⟩ : Shape).size inb).toLoadRect.idx (ix2 r l) = ix2 (⟨o + r.val, h⟩ : Fin 4096) l := by
  funext a
  fin_cases a
  · exact Fin.ext (by show o + 1 * r.val = o + r.val; omega)
  · exact Fin.ext (by show 0 + 1 * l.val = l.val; omega)

section
variable (c : Dev nD) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x2048x128 .f32) (harg7 : arg7.IsWhole) (arg8 : Memref sig .tc .vmem S4096x256 .bf16) (harg8 : arg8.IsWhole) (arg9 : Memref sig .tc .vmem S4096x128 .f32) (harg9 : arg9.IsWhole) (arg10 : Memref sig .tc .vmem S4096x256 .f32) (harg10 : arg10.IsWhole) (arg2 : BitVec 32) (v2 : IVec S2048x128 32) (v27 : FVec Ideal S2048x256 .f32) (v33 : FVec Ideal S2048x128 .f32) (v36 : IVec S2048x128 32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty)
  (Q KA : ℕ → ℕ → EReal) (σ : ℕ → ℕ → ℝ) (v : ℕ → ℕ → EReal) (t : ℕ → ℕ)

/-- The keys (and the bias columns beside them) of trip `k`. -/
abbrev tripK (k : Fin (k0_t1_loop i).trips) : FVec Ideal S512x256 .bf16 :=
  k0_pay2 (View.readAt (Elt Ideal) arg4.view (Rect.unit (s := S1x8192x128) (k0_off1 i k) S1x512x128.size (k0_off1_inb i k)).toLoadRect X_arg4)
    (View.readAt (Elt Ideal) arg6.view (Rect.unit (s := S1x8192x128) (k0_off1 i k) S1x512x128.size (k0_off1_inb i k)).toLoadRect X_arg6)

/-- The values (and the ones beside them) of trip `k`. -/
abbrev tripV (k : Fin (k0_t1_loop i).trips) : FVec Ideal S512x256 .bf16 :=
  k0_pay3 (View.readAt (Elt Ideal) arg5.view (Rect.unit (s := S1x8192x128) (k0_off1 i k) S1x512x128.size (k0_off1_inb i k)).toLoadRect X_arg5)

theorem trip_good (k : Fin (k0_t1_loop i).trips) (f9 : BufTy.Contents (Elt Ideal) arg9.view.ty) (f10 : BufTy.Contents (Elt Ideal) arg10.view.ty)
    (n : ℕ) (hn : 512 * n + 512 ≤ 8192)
    (hS : Scores Q KA σ)
    (hK : ∀ (p : Fin 512) (d : Fin 256), tripK i arg4 arg6 X_arg4 X_arg6 k (ix2 p d) = KA (512 * n + p.val) d.val)
    (hv : ∀ (p : Fin 512) (l : Fin 256), tripV i arg5 X_arg5 k (ix2 p l) = v (512 * n + p.val) l.val)
    (ht : ∀ R, R < 4096 → 512 * n + 512 ≤ t R + 1)
    (hq : ∀ (R : Fin 4096) (d : Fin 256), arg8.view.read (Elt Ideal) X_arg8 (ix2 R d) = Q R.val d.val)
    (h0 : ∀ R : Fin 4096, RowGood (arg9.view.read (Elt Ideal) f9) (arg10.view.read (Elt Ideal) f10) σ v t n R) (R : Fin 4096) :
    RowGood
      (arg9.view.read (Elt Ideal) (arg9.view.writes (Elt Ideal) f9 (tripL_k0_t1 (F := Ideal) Variants.none c none i arg3 harg3 arg4 harg4 arg5 harg5 arg6 harg6 arg7 harg7 arg8 harg8 arg9 harg9 arg10 harg10 arg2 v2 v27 v33 v36 X_arg4 X_arg5 X_arg6 X_arg8 k f9 f10).1))
      (arg10.view.read (Elt Ideal) (arg10.view.writes (Elt Ideal) f10 (tripL_k0_t1 (F := Ideal) Variants.none c none i arg3 harg3 arg4 harg4 arg5 harg5 arg6 harg6 arg7 harg7 arg8 harg8 arg9 harg9 arg10 harg10 arg2 v2 v27 v33 v36 X_arg4 X_arg5 X_arg6 X_arg8 k f9 f10).2))
      σ v t (n + 1) R := by
  have key : TInv arg9.view arg10.view σ v t f9 f10 n
      (tripL_k0_t1 (F := Ideal) Variants.none c none i arg3 harg3 arg4 harg4 arg5 harg5 arg6 harg6 arg7 harg7 arg8 harg8 arg9 harg9 arg10 harg10 arg2 v2 v27 v33 v36 X_arg4 X_arg5 X_arg6 X_arg8 k f9 f10).1
      (tripL_k0_t1 (F := Ideal) Variants.none c none i arg3 harg3 arg4 harg4 arg5 harg5 arg6 harg6 arg7 harg7 arg8 harg8 arg9 harg9 arg10 harg10 arg2 v2 v27 v33 v36 X_arg4 X_arg5 X_arg6 X_arg8 k f9 f10).2
      16 := by
    have st : ∀ (j : Fin 16) (inb8 : ∀ a, (![256 * j.val, 0] : Fin 2 → ℕ) a + S256x256.size a ≤ S4096x256.size a)
        (inb9 : ∀ a, (![256 * j.val, 0] : Fin 2 → ℕ) a + S256x128.size a ≤ S4096x128.size a)
        (L9 L10),
        TInv arg9.view arg10.view σ v t f9 f10 n L9 L10 j.val →
        TInv arg9.view arg10.view σ v t f9 f10 n
          (⟨Rect.unit ![256 * j.val, 0] S256x128.size inb9, putM (scoreU (View.readAt (Elt Ideal) arg8.view (Rect.unit (s := S4096x256) ![256 * j.val, 0] S256x256.size inb8).toLoadRect X_arg8) (tripK i arg4 arg6 X_arg4 X_arg6 k))
            (View.readAt (Elt Ideal) arg9.view (Rect.unit (s := S4096x128) ![256 * j.val, 0] S256x128.size inb9).toLoadRect f9)⟩ :: L9)
          (⟨Rect.unit ![256 * j.val, 0] S256x256.size inb8, putA (scoreU (View.readAt (Elt Ideal) arg8.view (Rect.unit (s := S4096x256) ![256 * j.val, 0] S256x256.size inb8).toLoadRect X_arg8) (tripK i arg4 arg6 X_arg4 X_arg6 k))
            (View.readAt (Elt Ideal) arg9.view (Rect.unit (s := S4096x128) ![256 * j.val, 0] S256x128.size inb9).toLoadRect f9) (tripV i arg5 X_arg5 k)
            (View.readAt (Elt Ideal) arg10.view (Rect.unit (s := S4096x256) ![256 * j.val, 0] S256x256.size inb8).toLoadRect f10)⟩ :: L10) (j.val + 1) := by
      intro j inb8 inb9 L9 L10 h
      refine TInv.step arg9.view arg10.view Q KA σ v t _ _ _ _ _ j hn hS hK hv ht ?_ h0 ?_ ?_ h
      · exact fun r d => (congrArg (arg8.view.read (Elt Ideal) X_arg8) (unit_idx _ inb8 r d (rowOf j r).isLt)).trans (hq (rowOf j r) d)
      · exact fun r l => congrArg (arg9.view.read (Elt Ideal) f9) (unit_idx _ inb9 r l (rowOf j r).isLt)
      · exact fun r l => congrArg (arg10.view.read (Elt Ideal) f10) (unit_idx _ inb8 r l (rowOf j r).isLt)
    unfold tripL_k0_t1 trip_k0_t1
    dsimp only
    refine st 15 _ _ _ _ (st 14 _ _ _ _ (st 13 _ _ _ _ (st 12 _ _ _ _ (st 11 _ _ _ _ (st 10 _ _ _ _ (st 9 _ _ _ _
      (st 8 _ _ _ _ (st 7 _ _ _ _ (st 6 _ _ _ _ (st 5 _ _ _ _ (st 4 _ _ _ _ (st 3 _ _ _ _ (st 2 _ _ _ _ (st 1 _ _ _ _
        (st 0 _ _ _ _ fun R hR => absurd hR (Nat.not_lt_zero _))))))))))))))))
  exact key R R.isLt

/-- The whole loop: before trip `k` every row has seen `k` tiles. -/
theorem loop_good (G9 : BufTy.Contents (Elt Ideal) arg9.view.ty) (G10 : BufTy.Contents (Elt Ideal) arg10.view.ty)
    (hS : Scores Q KA σ)
    (hK : ∀ (k : Fin (k0_t1_loop i).trips) (p : Fin 512) (d : Fin 256), tripK i arg4 arg6 X_arg4 X_arg6 k (ix2 p d) = KA (512 * k.val + p.val) d.val)
    (hv : ∀ (k : Fin (k0_t1_loop i).trips) (p : Fin 512) (l : Fin 256), tripV i arg5 X_arg5 k (ix2 p l) = v (512 * k.val + p.val) l.val)
    (hn : ∀ k : Fin (k0_t1_loop i).trips, 512 * k.val + 512 ≤ 8192)
    (ht : ∀ (k : Fin (k0_t1_loop i).trips) R, R < 4096 → 512 * k.val + 512 ≤ t R + 1)
    (hq : ∀ (R : Fin 4096) (d : Fin 256), arg8.view.read (Elt Ideal) X_arg8 (ix2 R d) = Q R.val d.val)
    (h0 : ∀ R : Fin 4096, RowGood (arg9.view.read (Elt Ideal) G9) (arg10.view.read (Elt Ideal) G10) σ v t 0 R)
    (n : ℕ) (hle : n ≤ (k0_t1_loop i).trips) (R : Fin 4096) :
    RowGood
      (arg9.view.read (Elt Ideal) (arg9.view.writes (Elt Ideal) G9 (pb_k0_t1 (F := Ideal) Variants.none c none i arg3 harg3 arg4 harg4 arg5 harg5 arg6 harg6 arg7 harg7 arg8 harg8 arg9 harg9 arg10 harg10 arg2 v2 v27 v33 v36 X_arg4 X_arg5 X_arg6 X_arg8 G9 G10 n).1))
      (arg10.view.read (Elt Ideal) (arg10.view.writes (Elt Ideal) G10 (pb_k0_t1 (F := Ideal) Variants.none c none i arg3 harg3 arg4 harg4 arg5 harg5 arg6 harg6 arg7 harg7 arg8 harg8 arg9 harg9 arg10 harg10 arg2 v2 v27 v33 v36 X_arg4 X_arg5 X_arg6 X_arg8 G9 G10 n).2))
      σ v t n R := by
  induction n generalizing R with
  | zero => exact h0 R
  | succ n ih =>
    have e := pb_k0_t1_succ (F := Ideal) Variants.none c none i arg3 harg3 arg4 harg4 arg5 harg5 arg6 harg6 arg7 harg7 arg8 harg8 arg9 harg9 arg10 harg10 arg2 v2 v27 v33 v36 X_arg4 X_arg5 X_arg6 X_arg8 G9 G10 ⟨n, hle⟩
    rw [e]
    dsimp only
    rw [View.writes_append, View.writes_append]
    exact trip_good c i arg3 harg3 arg4 harg4 arg5 harg5 arg6 harg6 arg7 harg7 arg8 harg8 arg9 harg9 arg10 harg10 arg2 v2 v27 v33 v36 X_arg4 X_arg5 X_arg6 X_arg8 Q KA σ v t ⟨n, hle⟩ _ _ n (hn ⟨n, hle⟩) hS (hK ⟨n, hle⟩) (hv ⟨n, hle⟩) (ht ⟨n, hle⟩) hq
      (ih (Nat.le_of_succ_le hle)) R
end

end Cert.Fox
-- ==== Proof.Diag.lean ====
module

public import proofs.«01_k».proof.Proof.Trip
public import proofs.«01_k».proof.Proof.Gen.KernelIdeal.Frame

/-! The tiles on the diagonal, run after the loop: each chunk takes those that are not wholly after it, so that in the end
    every row has seen all the keys up to its own position. -/

@[expose] public section

set_option maxRecDepth 200000

noncomputable section

namespace Cert.Fox

open Idealize.ShloMosaic Idealize.ShloMosaic.TcCoe
open Cert.KernelIdeal Cert.KernelIdeal.Gen

section
variable (v8 : View sig .tc .vmem S4096x256 .bf16) (v9 : View sig .tc .vmem S4096x128 .f32) (v10 : View sig .tc .vmem S4096x256 .f32)
  (Q KA : ℕ → ℕ → EReal) (σ : ℕ → ℕ → ℝ) (v : ℕ → ℕ → EReal) (qi : ℕ)

/-- The position of row `R`: both heads' rows lie one after the other, 2048 of each. -/
def pos (qi R : ℕ) : ℕ := 2048 * qi + R % 2048

/-- The state on the diagonal: chunk `j` has seen the loop's `4 * qi` tiles and one more for each time it is in `js`. -/
def DInv (L9 : List (View.Piece (Elt Ideal) S4096x128 .f32)) (L10 : List (View.Piece (Elt Ideal) S4096x256 .f32)) (js : List ℕ) : Prop :=
  ∀ R : Fin 4096, RowGood (v9.read (Elt Ideal) (v9.writes (Elt Ideal) v9.junk L9))
    (v10.read (Elt Ideal) (v10.writes (Elt Ideal) v10.junk L10)) σ v (pos qi) (4 * qi + js.count (R.val / 256)) R

variable {v9 v10 σ v qi} in
theorem DInv.step {L9 : List (View.Piece (Elt Ideal) S4096x128 .f32)} {L10 : List (View.Piece (Elt Ideal) S4096x256 .f32)} {js : List ℕ}
    (h : DInv v9 v10 σ v qi L9 L10 js) (s : FVec Ideal S256x512 .f32) (va : FVec Ideal S512x256 .bf16) (j : Fin 16) (dg : ℕ)
    (hj : js.count j.val = dg)
    (hs : ∀ (r : Fin 256) (k : Fin 512), s (ix2 r k) = if 512 * (4 * qi + dg) + k.val ≤ pos qi (256 * j.val + r.val)
      then ((σ (256 * j.val + r.val) (512 * (4 * qi + dg) + k.val) : ℝ) : EReal) else ⊥)
    (hv : ∀ (k : Fin 512) (l : Fin 256), va (ix2 k l) = v (512 * (4 * qi + dg) + k.val) l.val)
    (inb9 : ∀ a, (![256 * j.val, 0] : Fin 2 → ℕ) a + S256x128.size a ≤ S4096x128.size a)
    (inb10 : ∀ a, (![256 * j.val, 0] : Fin 2 → ℕ) a + S256x256.size a ≤ S4096x256.size a) :
    DInv v9 v10 σ v qi
      (⟨Rect.unit ![256 * j.val, 0] S256x128.size inb9, putM s (v9.readCov L9 (Rect.unit (s := S4096x128) ![256 * j.val, 0] S256x128.size inb9).toLoadRect)⟩ :: L9)
      (⟨Rect.unit ![256 * j.val, 0] S256x256.size inb10, putA s (v9.readCov L9 (Rect.unit (s := S4096x128) ![256 * j.val, 0] S256x128.size inb9).toLoadRect) va
        (v10.readCov L10 (Rect.unit (s := S4096x256) ![256 * j.val, 0] S256x256.size inb10).toLoadRect)⟩ :: L10)
      (j.val :: js) := by
  intro R
  by_cases hR : R.val / 256 = j.val
  · obtain ⟨r, rfl⟩ : ∃ r : Fin 256, R = rowOf j r := ⟨⟨R.val - 256 * j.val, by omega⟩, Fin.ext (by show R.val = 256 * j.val + (R.val - 256 * j.val); omega)⟩
    rw [hR, List.count_cons_self, hj, ← Nat.add_assoc]
    have h' := h (rowOf j r)
    rw [hR, hj] at h'
    obtain ⟨μ, h9, h10⟩ := h'
    refine row_new v9 v10 v9.junk v10.junk L9 L10 σ v (pos qi) (4 * qi + dg) j r inb9 inb10 s _ va _ μ
      (fun l => ?_) (fun l => ?_) (hs r) hv
    · exact (congrArg (v9.read (Elt Ideal) (v9.writes (Elt Ideal) v9.junk L9)) (unit_idx _ inb9 r l (rowOf j r).isLt)).trans (h9 l)
    · exact (congrArg (v10.read (Elt Ideal) (v10.writes (Elt Ideal) v10.junk L10)) (unit_idx _ inb10 r l (rowOf j r).isLt)).trans (h10 l)
  · rw [List.count_cons_of_ne (Ne.symm hR)]
    obtain ⟨μ, h9, h10⟩ := h R
    have ho := row_old v9 v10 v9.junk v10.junk L9 L10 j R (by omega) inb9 inb10
      (putM s (v9.readCov L9 (Rect.unit (s := S4096x128) ![256 * j.val, 0] S256x128.size inb9).toLoadRect))
      (putA s (v9.readCov L9 (Rect.unit (s := S4096x128) ![256 * j.val, 0] S256x128.size inb9).toLoadRect) va
        (v10.readCov L10 (Rect.unit (s := S4096x256) ![256 * j.val, 0] S256x256.size inb10).toLoadRect))
    exact ⟨μ, fun l => (ho.1 l).trans (h9 l), fun l => (ho.2 l).trans (h10 l)⟩

variable {v9 v10 σ v qi Q KA} in
/-- A chunk wholly after the tile's keys. -/
theorem DInv.stepU (L8 : List (View.Piece (Elt Ideal) S4096x256 .bf16)) (K va : Fin 4 → FVec Ideal S512x256 .bf16)
    (hqi : qi < 4) (hS : Scores Q KA σ)
    (hQ : ∀ (R : Fin 4096) (d : Fin 256), v8.read (Elt Ideal) (v8.writes (Elt Ideal) v8.junk L8) (ix2 R d) = Q R.val d.val)
    (hK : ∀ (dg : Fin 4) (p : Fin 512) (d : Fin 256), K dg (ix2 p d) = KA (512 * (4 * qi + dg.val) + p.val) d.val)
    (hv : ∀ (dg : Fin 4) (k : Fin 512) (l : Fin 256), va dg (ix2 k l) = v (512 * (4 * qi + dg.val) + k.val) l.val)
    {L9 : List (View.Piece (Elt Ideal) S4096x128 .f32)} {L10 : List (View.Piece (Elt Ideal) S4096x256 .f32)} {js : List ℕ}
    (j : Fin 16) (dg : Fin 4) (hj : js.count j.val = dg.val) (hlt : dg.val < j.val % 8 / 2)
    (inb9 : ∀ a, (![256 * j.val, 0] : Fin 2 → ℕ) a + S256x128.size a ≤ S4096x128.size a)
    (inb10 : ∀ a, (![256 * j.val, 0] : Fin 2 → ℕ) a + S256x256.size a ≤ S4096x256.size a)
    (h : DInv v9 v10 σ v qi L9 L10 js) :
    DInv v9 v10 σ v qi
      (⟨Rect.unit ![256 * j.val, 0] S256x128.size inb9, putM (scoreU (v8.readCov L8 (Rect.unit (s := S4096x256) ![256 * j.val, 0] S256x256.size inb10).toLoadRect) (K dg))
        (v9.readCov L9 (Rect.unit (s := S4096x128) ![256 * j.val, 0] S256x128.size inb9).toLoadRect)⟩ :: L9)
      (⟨Rect.unit ![256 * j.val, 0] S256x256.size inb10, putA (scoreU (v8.readCov L8 (Rect.unit (s := S4096x256) ![256 * j.val, 0] S256x256.size inb10).toLoadRect) (K dg))
        (v9.readCov L9 (Rect.unit (s := S4096x128) ![256 * j.val, 0] S256x128.size inb9).toLoadRect) (va dg)
        (v10.readCov L10 (Rect.unit (s := S4096x256) ![256 * j.val, 0] S256x256.size inb10).toLoadRect)⟩ :: L10)
      (j.val :: js) := by
  refine h.step _ (va dg) j dg.val hj (fun r k => ?_) (hv dg) inb9 inb10
  have hk := k.isLt
  have hr := r.isLt
  rw [scoreU_at, if_pos (by unfold pos; omega), ← hS _ _ (rowOf j r).isLt (by omega)]
  exact Finset.sum_congr rfl fun d _ => by
    rw [hK dg]
    exact congrArg (· * _) ((congrArg (v8.read (Elt Ideal) (v8.writes (Elt Ideal) v8.junk L8)) (unit_idx _ inb10 r d (rowOf j r).isLt)).trans (hQ (rowOf j r) d))

variable {v9 v10 σ v qi Q KA} in
/-- A chunk across which the diagonal of the tile runs: later keys masked. -/
theorem DInv.stepM (L8 : List (View.Piece (Elt Ideal) S4096x256 .bf16)) (K va : Fin 4 → FVec Ideal S512x256 .bf16)
    (hqi : qi < 4) (hS : Scores Q KA σ)
    (hQ : ∀ (R : Fin 4096) (d : Fin 256), v8.read (Elt Ideal) (v8.writes (Elt Ideal) v8.junk L8) (ix2 R d) = Q R.val d.val)
    (hK : ∀ (dg : Fin 4) (p : Fin 512) (d : Fin 256), K dg (ix2 p d) = KA (512 * (4 * qi + dg.val) + p.val) d.val)
    (hv : ∀ (dg : Fin 4) (k : Fin 512) (l : Fin 256), va dg (ix2 k l) = v (512 * (4 * qi + dg.val) + k.val) l.val)
    {L9 : List (View.Piece (Elt Ideal) S4096x128 .f32)} {L10 : List (View.Piece (Elt Ideal) S4096x256 .f32)} {js : List ℕ}
    (j : Fin 16) (dg : Fin 4) (hj : js.count j.val = dg.val)
    (inb9 : ∀ a, (![256 * j.val, 0] : Fin 2 → ℕ) a + S256x128.size a ≤ S4096x128.size a)
    (inb10 : ∀ a, (![256 * j.val, 0] : Fin 2 → ℕ) a + S256x256.size a ≤ S4096x256.size a)
    (h : DInv v9 v10 σ v qi L9 L10 js) :
    DInv v9 v10 σ v qi
      (⟨Rect.unit ![256 * j.val, 0] S256x128.size inb9, putM (scoreM (BitVec.ofNat 32 (256 * (j.val % 8))) (BitVec.ofNat 32 (512 * dg.val)) (v8.readCov L8 (Rect.unit (s := S4096x256) ![256 * j.val, 0] S256x256.size inb10).toLoadRect) (K dg))
        (v9.readCov L9 (Rect.unit (s := S4096x128) ![256 * j.val, 0] S256x128.size inb9).toLoadRect)⟩ :: L9)
      (⟨Rect.unit ![256 * j.val, 0] S256x256.size inb10, putA (scoreM (BitVec.ofNat 32 (256 * (j.val % 8))) (BitVec.ofNat 32 (512 * dg.val)) (v8.readCov L8 (Rect.unit (s := S4096x256) ![256 * j.val, 0] S256x256.size inb10).toLoadRect) (K dg))
        (v9.readCov L9 (Rect.unit (s := S4096x128) ![256 * j.val, 0] S256x128.size inb9).toLoadRect) (va dg)
        (v10.readCov L10 (Rect.unit (s := S4096x256) ![256 * j.val, 0] S256x256.size inb10).toLoadRect)⟩ :: L10)
      (j.val :: js) := by
  refine h.step _ (va dg) j dg.val hj (fun r k => ?_) (hv dg) inb9 inb10
  have hk := k.isLt
  have hr := r.isLt
  have hd := dg.isLt
  rw [scoreM_at _ _ (by omega) (by omega), scoreU_at]
  have hsum : ∑ d : Fin 256, (v8.readCov L8 (Rect.unit (s := S4096x256) ![256 * j.val, 0] S256x256.size inb10).toLoadRect : FVec Ideal S256x256 .bf16) (ix2 r d) * K dg (ix2 k d)
      = ((σ (256 * j.val + r.val) (512 * (4 * qi + dg.val) + k.val) : ℝ) : EReal) := by
    rw [← hS _ _ (rowOf j r).isLt (by omega)]
    exact Finset.sum_congr rfl fun d _ => by
      rw [hK dg]
      exact congrArg (· * _) ((congrArg (v8.read (Elt Ideal) (v8.writes (Elt Ideal) v8.junk L8)) (unit_idx _ inb10 r d (rowOf j r).isLt)).trans (hQ (rowOf j r) d))
  rw [hsum]
  by_cases hc : 512 * dg.val + k.val ≤ 256 * (j.val % 8) + r.val
  · rw [if_pos hc, if_pos (by unfold pos; omega), add_zero]
  · rw [if_neg hc, if_neg (by unfold pos; omega), EReal.add_bot]
end

section
variable (c : Dev nD) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x2048x128 .f32) (harg7 : arg7.IsWhole) (arg8 : Memref sig .tc .vmem S4096x256 .bf16) (harg8 : arg8.IsWhole) (arg9 : Memref sig .tc .vmem S4096x128 .f32) (harg9 : arg9.IsWhole) (arg10 : Memref sig .tc .vmem S4096x256 .f32) (harg10 : arg10.IsWhole)
  (x0 : Vec Ideal S1x2048x128 .bf16) (x1 : Vec Ideal S1x8192x128 .bf16) (x2 : Vec Ideal S1x8192x128 .bf16) (x3 : Vec Ideal S1x8192x128 .bf16)
  (Q KA : ℕ → ℕ → EReal) (σ : ℕ → ℕ → ℝ) (v : ℕ → ℕ → EReal) (qi : ℕ)

/-- The keys (and the bias columns beside them) of tile `dg` of the diagonal. -/
abbrev diagK (dg : Fin 4) : FVec Ideal S512x256 .bf16 :=
  k0_pay2 (View.readAt (Elt Ideal) arg4.view (Rect.unit (s := S1x8192x128) (k0_off3 i (BitVec.ofNat 32 dg.val)) S1x512x128.size (k0_off3_inb i dg)).toLoadRect (harg4.unread x1))
    (View.readAt (Elt Ideal) arg6.view (Rect.unit (s := S1x8192x128) (k0_off3 i (BitVec.ofNat 32 dg.val)) S1x512x128.size (k0_off3_inb i dg)).toLoadRect (harg6.unread x3))

/-- The values (and the ones beside them) of tile `dg` of the diagonal. -/
abbrev diagV (dg : Fin 4) : FVec Ideal S512x256 .bf16 :=
  k0_pay3 (View.readAt (Elt Ideal) arg5.view (Rect.unit (s := S1x8192x128) (k0_off3 i (BitVec.ofNat 32 dg.val)) S1x512x128.size (k0_off3_inb i dg)).toLoadRect (harg5.unread x2))

theorem low_real : ∃ μ : ℝ, Ideal.ofBits .f32 0xFE967699#32 = (μ : EReal) := by
  simp only [Ideal.ofBits, Ideal.ieee]
  exact ⟨_, rfl⟩

theorem init_good (R : Fin 4096) :
    RowGood (arg9.view.read (Elt Ideal) (arg9.view.writes (Elt Ideal) arg9.view.junk (kernelRun0_A.sl.HS1_1 (F := Ideal))))
      (arg10.view.read (Elt Ideal) (arg10.view.writes (Elt Ideal) arg10.view.junk (kernelRun0_A.sl.HS2_1 (F := Ideal)))) σ v (pos qi) 0 R := by
  obtain ⟨μ, hμ⟩ := low_real
  refine ⟨μ, fun l => ?_, fun l => ?_⟩
  · refine (View.read_writes_cons_rows_of_mem (Val := Elt Ideal) arg9.view arg9.view.junk inb_S4096x128_S4096x128_0_0 (k0_pay145 (F := Ideal)) [] (ix2 R l) (ix2 R l) (o := 0) rfl (Nat.zero_add _).symm rfl).trans ?_
    pointwise [k0_pay145]
    exact hμ
  · refine (View.read_writes_cons_rows_of_mem (Val := Elt Ideal) arg10.view arg10.view.junk inb_S4096x256_S4096x256_0_0 (k0_pay146 (F := Ideal)) [] (ix2 R l) (ix2 R l) (o := 0) rfl (Nat.zero_add _).symm rfl).trans ?_
    pointwise [k0_pay146]
    rfl

theorem diag_good (hqi : qi < 4) (ht1 : (k0_t1_loop i).trips = 4 * qi) (ht2 : (k0_t2_loop i).trips = 0)
    (hK1 : ∀ (k : Fin (k0_t1_loop i).trips) (p : Fin 512) (d : Fin 256), tripK i arg4 arg6 (harg4.unread x1) (harg6.unread x3) k (ix2 p d) = KA (512 * k.val + p.val) d.val)
    (hv1 : ∀ (k : Fin (k0_t1_loop i).trips) (p : Fin 512) (l : Fin 256), tripV i arg5 (harg5.unread x2) k (ix2 p l) = v (512 * k.val + p.val) l.val)
    (hS : Scores Q KA σ)
    (hQ : ∀ (R : Fin 4096) (d : Fin 256), arg8.view.read (Elt Ideal) (arg8.view.writes (Elt Ideal) arg8.view.junk (kernelRun0_A.sl.HS0_1 (F := Ideal) c i arg3 harg3 x0)) (ix2 R d) = Q R.val d.val)
    (hK : ∀ (dg : Fin 4) (p : Fin 512) (d : Fin 256), diagK i arg4 harg4 arg6 harg6 x1 x3 dg (ix2 p d) = KA (512 * (4 * qi + dg.val) + p.val) d.val)
    (hv : ∀ (dg : Fin 4) (k : Fin 512) (l : Fin 256), diagV i arg5 harg5 x2 dg (ix2 k l) = v (512 * (4 * qi + dg.val) + k.val) l.val) :
    ∃ L9, DInv arg9.view arg10.view σ v qi L9
      (kernelRun0_A.sl.HS2_40 (F := Ideal) c i arg3 harg3 arg4 harg4 arg5 harg5 arg6 harg6 arg7 harg7 arg8 harg8 arg9 harg9 arg10 harg10 x0 x1 x2 x3)
      [15, 14, 7, 6, 15, 14, 13, 12, 7, 6, 5, 4, 15, 14, 13, 12, 11, 10, 7, 6, 5, 4, 3, 2, 15, 14, 13, 12, 11, 10, 9, 8, 7, 6, 5, 4, 3, 2, 1, 0] := by
  have sU := @DInv.stepU arg8.view arg9.view arg10.view Q KA σ v qi (kernelRun0_A.sl.HS0_1 (F := Ideal) c i arg3 harg3 x0)
    (diagK i arg4 harg4 arg6 harg6 x1 x3) (diagV i arg5 harg5 x2) hqi hS hQ hK hv
  have sM := @DInv.stepM arg8.view arg9.view arg10.view Q KA σ v qi (kernelRun0_A.sl.HS0_1 (F := Ideal) c i arg3 harg3 x0)
    (diagK i arg4 harg4 arg6 harg6 x1 x3) (diagV i arg5 harg5 x2) hqi hS hQ hK hv
  refine ⟨_, sM 15 3 (by decide) _ _ ?_⟩
  refine sM 14 3 (by decide) _ _ (sM 7 3 (by decide) _ _ (sM 6 3 (by decide) _ _ ?_))
  refine sU 15 2 (by decide) (by decide) _ _ (sU 14 2 (by decide) (by decide) _ _ (sM 13 2 (by decide) _ _ ?_))
  refine sM 12 2 (by decide) _ _ (sU 7 2 (by decide) (by decide) _ _ (sU 6 2 (by decide) (by decide) _ _ ?_))
  refine sM 5 2 (by decide) _ _ (sM 4 2 (by decide) _ _ (sU 15 1 (by decide) (by decide) _ _ ?_))
  refine sU 14 1 (by decide) (by decide) _ _ (sU 13 1 (by decide) (by decide) _ _ (sU 12 1 (by decide) (by decide) _ _ ?_))
  refine sM 11 1 (by decide) _ _ (sM 10 1 (by decide) _ _ (sU 7 1 (by decide) (by decide) _ _ ?_))
  refine sU 6 1 (by decide) (by decide) _ _ (sU 5 1 (by decide) (by decide) _ _ (sU 4 1 (by decide) (by decide) _ _ ?_))
  refine sM 3 1 (by decide) _ _ (sM 2 1 (by decide) _ _ (sU 15 0 (by decide) (by decide) _ _ ?_))
  refine sU 14 0 (by decide) (by decide) _ _ (sU 13 0 (by decide) (by decide) _ _ (sU 12 0 (by decide) (by decide) _ _ ?_))
  refine sU 11 0 (by decide) (by decide) _ _ (sU 10 0 (by decide) (by decide) _ _ (sM 9 0 (by decide) _ _ ?_))
  refine sM 8 0 (by decide) _ _ (sU 7 0 (by decide) (by decide) _ _ (sU 6 0 (by decide) (by decide) _ _ ?_))
  refine sU 5 0 (by decide) (by decide) _ _ (sU 4 0 (by decide) (by decide) _ _ (sU 3 0 (by decide) (by decide) _ _ ?_))
  refine sU 2 0 (by decide) (by decide) _ _ (sM 1 0 (by decide) _ _ (sM 0 0 (by decide) _ _ ?_))
  intro R
  have hz : ∀ n, n = 0 → ∀ A9 A10, (pb_k0_t2 (F := Ideal) Variants.none c none i arg3 harg3 arg4 harg4 arg5 harg5 arg6 harg6 arg7 harg7 arg8 harg8 arg9 harg9 arg10 harg10 (BitVec.ofNat 32 (i 2).val)
      kernelRun0_A.sl.v2 (kernelRun0_A.sl.r c i arg3 harg3 x0) (kernelRun0_A.sl.r_1 c arg3 harg3 x0) (k0_pay143 i) (kernelRun0_A.sl.v70 i) (harg4.unread x1) (harg5.unread x2) (harg6.unread x3)
      (arg8.view.writes (Elt Ideal) arg8.view.junk (kernelRun0_A.sl.HS0_1 c i arg3 harg3 x0)) A9 A10 n) = ([], []) := by
    rintro n rfl A9 A10; rfl
  rw [hz _ ht2]
  rw [List.nil_append, List.nil_append, View.writes_append, View.writes_append]
  have hlt := fun k : Fin (k0_t1_loop i).trips => lt_of_lt_of_eq k.isLt ht1
  have := loop_good c i arg3 harg3 arg4 harg4 arg5 harg5 arg6 harg6 arg7 harg7 arg8 harg8 arg9 harg9 arg10 harg10 (BitVec.ofNat 32 (i 2).val)
      kernelRun0_A.sl.v2 (kernelRun0_A.sl.r c i arg3 harg3 x0) (kernelRun0_A.sl.r_1 c arg3 harg3 x0) (k0_pay143 i) (harg4.unread x1) (harg5.unread x2) (harg6.unread x3)
      (arg8.view.writes (Elt Ideal) arg8.view.junk (kernelRun0_A.sl.HS0_1 c i arg3 harg3 x0)) Q KA σ v (pos qi)
      (arg9.view.writes (Elt Ideal) arg9.view.junk kernelRun0_A.sl.HS1_1) (arg10.view.writes (Elt Ideal) arg10.view.junk kernelRun0_A.sl.HS2_1)
      hS hK1 hv1 (fun k => by have := hlt k; omega) (fun k R hR => by have := hlt k; unfold pos; omega) hQ
      (init_good arg9 arg10 σ v qi) _ le_rfl R
  rw [List.count_nil, Nat.add_zero, ← ht1]
  exact this
end

end Cert.Fox
-- ==== Proof.Block.lean ====
module

public import proofs.«01_k».proof.Proof.Diag

/-! The block of the output a grid point writes, from the blocks it reads: each position's values averaged over the
    positions up to it, with the weights `exp (score - μ)`. -/

@[expose] public section

set_option maxRecDepth 16384

noncomputable section

namespace Cert.Fox

open Idealize.ShloMosaic Idealize.ShloMosaic.TcCoe
open Cert.KernelIdeal Cert.KernelIdeal.Gen

/-- Row `R` of the augmented queries: its head's half of the lanes, and −1 at its head's three columns of the bias. -/
def qRow (qf : ℕ → ℕ → ℝ) (p R d : ℕ) : EReal :=
  if d < 128 then (if d / 64 = R / 2048 then ((qf (R % 2048) d : ℝ) : EReal) else 0)
  else if d - 128 = 8 * p + R / 2048 ∨ d - 128 = 8 * p + R / 2048 + 2 ∨ d - 128 = 8 * p + R / 2048 + 4 then -1 else 0

/-- Key `k` and its bias columns. -/
def kRow (kf : ℕ → ℕ → ℝ) (cf : ℕ → ℕ → EReal) (k d : ℕ) : EReal :=
  if d < 128 then ((kf k d : ℝ) : EReal) else cf k (d - 128)

/-- Value `k` and the ones beside it. -/
def vRow (vf : ℕ → ℕ → EReal) (k l : ℕ) : EReal := if l < 128 then vf k l else 1

/-- Row `R`'s score on key `k`, up to what depends on the row alone. -/
def score (qf kf cr : ℕ → ℕ → ℝ) (p R k : ℕ) : ℝ :=
  ∑ d ∈ Finset.range 64, qf (R % 2048) (64 * (R / 2048) + d) * kf k (64 * (R / 2048) + d)
    - (cr k (8 * p + R / 2048) + cr k (8 * p + R / 2048 + 2) + cr k (8 * p + R / 2048 + 4))

theorem coe_sum {ι : Type} (S : Finset ι) (f : ι → ℝ) : ((∑ i ∈ S, f i : ℝ) : EReal) = ∑ i ∈ S, ((f i : ℝ) : EReal) := by
  classical
  induction S using Finset.induction_on with
  | empty => simp
  | insert i S hi ih => rw [Finset.sum_insert hi, Finset.sum_insert hi, EReal.coe_add, ih]

theorem scores (qf kf cr : ℕ → ℕ → ℝ) (cf : ℕ → ℕ → EReal) (p : ℕ) (hp : p < 4)
    (hc : ∀ k e m, k < 8192 → e < 2 → m < 3 → cf k (8 * p + e + 2 * m) = ((cr k (8 * p + e + 2 * m) : ℝ) : EReal)) :
    Scores (qRow qf p) (kRow kf cf) (score qf kf cr p) := by
  intro R k hR hk
  have he : R / 2048 < 2 := by omega
  have hspl : ∀ f : ℕ → EReal, ∑ d : Fin 256, f d.val = ∑ d ∈ Finset.range 128, f d + ∑ d ∈ Finset.range 128, f (128 + d) := fun f => by
    rw [Fin.sum_univ_eq_sum_range f 256, show 256 = 128 + 128 by rfl, Finset.sum_range_add]
  rw [hspl fun d => qRow qf p R d * kRow kf cf k d]
  have h1 : ∑ d ∈ Finset.range 128, qRow qf p R d * kRow kf cf k d
      = ((∑ d ∈ Finset.range 64, qf (R % 2048) (64 * (R / 2048) + d) * kf k (64 * (R / 2048) + d) : ℝ) : EReal) := by
    have hz : ∀ d ∈ Finset.range 128, qRow qf p R d * kRow kf cf k d
        = if d / 64 = R / 2048 then ((qf (R % 2048) d * kf k d : ℝ) : EReal) else 0 := fun d hd => by
      rw [qRow, kRow, if_pos (Finset.mem_range.mp hd), if_pos (Finset.mem_range.mp hd)]
      split_ifs
      · rw [EReal.coe_mul]
      · exact zero_mul _
    rw [Finset.sum_congr rfl hz, show 128 = 64 + 64 by rfl, Finset.sum_range_add, coe_sum]
    rcases (by omega : R / 2048 = 0 ∨ R / 2048 = 1) with h | h <;> rw [h]
    · rw [Finset.sum_congr rfl (g := fun d => ((qf (R % 2048) (64 * 0 + d) * kf k (64 * 0 + d) : ℝ) : EReal)) fun d hd => by
          have := Finset.mem_range.mp hd
          rw [if_pos (by omega), Nat.mul_zero, Nat.zero_add],
        Finset.sum_eq_zero (s := Finset.range 64) (f := fun x => if (64 + x) / 64 = 0 then ((qf (R % 2048) (64 + x) * kf k (64 + x) : ℝ) : EReal) else 0) fun d hd => if_neg (by omega), add_zero]
    · rw [Finset.sum_eq_zero (s := Finset.range 64) (f := fun x => if x / 64 = 1 then ((qf (R % 2048) x * kf k x : ℝ) : EReal) else 0) fun d hd => if_neg (by have := Finset.mem_range.mp hd; omega), zero_add]
      refine Finset.sum_congr rfl fun d hd => ?_
      have := Finset.mem_range.mp hd
      rw [if_pos (by omega), Nat.mul_one]
  have h2 : ∑ d ∈ Finset.range 128, qRow qf p R (128 + d) * kRow kf cf k (128 + d)
      = ((-(cr k (8 * p + R / 2048) + cr k (8 * p + R / 2048 + 2) + cr k (8 * p + R / 2048 + 4)) : ℝ) : EReal) := by
    have hz : ∀ d ∈ Finset.range 128, qRow qf p R (128 + d) * kRow kf cf k (128 + d)
        = (((if d = 8 * p + R / 2048 then -cr k d else 0) + (if d = 8 * p + R / 2048 + 2 then -cr k d else 0)
            + (if d = 8 * p + R / 2048 + 4 then -cr k d else 0) : ℝ) : EReal) := fun d hd => by
      have hn : ¬ 128 + d < 128 := by omega
      rw [qRow, kRow, if_neg hn, if_neg hn, Nat.add_sub_cancel_left]
      by_cases ha : d = 8 * p + R / 2048
      · have := hc k (R / 2048) 0 hk he (by omega)
        rw [Nat.mul_zero, Nat.add_zero] at this
        rw [if_pos (Or.inl ha), if_pos ha, if_neg (by omega), if_neg (by omega), ha, this, add_zero, add_zero, EReal.coe_neg, neg_one_mul]
      by_cases hb : d = 8 * p + R / 2048 + 2
      · rw [if_pos (Or.inr (Or.inl hb)), if_neg ha, if_pos hb, if_neg (by omega), hb,
          hc k (R / 2048) 1 hk he (by omega), add_zero, zero_add, EReal.coe_neg, neg_one_mul]
      by_cases hd : d = 8 * p + R / 2048 + 4
      · rw [if_pos (Or.inr (Or.inr hd)), if_neg ha, if_neg hb, if_pos hd, hd,
          hc k (R / 2048) 2 hk he (by omega), zero_add, zero_add, EReal.coe_neg, neg_one_mul]
      rw [if_neg fun h => h.elim ha fun h => h.elim hb hd, if_neg ha, if_neg hb, if_neg hd, zero_mul, add_zero, add_zero, EReal.coe_zero]
    rw [Finset.sum_congr rfl hz, ← coe_sum, Finset.sum_add_distrib, Finset.sum_add_distrib,
      Finset.sum_ite_eq', Finset.sum_ite_eq', Finset.sum_ite_eq',
      if_pos (Finset.mem_range.mpr (by omega)), if_pos (Finset.mem_range.mpr (by omega)), if_pos (Finset.mem_range.mpr (by omega))]
    congr 1; ring
  rw [h1, h2, ← EReal.coe_add]
  unfold score
  rw [sub_eq_add_neg]

theorem trips1 : ∀ i : grid0.Coords, (k0_t1_loop i).trips = 4 * (i 2).val := by decide +kernel
theorem trips2 : ∀ i : grid0.Coords, (k0_t2_loop i).trips = 0 := by decide +kernel

theorem tile_idx {off : Fin 3 → ℕ} (o : ℕ) (hoff : off = ![0, o, 0])
    (inb : ∀ a, off a + S1x512x128.size a ≤ S1x8192x128.size a) (r : Fin 512) (l : Fin 128) (h : o + r.val < 8192) :
    (Rect.unit (s := S1x8192x128) off S1x512x128.size inb).toLoadRect.idx (ix3 (0 : Fin 1) r l) = ix3 (0 : Fin 1) (⟨o + r.val, h⟩ : Fin 8192) l := by
  subst hoff
  funext a
  fin_cases a
  · rfl
  · exact Fin.ext (by show o + 1 * r.val = o + r.val; omega)
  · exact Fin.ext (by show 0 + 1 * l.val = l.val; omega)

section
variable (arg4 : Memref sig .tc .vmem S1x8192x128 .bf16) (harg4 : arg4.IsWhole) (arg5 : Memref sig .tc .vmem S1x8192x128 .bf16) (harg5 : arg5.IsWhole) (arg6 : Memref sig .tc .vmem S1x8192x128 .bf16) (harg6 : arg6.IsWhole)
  (x1 : Vec Ideal S1x8192x128 .bf16) (x2 : Vec Ideal S1x8192x128 .bf16) (x3 : Vec Ideal S1x8192x128 .bf16)
  (kf : ℕ → ℕ → ℝ) (cf vf : ℕ → ℕ → EReal)

theorem keys_at {off : Fin 3 → ℕ} (o : ℕ) (hoff : off = ![0, o, 0])
    (inb : ∀ a, off a + S1x512x128.size a ≤ S1x8192x128.size a) (ho : o + 512 ≤ 8192)
    (hk : ∀ (s : Fin 8192) (d : Fin 128), x1 (ix3 (0 : Fin 1) s d) = ((kf s.val d.val : ℝ) : EReal))
    (hc : ∀ (s : Fin 8192) (d : Fin 128), x3 (ix3 (0 : Fin 1) s d) = cf s.val d.val) (p : Fin 512) (d : Fin 256) :
    k0_pay2 (View.readAt (Elt Ideal) arg4.view (Rect.unit (s := S1x8192x128) off S1x512x128.size inb).toLoadRect (harg4.unread x1))
      (View.readAt (Elt Ideal) arg6.view (Rect.unit (s := S1x8192x128) off S1x512x128.size inb).toLoadRect (harg6.unread x3)) (ix2 p d)
      = kRow kf cf (o + p.val) d.val := by
  have hp := p.isLt
  have hd := d.isLt
  pointwise [k0_pay2]
  unfold kRow
  split_ifs with h
  · rw [harg4.readAt_unread, tile_idx o hoff inb p ⟨d.val, h⟩ (by omega), hk]
  · rw [harg6.readAt_unread, tile_idx o hoff inb p ⟨d.val - 128, by omega⟩ (by omega), hc]
  · rename_i h1; exact absurd rfl h1

theorem vals_at {off : Fin 3 → ℕ} (o : ℕ) (hoff : off = ![0, o, 0])
    (inb : ∀ a, off a + S1x512x128.size a ≤ S1x8192x128.size a) (ho : o + 512 ≤ 8192)
    (hv : ∀ (s : Fin 8192) (d : Fin 128), x2 (ix3 (0 : Fin 1) s d) = vf s.val d.val) (p : Fin 512) (d : Fin 256) :
    k0_pay3 (View.readAt (Elt Ideal) arg5.view (Rect.unit (s := S1x8192x128) off S1x512x128.size inb).toLoadRect (harg5.unread x2)) (ix2 p d)
      = vRow vf (o + p.val) d.val := by
  have hp := p.isLt
  have hd := d.isLt
  pointwise [k0_pay3]
  unfold vRow
  split_ifs with h
  · rw [harg5.readAt_unread, tile_idx o hoff inb p ⟨d.val, h⟩ (by omega), hv]
  · rfl
end

theorem head_bit : ∀ (d : Fin 128) (e : Fin 2),
    IntOp.cmpi CmpIPredicate.eq (IntOp.shrsi ArithUnit.vector (BitVec.ofNat 32 d.val) 6#32) (BitVec.ofNat 32 e.val)
      = if d.val / 64 = e.val then 1#1 else 0#1 := by decide +kernel

theorem lane_bit : ∀ (d : Fin 128) (p : Fin 4) (e : Fin 2) (m : Fin 5),
    IntOp.cmpi CmpIPredicate.eq (IntOp.subi (BitVec.ofNat 32 d.val)
        (Scalar.addi (Scalar.muli (8#32) (BitVec.ofNat 32 p.val)) (BitVec.ofNat 32 e.val))) (BitVec.ofNat 32 m.val)
      = if d.val = 8 * p.val + e.val + m.val then 1#1 else 0#1 := by decide +kernel

theorem half_bit : ∀ l : Fin 128, IntOp.cmpi CmpIPredicate.slt (BitVec.ofNat 32 l.val) 64#32 = if l.val < 64 then 1#1 else 0#1 := by
  decide +kernel

theorem select_ite {α : Type} (P : Prop) [Decidable P] (a b : α) :
    Scalar.select (if P then 1#1 else 0#1) a b = if P then a else b := by
  split_ifs <;> rfl

theorem ofBits_neg_one : Ideal.ofBits FTy.f32 3212836864#32 = -1 := by
  simp [Ideal.ofBits, Ideal.ieee]
  norm_cast
  norm_num

/-- One head's row of the augmented queries. -/
theorem q_row (qf : ℕ → ℕ → ℝ) (p : Fin 4) (e : Fin 2) (R : ℕ) (he : R / 2048 = e.val) (d : Fin 256) (X : Fin 128 → EReal)
    (hX : ∀ d, X d = ((qf (R % 2048) d.val : ℝ) : EReal)) :
    (if h : d.val < 128 then
        Scalar.select (IntOp.cmpi CmpIPredicate.eq (IntOp.shrsi ArithUnit.vector (BitVec.ofNat 32 d.val) 6#32) (BitVec.ofNat 32 e.val))
          (X ⟨d.val, h⟩) (0 : EReal)
      else
        Scalar.select
          (IntOp.cmpi CmpIPredicate.eq
            (IntOp.subi (BitVec.ofNat 32 (d.val - 128)) (Scalar.addi (Scalar.muli (8#32) (BitVec.ofNat 32 p.val)) (BitVec.ofNat 32 e.val)))
            0#32)
          (Ideal.ofBits FTy.f32 3212836864#32)
          (Scalar.select
            (IntOp.cmpi CmpIPredicate.eq
              (IntOp.subi (BitVec.ofNat 32 (d.val - 128)) (Scalar.addi (Scalar.muli (8#32) (BitVec.ofNat 32 p.val)) (BitVec.ofNat 32 e.val)))
              2#32)
            (Ideal.ofBits FTy.f32 3212836864#32)
            (Scalar.select
              (IntOp.cmpi CmpIPredicate.eq
                (IntOp.subi (BitVec.ofNat 32 (d.val - 128))
                  (Scalar.addi (Scalar.muli (8#32) (BitVec.ofNat 32 p.val)) (BitVec.ofNat 32 e.val)))
                4#32)
              (Ideal.ofBits FTy.f32 3212836864#32) 0))) = qRow qf p.val R d.val := by
  have hd := d.isLt
  unfold qRow
  split_ifs with h h1 h2
  · rw [head_bit ⟨d.val, h⟩ e, select_ite, if_pos (h1.trans he), hX]
  · rw [head_bit ⟨d.val, h⟩ e, select_ite, if_neg fun h2 => h1 (h2.trans he.symm)]
  · have l0 := lane_bit ⟨d.val - 128, by omega⟩ p e 0
    have l2 := lane_bit ⟨d.val - 128, by omega⟩ p e 2
    have l4 := lane_bit ⟨d.val - 128, by omega⟩ p e 4
    rw [he] at h2
    erw [l0, l2, l4]
    rw [select_ite, select_ite, select_ite, ofBits_neg_one]
    split_ifs <;> first | rfl | (exfalso; simp at *; omega)
  · have l0 := lane_bit ⟨d.val - 128, by omega⟩ p e 0
    have l2 := lane_bit ⟨d.val - 128, by omega⟩ p e 2
    have l4 := lane_bit ⟨d.val - 128, by omega⟩ p e 4
    rw [he] at h2
    erw [l0, l2, l4]
    rw [select_ite, select_ite, select_ite, ofBits_neg_one]
    split_ifs <;> first | rfl | (exfalso; simp at *; omega)

section
variable (c : Dev nD) (i : grid0.Coords) (arg3 : Memref sig .tc .vmem S1x2048x128 .bf16) (harg3 : arg3.IsWhole) (arg8 : Memref sig .tc .vmem S4096x256 .bf16)
  (x0 : Vec Ideal S1x2048x128 .bf16) (qf : ℕ → ℕ → ℝ)

theorem queries_at (hq : ∀ (s : Fin 2048) (d : Fin 128), x0 (ix3 (0 : Fin 1) s d) = ((qf s.val d.val : ℝ) : EReal))
    (R : Fin 4096) (d : Fin 256) :
    arg8.view.read (Elt Ideal) (arg8.view.writes (Elt Ideal) arg8.view.junk (kernelRun0_A.sl.HS0_1 (F := Ideal) c i arg3 harg3 x0)) (ix2 R d)
      = qRow qf (i 1).val R.val d.val := by
  refine (View.read_writes_cons_rows_of_mem (Val := Elt Ideal) arg8.view arg8.view.junk inb_S4096x256_S4096x256_0_0 (k0_pay144 (F := Ideal) kernelRun0_A.sl.v2 (kernelRun0_A.sl.r c i arg3 harg3 x0) (kernelRun0_A.sl.r_1 c arg3 harg3 x0) (k0_pay143 i)) [] (ix2 R d) (ix2 R d) (o := 0) rfl (Nat.zero_add _).symm rfl).trans ?_
  pointwise [k0_pay144, kernelRun0_A.sl.v2, kernelRun0_A.sl.r, kernelRun0_A.sl.r_1, k0_pay143, k0_pay140, k0_pay141, k0_pay142]
  have hR := R.isLt
  have hrow : ∀ (r : Fin 2048) (d : Fin 128), r.val = R.val % 2048 →
      View.readAt (Elt Ideal) arg3.view (Rect.unit (s := S1x2048x128) ![0, 0, 0] ![1, 2048, 128] inb_S1x2048x128_S1x2048x128_0_0_0).toLoadRect
        (harg3.unread x0) (ix3 (0 : Fin 1) r d) = ((qf (R.val % 2048) d.val : ℝ) : EReal) := fun r d hr => by
    refine (harg3.readAt_unread ..).trans ?_
    rw [← hr, ← hq]
    refine congrArg x0 (funext fun a => ?_)
    fin_cases a
    · rfl
    · exact Fin.ext (by show 0 + 1 * r.val = r.val; omega)
    · exact Fin.ext (by show 0 + 1 * d.val = d.val; omega)
  by_cases h0 : R.val < 2048
  · rw [dif_pos h0]
    exact q_row qf (i 1) 0 R.val (by show R.val / 2048 = 0; omega) d (fun d => View.readAt (Elt Ideal) arg3.view (Rect.unit (s := S1x2048x128) ![0, 0, 0] ![1, 2048, 128] inb_S1x2048x128_S1x2048x128_0_0_0).toLoadRect
        (harg3.unread x0) (ix3 (0 : Fin 1) ⟨R.val, h0⟩ d)) fun d => hrow _ d (by show R.val = R.val % 2048; omega)
  · rw [dif_neg h0]
    exact q_row qf (i 1) 1 R.val (by show R.val / 2048 = 1; omega) d (fun d => View.readAt (Elt Ideal) arg3.view (Rect.unit (s := S1x2048x128) ![0, 0, 0] ![1, 2048, 128] inb_S1x2048x128_S1x2048x128_0_0_0).toLoadRect
        (harg3.unread x0) (ix3 (0 : Fin 1) ⟨R.val - 2048, by omega⟩ d)) fun d => hrow _ d (by show R.val - 2048 = R.val % 2048; omega)
end

section
variable (c : Dev nD) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x2048x128 .f32) (harg7 : arg7.IsWhole) (arg8 : Memref sig .tc .vmem S4096x256 .bf16) (harg8 : arg8.IsWhole) (arg9 : Memref sig .tc .vmem S4096x128 .f32) (harg9 : arg9.IsWhole) (arg10 : Memref sig .tc .vmem S4096x256 .f32) (harg10 : arg10.IsWhole)
  (x0 : Vec Ideal S1x2048x128 .bf16) (x1 : Vec Ideal S1x8192x128 .bf16) (x2 : Vec Ideal S1x8192x128 .bf16) (x3 : Vec Ideal S1x8192x128 .bf16)
  (qf kf cr : ℕ → ℕ → ℝ) (cf vf : ℕ → ℕ → EReal)

/-- The accumulators after the last chunk, read as one array. -/
def accAll : FVec Ideal S4096x256 .f32 :=
  arg10.view.read (Elt Ideal) (arg10.view.writes (Elt Ideal) arg10.view.junk
    (kernelRun0_A.sl.HS2_40 (F := Ideal) c i arg3 harg3 arg4 harg4 arg5 harg5 arg6 harg6 arg7 harg7 arg8 harg8 arg9 harg9 arg10 harg10 x0 x1 x2 x3))

theorem acc_good
    (hq : ∀ (s : Fin 2048) (d : Fin 128), x0 (ix3 (0 : Fin 1) s d) = ((qf s.val d.val : ℝ) : EReal))
    (hk : ∀ (s : Fin 8192) (d : Fin 128), x1 (ix3 (0 : Fin 1) s d) = ((kf s.val d.val : ℝ) : EReal))
    (hv : ∀ (s : Fin 8192) (d : Fin 128), x2 (ix3 (0 : Fin 1) s d) = vf s.val d.val)
    (hc : ∀ (s : Fin 8192) (d : Fin 128), x3 (ix3 (0 : Fin 1) s d) = cf s.val d.val)
    (hcr : ∀ k e m, k < 8192 → e < 2 → m < 3 → cf k (8 * (i 1).val + e + 2 * m) = ((cr k (8 * (i 1).val + e + 2 * m) : ℝ) : EReal))
    (R : Fin 4096) :
    ∃ μ : ℝ, ∀ l : Fin 256,
      accAll c i arg3 harg3 arg4 harg4 arg5 harg5 arg6 harg6 arg7 harg7 arg8 harg8 arg9 harg9 arg10 harg10 x0 x1 x2 x3 (ix2 R l)
        = part (score qf kf cr (i 1).val R.val) (fun k => vRow vf k l.val) (pos (i 2).val R.val) 16 μ := by
  have hqi : (i 2).val < 4 := (i 2).isLt
  obtain ⟨L9, hD⟩ := diag_good c i arg3 harg3 arg4 harg4 arg5 harg5 arg6 harg6 arg7 harg7 arg8 harg8 arg9 harg9 arg10 harg10 x0 x1 x2 x3
    (qRow qf (i 1).val) (kRow kf cf) (score qf kf cr (i 1).val) (vRow vf) (i 2).val hqi (trips1 i) (trips2 i)
    (fun k p d => keys_at arg4 harg4 arg6 harg6 x1 x3 kf cf (512 * k.val) (k0_off1_eq ..) _ (by have := k.isLt; have := trips1 i; omega) hk hc p d)
    (fun k p l => vals_at arg5 harg5 x2 vf (512 * k.val) (k0_off1_eq ..) _ (by have := k.isLt; have := trips1 i; omega) hv p l)
    (scores qf kf cr cf (i 1).val (i 1).isLt hcr)
    (fun R d => queries_at c i arg3 harg3 arg8 x0 qf hq R d)
    (fun dg p d => (keys_at arg4 harg4 arg6 harg6 x1 x3 kf cf (2048 * (i 2).val + 512 * dg.val) (k0_off3_eq ..) _ (by have := dg.isLt; omega) hk hc p d).trans
      (congrArg (fun n => kRow kf cf n d.val) (by ring)))
    (fun dg p l => (vals_at arg5 harg5 x2 vf (2048 * (i 2).val + 512 * dg.val) (k0_off3_eq ..) _ (by have := dg.isLt; omega) hv p l).trans
      (congrArg (fun n => vRow vf n l.val) (by ring)))
  obtain ⟨μ, -, hμ⟩ := hD R
  refine ⟨μ, fun l => (hμ l).trans ?_⟩
  have hcount : ∀ j : Fin 16, [15, 14, 7, 6, 15, 14, 13, 12, 7, 6, 5, 4, 15, 14, 13, 12, 11, 10, 7, 6, 5, 4, 3, 2, 15, 14, 13, 12, 11, 10, 9, 8, 7, 6, 5, 4, 3, 2, 1, 0].count j.val
      = j.val % 8 / 2 + 1 := by decide
  have hR := R.isLt
  rw [hcount ⟨R.val / 256, by omega⟩]
  refine part_full _ _ _ _ _ _ ?_ ?_
  · unfold pos; show _ < 512 * (4 * (i 2).val + (R.val / 256 % 8 / 2 + 1)); omega
  · show 4 * (i 2).val + (R.val / 256 % 8 / 2 + 1) ≤ 16; omega

theorem block_out
    (hq : ∀ (s : Fin 2048) (d : Fin 128), x0 (ix3 (0 : Fin 1) s d) = ((qf s.val d.val : ℝ) : EReal))
    (hk : ∀ (s : Fin 8192) (d : Fin 128), x1 (ix3 (0 : Fin 1) s d) = ((kf s.val d.val : ℝ) : EReal))
    (hv : ∀ (s : Fin 8192) (d : Fin 128), x2 (ix3 (0 : Fin 1) s d) = vf s.val d.val)
    (hc : ∀ (s : Fin 8192) (d : Fin 128), x3 (ix3 (0 : Fin 1) s d) = cf s.val d.val)
    (hcr : ∀ k e m, k < 8192 → e < 2 → m < 3 → cf k (8 * (i 1).val + e + 2 * m) = ((cr k (8 * (i 1).val + e + 2 * m) : ℝ) : EReal))
    (t : Fin 2048) (l : Fin 128) :
    ∃ μ : ℝ,
      out0_A_4 (F := Ideal) c i arg3 harg3 arg4 harg4 arg5 harg5 arg6 harg6 arg7 harg7 arg8 harg8 arg9 harg9 arg10 harg10 x0 x1 x2 x3 (ix3 (0 : Fin 1) t l)
        = Ideal.div (part (score qf kf cr (i 1).val (2048 * (l.val / 64) + t.val)) (fun k => vf k l.val) (2048 * (i 2).val + t.val) 16 μ)
            (part (score qf kf cr (i 1).val (2048 * (l.val / 64) + t.val)) (fun _ => 1) (2048 * (i 2).val + t.val) 16 μ) := by
  have ht := t.isLt
  have hl := l.isLt
  obtain ⟨μ, hμ⟩ := acc_good c i arg3 harg3 arg4 harg4 arg5 harg5 arg6 harg6 arg7 harg7 arg8 harg8 arg9 harg9 arg10 harg10 x0 x1 x2 x3 qf kf cr cf vf hq hk hv hc hcr ⟨2048 * (l.val / 64) + t.val, by omega⟩
  refine ⟨μ, ?_⟩
  have h0 := hμ ⟨l.val, by omega⟩
  have h1 := hμ ⟨128 + l.val, by omega⟩
  have hpos : pos (i 2).val (2048 * (l.val / 64) + t.val) = 2048 * (i 2).val + t.val := by unfold pos; omega
  simp only [vRow, if_pos hl, hpos, if_neg (show ¬ 128 + l.val < 128 by omega)] at h0 h1
  rw [← h0, ← h1]
  unfold out0_A_4
  unfold kernelRun0_A
  dsimp only
  refine (View.read_writes_cons_unit_of_mem (Val := Elt Ideal) VO0_4 VO0_4.junk (s := S1x2048x128) (off := ![0, 0, 0]) inb_S1x2048x128_S1x2048x128_0_0_0 _ [] (ix3 (0 : Fin 1) t l) (ix3 (0 : Fin 1) t l) (off' := ![0, 0, 0]) rfl ?_).trans ?_
  · intro a; fin_cases a <;> simp
  have hA : kernelRun0_A.sl.v1271 (F := Ideal) c i arg3 harg3 arg4 harg4 arg5 harg5 arg6 harg6 arg7 harg7 arg8 harg8 arg9 harg9 arg10 harg10 x0 x1 x2 x3
      = accAll c i arg3 harg3 arg4 harg4 arg5 harg5 arg6 harg6 arg7 harg7 arg8 harg8 arg9 harg9 arg10 harg10 x0 x1 x2 x3 := by
    funext x
    refine congrArg (accAll c i arg3 harg3 arg4 harg4 arg5 harg5 arg6 harg6 arg7 harg7 arg8 harg8 arg9 harg9 arg10 harg10 x0 x1 x2 x3) (funext fun a => Fin.ext ?_)
    fin_cases a
    · show 0 + 1 * (x 0).val = (x 0).val; omega
    · show 0 + 1 * (x 1).val = (x 1).val; omega
  pointwise [k0_pay1, kernelRun0_A.sl.r_58, k0_pay348]
  rw [hA, half_bit l, select_ite]
  split_ifs with h
  · have hr : (⟨t.val, by omega⟩ : Fin 4096) = ⟨2048 * (l.val / 64) + t.val, by omega⟩ := Fin.ext (by show t.val = 2048 * (l.val / 64) + t.val; omega)
    rw [hr]
  · have hr : (⟨2048 + t.val, by omega⟩ : Fin 4096) = ⟨2048 * (l.val / 64) + t.val, by omega⟩ := Fin.ext (by show 2048 + t.val = 2048 * (l.val / 64) + t.val; omega)
    rw [hr]
end

end Cert.Fox
-- ==== Proof.Softmax.lean ====
module

public import proofs.«01_k».proof.Proof.Block

/-! One row of a masked softmax, applied to values: the ratio of two sums of weights `exp (score - μ)` over the positions
    up to the row's, whatever `μ` is. -/

@[expose] public section

noncomputable section

namespace Cert.Fox

open Idealize.ShloMosaic

/-- The values averaged with the weights `exp (score)` over the positions up to `t`. -/
def ratio (σ : ℕ → ℝ) (v : ℕ → EReal) (t : ℕ) : EReal :=
  Ideal.div (part σ v t 16 0) (part σ (fun _ => 1) t 16 0)

theorem div_coe (x : EReal) (d : ℝ) (hd : 0 < d) : Ideal.div x (d : EReal) = x * ((d⁻¹ : ℝ) : EReal) := by
  unfold Ideal.div
  rw [if_neg (by exact_mod_cast hd.ne'), EReal.coe_inv]

theorem part_one (σ : ℕ → ℝ) (t : ℕ) (μ : ℝ) :
    part σ (fun _ => 1) t 16 μ = ((∑ s ∈ Finset.range (512 * 16), if s ≤ t then Real.exp (σ s - μ) else 0 : ℝ) : EReal) := by
  rw [coe_sum]
  refine Finset.sum_congr rfl fun s _ => ?_
  split_ifs
  · rw [mul_one]
  · rfl

theorem weight_pos (σ : ℕ → ℝ) (t : ℕ) (μ : ℝ) : 0 < ∑ s ∈ Finset.range (512 * 16), if s ≤ t then Real.exp (σ s - μ) else 0 := by
  refine Finset.sum_pos' (fun s _ => ?_) ⟨0, Finset.mem_range.mpr (by omega), ?_⟩
  · split_ifs
    · exact (Real.exp_pos _).le
    · exact le_rfl
  · rw [if_pos (Nat.zero_le t)]; exact Real.exp_pos _

theorem ratio_eq (σ : ℕ → ℝ) (v : ℕ → EReal) (t : ℕ) (μ : ℝ) :
    Ideal.div (part σ v t 16 μ) (part σ (fun _ => 1) t 16 μ) = ratio σ v t := by
  unfold ratio
  have hw := weight_pos σ t μ
  have hw0 := weight_pos σ t 0
  have h1 := part_rescale σ (fun _ => 1) t 16 μ 0
  rw [← part_rescale σ v t 16 μ 0]
  rw [part_one, part_one, ← EReal.coe_mul, EReal.coe_eq_coe_iff] at h1
  rw [part_one, part_one, div_coe _ _ hw, div_coe _ _ hw0, ← h1, mul_inv, EReal.coe_mul,
    mul_comm ((Real.exp (μ - 0) : ℝ) : EReal), mul_assoc, ← mul_assoc ((Real.exp (μ - 0) : ℝ) : EReal), ← EReal.coe_mul,
    mul_inv_cancel₀ (Real.exp_pos _).ne', EReal.coe_one, one_mul]

/-- What depends on the row alone leaves the ratio as it is. -/
theorem ratio_shift (σ : ℕ → ℝ) (v : ℕ → EReal) (t : ℕ) (a : ℝ) : ratio (fun s => σ s + a) v t = ratio σ v t := by
  have h : ∀ w : ℕ → EReal, part (fun s => σ s + a) w t 16 0 = part σ w t 16 (-a) := fun w => by
    unfold part
    refine Finset.sum_congr rfl fun s _ => ?_
    rw [show σ s + a - 0 = σ s - -a by ring]
  rw [← ratio_eq σ v t (-a), ← h, ← h]
  rfl

theorem ratio_congr (σ σ' : ℕ → ℝ) (v v' : ℕ → EReal) (t : ℕ) (hσ : ∀ s, s ≤ t → s < 8192 → σ s = σ' s) (hv : ∀ s, s ≤ t → s < 8192 → v s = v' s) :
    ratio σ v t = ratio σ' v' t := by
  have h : ∀ w w' : ℕ → EReal, (∀ s, s ≤ t → s < 8192 → w s = w' s) → part σ w t 16 0 = part σ' w' t 16 0 := fun w w' hw => by
    unfold part
    refine Finset.sum_congr rfl fun s hs => ?_
    have hs' := Finset.mem_range.mp hs
    split_ifs with hst
    · rw [hσ s hst hs', hw s hst hs']
    · rfl
  unfold ratio
  rw [h v v' hv, h _ _ fun _ _ _ => rfl]

/-- The largest score of the row is one of them. -/
theorem fold_max (r : ℕ → ℝ) (t : ℕ) (ht : t < 8192) :
    ∃ x0, x0 ≤ t ∧ (∀ x, x ≤ t → r x ≤ r x0)
      ∧ (Finset.univ : Finset (Fin 8192)).fold max (⊥ : EReal) (fun x => if x.val ≤ t then ((r x.val : ℝ) : EReal) else ⊥) = ((r x0 : ℝ) : EReal) := by
  obtain ⟨x0, hx0, hmax⟩ := Finset.exists_max_image (Finset.range (t + 1)) r ⟨0, Finset.mem_range.mpr (by omega)⟩
  have h0 : x0 ≤ t := by have := Finset.mem_range.mp hx0; omega
  have hle : ∀ x, x ≤ t → r x ≤ r x0 := fun x hx => hmax x (Finset.mem_range.mpr (by omega))
  refine ⟨x0, h0, hle, le_antisymm ((Finset.fold_max_le _).mpr ⟨bot_le, fun x _ => ?_⟩) ((Finset.le_fold_max _).mpr (.inr ⟨⟨x0, by omega⟩, Finset.mem_univ _, ?_⟩))⟩
  · split_ifs with h
    · exact EReal.coe_le_coe_iff.mpr (hle _ h)
    · exact bot_le
  · rw [if_pos (show x0 ≤ t from h0)]

/-- A masked softmax row applied to values. -/
theorem softmax_row (r : ℕ → ℝ) (v : ℕ → EReal) (t : ℕ) (ht : t < 8192) (ε : EReal) (hε : ε ≤ 1)
    (S W : Fin 8192 → EReal) (hS : ∀ x, S x = if x.val ≤ t then ((r x.val : ℝ) : EReal) else ⊥) (M D : EReal)
    (hM : M = (Finset.univ : Finset (Fin 8192)).fold max (⊥ : EReal) S)
    (hW : ∀ x, W x = if x.val ≤ t then Ideal.exp (S x - M) else 0)
    (hD : D = ∑ x, W x) :
    ∑ x : Fin 8192, v x.val * Ideal.div (W x) (max D ε) = ratio r v t := by
  obtain ⟨x0, h0, hle, hf⟩ := fold_max r t ht
  rw [funext hS, hf] at hM
  subst hM
  have hW' : ∀ x, W x = (((if x.val ≤ t then Real.exp (r x.val - r x0) else 0) : ℝ) : EReal) := fun x => by
    rw [hW, hS]
    split_ifs
    · rw [← EReal.coe_sub, Ideal.exp_coe]
    · rfl
  have hD' : D = ((∑ s ∈ Finset.range (512 * 16), if s ≤ t then Real.exp (r s - r x0) else 0 : ℝ) : EReal) := by
    rw [hD, Finset.sum_congr rfl fun x _ => hW' x, ← coe_sum,
      Fin.sum_univ_eq_sum_range (fun s => if s ≤ t then Real.exp (r s - r x0) else 0) 8192]
  have hw := weight_pos r t (r x0)
  have h1 : (1 : ℝ) ≤ ∑ s ∈ Finset.range (512 * 16), if s ≤ t then Real.exp (r s - r x0) else 0 := by
    refine le_trans (le_of_eq ?_) (Finset.single_le_sum (f := fun s => if s ≤ t then Real.exp (r s - r x0) else 0) (fun s _ => ?_) (Finset.mem_range.mpr (by omega : x0 < 512 * 16)))
    · show 1 = if x0 ≤ t then Real.exp (r x0 - r x0) else 0
      rw [if_pos h0, sub_self, Real.exp_zero]
    · show 0 ≤ if s ≤ t then Real.exp (r s - r x0) else 0
      split_ifs
      · exact (Real.exp_pos _).le
      · exact le_rfl
  rw [max_eq_left (hε.trans (by rw [hD']; exact_mod_cast h1)), ← ratio_eq r v t (r x0), part_one, hD', div_coe _ _ hw, mul_comm (part r v t 16 (r x0))]
  unfold part
  rw [coe_mul_sum _ _ (inv_nonneg.mpr hw.le), ← Fin.sum_univ_eq_sum_range (fun s => ((((∑ s ∈ Finset.range (512 * 16), if s ≤ t then Real.exp (r s - r x0) else 0)⁻¹ : ℝ)) : EReal) * if s ≤ t then ((Real.exp (r s - r x0) : ℝ) : EReal) * v s else 0) (512 * 16)]
  refine Finset.sum_congr rfl fun x _ => ?_
  rw [div_coe _ _ hw, hW']
  split_ifs
  · rw [mul_comm, mul_comm ((Real.exp _ : ℝ) : EReal), mul_assoc]
  · rw [EReal.coe_zero, zero_mul, mul_zero, mul_zero]

end Cert.Fox
-- ==== Proof.Ref.lean ====
module

public import proofs.«01_k».proof.Proof.Softmax
public import proofs.«01_k».proof.Proof.Gen.ReferenceIdeal.Read

/-! The forgetting attention as one function of the arguments, and the reference's result as that function. -/

@[expose] public section

set_option maxRecDepth 16384

noncomputable section

namespace Cert.Fox

open Idealize.ShloMosaic Idealize.ShloMosaic.TcCoe

/-- An array's element at natural-number coordinates. -/
def rd {n : ℕ} (a : (⟨3, ![2, 8192, n]⟩ : Shape).Idx → EReal) (b : Fin 2) (s j : ℕ) : EReal :=
  if h : s < 8192 ∧ j < n then a (ix3 b ⟨s, h.1⟩ ⟨j, h.2⟩) else 0

theorem rd_at {n : ℕ} (a : (⟨3, ![2, 8192, n]⟩ : Shape).Idx → EReal) (b : Fin 2) (s : Fin 8192) (j : Fin n) :
    rd a b s.val j.val = a (ix3 b s j) := dif_pos ⟨s.isLt, j.isLt⟩

theorem rd_eq {n : ℕ} (a : (⟨3, ![2, 8192, n]⟩ : Shape).Idx → EReal) (b : Fin 2) (s j : ℕ) (hs : s < 8192) (hj : j < n) :
    rd a b s j = a (ix3 b ⟨s, hs⟩ ⟨j, hj⟩) := dif_pos ⟨hs, hj⟩

section
variable (a0 : (⟨3, ![2, 8192, 512]⟩ : Shape).Idx → EReal) (a1 : (⟨3, ![2, 8192, 1024]⟩ : Shape).Idx → EReal)
  (a2 : (⟨3, ![2, 8192, 128]⟩ : Shape).Idx → EReal)

/-- Queries, keys and the three parts of the bias are real numbers. -/
structure Finite : Prop where
  q : ∀ (b : Fin 2) (s j : ℕ), s < 8192 → j < 512 → rd a0 b s j = (((rd a0 b s j).toReal : ℝ) : EReal)
  k : ∀ (b : Fin 2) (s j : ℕ), s < 8192 → j < 512 → rd a1 b s j = (((rd a1 b s j).toReal : ℝ) : EReal)
  c : ∀ (b : Fin 2) (s p m e : ℕ), s < 8192 → p < 4 → m < 3 → e < 2 →
    rd a2 b s (8 * p + e + 2 * m) = (((rd a2 b s (8 * p + e + 2 * m)).toReal : ℝ) : EReal)

/-- The bias of position `s` and head `h`: the sum of its three parts. -/
def bias (b : Fin 2) (h s : ℕ) : ℝ :=
  (rd a2 b s (8 * (h / 2) + h % 2)).toReal + (rd a2 b s (8 * (h / 2) + h % 2 + 2)).toReal + (rd a2 b s (8 * (h / 2) + h % 2 + 4)).toReal

/-- Position `t`'s score on position `s` in head `h`, up to what depends on `t` alone. -/
def foxScore (b : Fin 2) (h t s : ℕ) : ℝ :=
  ∑ d ∈ Finset.range 64, (rd a0 b t (64 * h + d)).toReal * (rd a1 b s (64 * h + d)).toReal - bias a2 b h s

/-- The attention at batch `b`, position `t`, channel `j`. -/
def foxOut (b : Fin 2) (t j : ℕ) : EReal :=
  ratio (foxScore a0 a1 a2 b (j / 64) t) (fun s => rd a1 b s (512 + j)) t

end

open Cert.ReferenceIdeal Cert.ReferenceIdeal.Gen Cert.ReferenceIdeal.Read

theorem le_bit (s t : Fin 8192) : IntOp.cmpi CmpIPredicate.sle (BitVec.ofNat 32 s.val) (BitVec.ofNat 32 t.val) = if s.val ≤ t.val then 1#1 else 0#1 := by
  have hs := s.isLt
  have ht := t.isLt
  have h : ∀ n, n < 8192 → (BitVec.ofNat 32 n).toInt = n := fun n hn => by
    rw [BitVec.toInt_eq_toNat_of_lt (by rw [BitVec.toNat_ofNat]; omega), BitVec.toNat_ofNat, Nat.mod_eq_of_lt (by omega)]
  show BitVec.ofBool ((BitVec.ofNat 32 s.val).sle (BitVec.ofNat 32 t.val)) = _
  have : (BitVec.ofNat 32 s.val).sle (BitVec.ofNat 32 t.val) = decide (s.val ≤ t.val) := by
    rw [BitVec.sle_eq_decide, h _ hs, h _ ht]
    simp
  rw [this]
  by_cases hst : s.val ≤ t.val <;> simp [hst]

theorem ofBits_neg_inf : Ideal.ofBits FTy.f32 4286578688#32 = ⊥ := by simp [Ideal.ofBits, Ideal.ieee]
theorem ofBits_zero : Ideal.ofBits FTy.f32 0#32 = 0 := by simp [Ideal.ofBits, Ideal.ieee]
theorem ofBits_tiny : Ideal.ofBits FTy.f32 228737632#32 ≤ 1 := by
  simp [Ideal.ofBits, Ideal.ieee]
  norm_cast
  norm_num

section
variable (a0 : FVec Ideal S2x8192x512 .bf16) (a1 : FVec Ideal S2x8192x1024 .bf16) (a2 : FVec Ideal S2x8192x128 .bf16)

theorem q_at (b : Fin 2) (t : Fin 8192) (h : Fin 8) (d : Fin 64) :
    val_main_v1 (F := Ideal) a0 (ix4 b t h d) = rd a0 b t.val (64 * h.val + d.val) := by
  pointwise [val_main_v1, val_main_v0]
  exact (rd_at (n := 512) a0 b t _).symm.trans (congrArg (rd a0 b t.val) <| show h.val * 64 + d.val = 64 * h.val + d.val by ring)

theorem k_at (b : Fin 2) (t : Fin 8192) (h : Fin 8) (d : Fin 64) :
    val_main_v5 (F := Ideal) a1 (ix4 b t h d) = rd a1 b t.val (64 * h.val + d.val) := by
  pointwise [val_main_v5, val_main_v4, val_main_v3, val_main_v2]
  exact (rd_at (n := 1024) a1 b t _).symm.trans (congrArg (rd a1 b t.val) <| show h.val * 64 + d.val = 64 * h.val + d.val by ring)

theorem v_at (b : Fin 2) (t : Fin 8192) (h : Fin 8) (d : Fin 64) :
    val_main_v7 (F := Ideal) a1 (ix4 b t h d) = rd a1 b t.val (512 + (64 * h.val + d.val)) := by
  pointwise [val_main_v7, val_main_v6, val_main_v3, val_main_v2]
  exact (rd_at (n := 1024) a1 b t _).symm.trans (congrArg (rd a1 b t.val) <| show 512 + h.val * 64 + d.val = 512 + (64 * h.val + d.val) by ring)

variable {a0 a1 a2} in
theorem bias_at (H : Finite a0 a1 a2) (b : Fin 2) (h : Fin 8) (t : Fin 8192) :
    val_main_v20 (F := Ideal) a2 (ix3 b h t) = ((bias a2 b h.val t.val : ℝ) : EReal) := by
  pointwise [val_main_v20, val_main_v19, val_main_v18, val_main_v17, val_main_v16, val_main_v15, val_main_v14, val_main_v13, val_main_v12, val_main_v11, val_main_v10, val_main_v9, val_main_v8]
  have hh := h.isLt
  have c0 := H.c b t.val (h.val / 2) 0 (h.val % 2) t.isLt (by omega) (by omega) (by omega)
  have c1 := H.c b t.val (h.val / 2) 1 (h.val % 2) t.isLt (by omega) (by omega) (by omega)
  have c2 := H.c b t.val (h.val / 2) 2 (h.val % 2) t.isLt (by omega) (by omega) (by omega)
  rw [Nat.mul_zero, Nat.add_zero] at c0
  unfold bias
  rw [EReal.coe_add, EReal.coe_add, ← c0, ← c1, ← c2]
  refine congrArg₂ (· + ·) (congrArg₂ (· + ·) ?_ ?_) ?_ <;> refine (rd_at (n := 128) a2 b t _).symm.trans (congrArg (rd a2 b t.val) ?_)
  · show h.val / 2 * 8 + h.val % 2 = 8 * (h.val / 2) + h.val % 2; ring
  · show h.val / 2 * 8 + 2 + h.val % 2 = 8 * (h.val / 2) + h.val % 2 + 2 * 1; ring
  · show h.val / 2 * 8 + 4 + h.val % 2 = 8 * (h.val / 2) + h.val % 2 + 2 * 2; ring

variable {a0 a1 a2} in
theorem score_at (H : Finite a0 a1 a2) (b : Fin 2) (h : Fin 8) (t s : Fin 8192) :
    val_main_v34 (F := Ideal) a0 a1 a2 (ix4 b h t s)
      = if s.val ≤ t.val then ((foxScore a0 a1 a2 b h.val t.val s.val + bias a2 b h.val t.val : ℝ) : EReal) else ⊥ := by
  have hh := h.isLt
  have hdot : val_main_v22 (F := Ideal) a0 a1 (ix4 b h t s)
      = ((∑ d ∈ Finset.range 64, (rd a0 b t.val (64 * h.val + d)).toReal * (rd a1 b s.val (64 * h.val + d)).toReal : ℝ) : EReal) := by
    pointwise [val_main_v22]
    rw [coe_sum, ← Fin.sum_univ_eq_sum_range (fun d => (((rd a0 b t.val (64 * h.val + d)).toReal * (rd a1 b s.val (64 * h.val + d)).toReal : ℝ) : EReal)) 64]
    refine Finset.sum_congr rfl fun d _ => ?_
    have hd := d.isLt
    rw [q_at, k_at, EReal.coe_mul, ← H.q b t.val _ t.isLt (by omega), ← H.k b s.val _ s.isLt (by omega)]
  pointwise [val_main_v34, val_main_call0_v1, val_main_v33, val_main_v32, val_main_v31, val_main_v30, val_main_v29, val_main_v21, val_main_call0_v2, val_main_call0_v0, val_main_cst, val_main_v28, val_main_v27, val_main_v26, val_main_v25, val_main_v24, val_main_v23]
  rw [le_bit, select_ite, hdot, bias_at H, bias_at H, ← EReal.coe_add, ← EReal.coe_sub]
  refine if_congr Iff.rfl (congrArg _ ?_) ofBits_neg_inf
  unfold foxScore
  ring

variable {a0 a1 a2} in
theorem ref_at (H : Finite a0 a1 a2) (b : Fin 2) (t : Fin 8192) (j : Fin 512) :
    val_main_v49 (F := Ideal) a0 a1 a2 (ix3 b t j) = foxOut a0 a1 a2 b t.val j.val := by
  have hj := j.isLt
  pointwise [val_main_v49, val_main_v48, val_main_v47]
  unfold foxOut
  rw [← ratio_shift _ _ _ (bias a2 b (j.val / 64) t.val)]
  rw [← softmax_row (fun s => foxScore a0 a1 a2 b (j.val / 64) t.val s + bias a2 b (j.val / 64) t.val) (fun s => rd a1 b s (512 + j.val)) t.val t.isLt
    _ ofBits_tiny (fun x => val_main_v34 (F := Ideal) a0 a1 a2 (ix4 b ⟨j.val / 64, by omega⟩ t x))
    (fun x => val_main_v40 (F := Ideal) a0 a1 a2 (ix4 b ⟨j.val / 64, by omega⟩ t x))
    (fun x => score_at H b ⟨j.val / 64, by omega⟩ t x)
    (val_main_v35 (F := Ideal) a0 a1 a2 (ix3 b ⟨j.val / 64, by omega⟩ t)) (val_main_v41 (F := Ideal) a0 a1 a2 (ix3 b ⟨j.val / 64, by omega⟩ t)) ?_ ?_ ?_]
  · refine Finset.sum_congr rfl fun x _ => ?_
    refine congrArg₂ (· * ·) ((v_at a1 b x _ _).trans (congrArg (rd a1 b x.val) (show 512 + (64 * (j.val / 64) + j.val % 64) = 512 + j.val by omega))) ?_
    pointwise [val_main_v46, val_main_v45, val_main_v44, val_main_v43, val_main_v42, val_main_cst_3]
  · pointwise [val_main_v35]
    exact congrArg (fun z => Finset.fold max z _ _) ofBits_neg_inf
  · intro x
    pointwise [val_main_v40, val_main_call1_v1, val_main_call1_v2, val_main_call1_v0, val_main_cst_1, val_main_v39, val_main_v38, val_main_v37, val_main_v36, val_main_v33, val_main_v32, val_main_v31, val_main_v30, val_main_v29, val_main_v21]
    rw [le_bit, select_ite]
    exact if_congr Iff.rfl rfl ofBits_zero
  · pointwise [val_main_v41]
    exact (congrArg (· + _) ofBits_zero).trans (zero_add _)
end

end Cert.Fox
-- ==== Proof.Array.lean ====
module

public import proofs.«01_k».proof.Proof.Ref
public import proofs.«01_k».proof.Proof.Gen.KernelIdeal.Value
public import Idealize.ShloMosaic.Lib.Pipeline.ValueKit

/-! The kernel's result: every block of it is the forgetting attention of the arguments. -/

@[expose] public section

set_option maxRecDepth 16384

noncomputable section

namespace Cert.Fox

open Idealize.ShloMosaic Idealize.ShloMosaic.TcCoe
open Idealize.ShloMosaic.Pipeline (Dat)
open Cert.KernelIdeal Cert.KernelIdeal.Gen

variable (m : (ℓ : Loc nD τ sig) → Buf (Elt Ideal) ℓ)

theorem idx0 : ∀ t : Fin cfg0.N, win0_0.index t = ![t.val / 16, t.val % 4, t.val / 4 % 4] := (by decide +kernel : ∀ t : Fin grid0.N, _)
theorem idx1 : ∀ t : Fin cfg0.N, win0_1.index t = ![t.val / 16, 0, t.val / 4 % 4] := (by decide +kernel : ∀ t : Fin grid0.N, _)
theorem idx2 : ∀ t : Fin cfg0.N, win0_2.index t = ![t.val / 16, 0, 4 + t.val / 4 % 4] := (by decide +kernel : ∀ t : Fin grid0.N, _)
theorem idx3 : ∀ t : Fin cfg0.N, win0_3.index t = ![t.val / 16, 0, 0] := (by decide +kernel : ∀ t : Fin grid0.N, _)
theorem idx4 : ∀ t : Fin cfg0.N, win0_4.index t = ![t.val / 16, t.val % 4, t.val / 4 % 4] := (by decide +kernel : ∀ t : Fin grid0.N, _)
theorem crd : ∀ t : Fin cfg0.N, (grid0.coords t 1).val = t.val / 4 % 4 ∧ (grid0.coords t 2).val = t.val % 4 := (by decide +kernel : ∀ t : Fin grid0.N, _)

variable (c : Dev nD) (t : Fin cfg0.N)

/-- The batch of a grid point. -/
def bat (t : Fin cfg0.N) : Fin 2 := ⟨t.val / 16, by have : t.val < 32 := t.isLt; omega⟩

theorem blk0 (s : Fin 2048) (d : Fin 128) :
    iblk (F := Ideal) m c 0 t (ix3 (0 : Fin 1) s d)
      = rd (n := 512) (m ((c : Thread nD τ).loc main_arg0)) (bat t) (2048 * (t.val % 4) + s.val) (128 * (t.val / 4 % 4) + d.val) := by
  have hs := s.isLt
  have hd := d.isLt
  rw [rd_eq (n := 512) _ _ _ _ (by omega) (by omega)]
  unfold bat
  blk_ext [iblk, V, idx0 t]

theorem blk1 (s : Fin 8192) (d : Fin 128) :
    iblk (F := Ideal) m c 1 t (ix3 (0 : Fin 1) s d)
      = rd (n := 1024) (m ((c : Thread nD τ).loc main_arg1)) (bat t) s.val (128 * (t.val / 4 % 4) + d.val) := by
  have hd := d.isLt
  rw [rd_eq (n := 1024) _ _ _ _ s.isLt (by omega)]
  unfold bat
  blk_ext [iblk, V, idx1 t]

theorem blk2 (s : Fin 8192) (d : Fin 128) :
    iblk (F := Ideal) m c 2 t (ix3 (0 : Fin 1) s d)
      = rd (n := 1024) (m ((c : Thread nD τ).loc main_arg1)) (bat t) s.val (512 + (128 * (t.val / 4 % 4) + d.val)) := by
  have hd := d.isLt
  rw [rd_eq (n := 1024) _ _ _ _ s.isLt (by omega)]
  unfold bat
  blk_ext [iblk, V, idx2 t]

theorem blk3 (s : Fin 8192) (d : Fin 128) :
    iblk (F := Ideal) m c 3 t (ix3 (0 : Fin 1) s d)
      = rd (n := 128) (m ((c : Thread nD τ).loc main_arg2)) (bat t) s.val d.val := by
  rw [rd_eq (n := 128) _ _ _ _ s.isLt d.isLt]
  unfold bat
  blk_ext [iblk, V, idx3 t]

variable (H : Finite (m ((c : Thread nD τ).loc main_arg0)) (m ((c : Thread nD τ).loc main_arg1)) (m ((c : Thread nD τ).loc main_arg2)))

include H in
theorem point (s : Fin 2048) (l : Fin 128) :
    outsAt0 (F := Ideal) m c t (ix3 (0 : Fin 1) s l)
      = foxOut (m ((c : Thread nD τ).loc main_arg0)) (m ((c : Thread nD τ).loc main_arg1)) (m ((c : Thread nD τ).loc main_arg2)) (bat t)
          (2048 * (t.val % 4) + s.val) (128 * (t.val / 4 % 4) + l.val) := by
  have hs := s.isLt
  have hl := l.isLt
  obtain ⟨hp, hqi⟩ := crd t
  unfold outsAt0
  obtain ⟨μ, hμ⟩ := block_out c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) (iblk m c 0 t) (iblk m c 1 t) (iblk m c 2 t) (iblk m c 3 t)
    (fun s d => (rd (n := 512) (m ((c : Thread nD τ).loc main_arg0)) (bat t) (2048 * (t.val % 4) + s) (128 * (t.val / 4 % 4) + d)).toReal)
    (fun s d => (rd (n := 1024) (m ((c : Thread nD τ).loc main_arg1)) (bat t) s (128 * (t.val / 4 % 4) + d)).toReal)
    (fun s d => (rd (n := 128) (m ((c : Thread nD τ).loc main_arg2)) (bat t) s d).toReal)
    (fun s d => rd (n := 128) (m ((c : Thread nD τ).loc main_arg2)) (bat t) s d)
    (fun s d => rd (n := 1024) (m ((c : Thread nD τ).loc main_arg1)) (bat t) s (512 + (128 * (t.val / 4 % 4) + d)))
    (fun s d => (blk0 m c t s d).trans (H.q _ _ _ (by have := s.isLt; omega) (by have := d.isLt; omega)))
    (fun s d => (blk1 m c t s d).trans (H.k _ _ _ s.isLt (by have := d.isLt; omega)))
    (blk2 m c t) (blk3 m c t) (fun k e mm hk he hm => H.c _ _ _ _ _ hk (grid0.coords t 1).isLt hm he) s l
  rw [hμ, ratio_eq, hp, hqi]
  unfold foxOut
  have hh : (128 * (t.val / 4 % 4) + l.val) / 64 = 2 * (t.val / 4 % 4) + l.val / 64 := by omega
  refine ratio_congr _ _ _ _ _ (fun k _ hk => ?_) fun _ _ _ => rfl
  unfold score foxScore bias
  have e1 : (2048 * (l.val / 64) + s.val) / 2048 = l.val / 64 := by omega
  have e2 : (2048 * (l.val / 64) + s.val) % 2048 = s.val := by omega
  have e3 : 8 * ((2 * (t.val / 4 % 4) + l.val / 64) / 2) + (2 * (t.val / 4 % 4) + l.val / 64) % 2 = 8 * (t.val / 4 % 4) + l.val / 64 := by omega
  rw [hh, e1, e2, e3]
  refine congrArg₂ (· - ·) (Finset.sum_congr rfl fun d _ => ?_) rfl
  rw [show 64 * (2 * (t.val / 4 % 4) + l.val / 64) + d = 128 * (t.val / 4 % 4) + (64 * (l.val / 64) + d) by ring]

include H in
theorem arr : (dats (F := Ideal) m 0 c).arrAt 4 cfg0.N
    = fun y : S2x8192x512.Idx => foxOut (m ((c : Thread nD τ).loc main_arg0)) (m ((c : Thread nD τ).loc main_arg1)) (m ((c : Thread nD τ).loc main_arg2)) (y 0) (y 1).val (y 2).val := by
  refine (dats (F := Ideal) m 0 c).arrAt_eq_of_covers 4 _ (by decide +kernel) fun t hf y => ?_
  rw [after0_4]
  blk_simp [idx4 t]
  have hb : (win0_4.blk t).view.emb y 0 = bat t := Fin.ext (by
    have h0 : (y 0).val < 1 := (y 0).isLt
    unfold bat
    blk_simp [idx4 t])
  rw [hb]
  have hy : y = ix3 (0 : Fin 1) (y 1 : Fin 2048) (y 2 : Fin 128) := by
    funext a
    fin_cases a
    · exact Fin.ext (by have h0 : (y 0).val < 1 := (y 0).isLt; show (y 0).val = 0; omega)
    · rfl
    · rfl
  rw [Nat.mul_comm (t.val % 4), Nat.mul_comm (t.val / 4 % 4)]
  exact (congrArg (outsAt0 (F := Ideal) m c t) hy).trans (point m c t H (y 1) (y 2))

end Cert.Fox
-- ==== Proof.Pre.lean ====
module

public import proofs.«01_k».proof.Pre_finite
public import proofs.«01_k».proof.Proof.Ref
public import Idealize.ShloMosaic.Lib.ReduceAll

/-! What the precondition says of the arguments: queries, keys and the bias's parts are real numbers. -/

@[expose] public section

set_option maxRecDepth 16384

noncomputable section

namespace Cert.Fox

open Idealize.ShloMosaic Idealize.ShloMosaic.TcCoe Cert.Pre_finite

theorem preFacts : Cert.Pre_finite.Facts where
  slices_S2x8192x128_S2x8192x32_0_0_0 := by decide
  shapeCasts_S2x8192x32_S2x8192x4x4x2 := by decide
  slices_S2x8192x4x4x2_S2x8192x4x3x2_0_0_0_0_0 := by decide
  bitsLt_bf16_f32 := by decide
  bcast_S_S2x8192x512 := by decide
  reducesTo_S2x8192x512_S_d0_1_2 := by decide
  h_S_ := by decide
  slices_S2x8192x1024_S2x8192x512_0_0_0 := by decide
  bcast_S_S2x8192x4x3x2 := by decide
  reducesTo_S2x8192x4x3x2_S_d0_1_2_3_4 := by decide

instance : Subsingleton S_.Idx := ⟨fun _ _ => funext fun d => d.elim0⟩

theorem ofBits_inf : Ideal.ofBits FTy.f32 0x7F800000#32 = ⊤ := by simp [Ideal.ofBits, Ideal.ieee]

/-- A value whose magnitude compares below infinity is a real number. -/
theorem real_of_bit (x : EReal) (h : Ideal.cmp .olt (max x (-x)) (Ideal.ofBits FTy.f32 0x7F800000#32) = 1#1) : x = ((x.toReal : ℝ) : EReal) := by
  have h := (Ideal.cmp_olt_eq_one _ _).1 h
  rw [ofBits_inf] at h
  have h1 : x ≠ ⊤ := (lt_of_le_of_lt (le_max_left _ _) h).ne
  have h2 : -x ≠ ⊤ := (lt_of_le_of_lt (le_max_right _ _) h).ne
  exact (EReal.coe_toReal h1 fun e => h2 (by rw [e]; rfl)).symm

attribute [local instance] preFacts

theorem part_at (a2 : S2x8192x128.Idx → EReal) (b : Fin 2) (s : Fin 8192) (p : Fin 4) (m : Fin 3) (e : Fin 2) :
    (extractStridedSlice S2x8192x4x3x2 ![0, 0, 0, 0, 0] (shapeCast S2x8192x4x4x2 (extractStridedSlice S2x8192x32 ![0, 0, 0] a2
      Facts.slices_S2x8192x128_S2x8192x32_0_0_0) Facts.shapeCasts_S2x8192x32_S2x8192x4x4x2) Facts.slices_S2x8192x4x4x2_S2x8192x4x3x2_0_0_0_0_0)
      (ix5 b s p m e) = a2 (ix3 b s ⟨8 * p.val + e.val + 2 * m.val, by omega⟩) := by
  have h1 (x : S2x8192x4x4x2.Idx → EReal) : extractStridedSlice S2x8192x4x3x2 ![0, 0, 0, 0, 0] x Facts.slices_S2x8192x4x4x2_S2x8192x4x3x2_0_0_0_0_0
      (ix5 b s p m e) = x (ix5 b s p ⟨m.val, by omega⟩ e) := by
    pointwise []
  have h2 (x : S2x8192x32.Idx → EReal) (m : Fin 4) : shapeCast S2x8192x4x4x2 x Facts.shapeCasts_S2x8192x32_S2x8192x4x4x2
      (ix5 b s p m e) = x (ix3 b s ⟨8 * p.val + e.val + 2 * m.val, by omega⟩) := by
    pointwise []
    exact congrArg (fun j => x (ix3 b s j)) (Fin.ext (show p.val * 8 + m.val * 2 + e.val = 8 * p.val + e.val + 2 * m.val by ring))
  have h3 (j : Fin 32) : extractStridedSlice S2x8192x32 ![0, 0, 0] a2 Facts.slices_S2x8192x128_S2x8192x32_0_0_0
      (ix3 b s j) = a2 (ix3 b s ⟨j.val, by omega⟩) := by
    pointwise []
  rw [h1, h2, h3]

theorem finite_of_pre (a0 : S2x8192x512.Idx → EReal) (a1 : S2x8192x1024.Idx → EReal) (a2 : S2x8192x128.Idx → EReal)
    (h : Cert.Pre_finite.fn (F := Ideal) a0 a1 a2 = fun _ => 1#1) : Finite a0 a1 a2 := by
  have h := congrFun h (Shape.Idx.first (by decide))
  dsimp only [fn, fn_part1] at h
  obtain ⟨h, hc⟩ := IntOp.andi_eq_one.1 h
  obtain ⟨hq, hk⟩ := IntOp.andi_eq_one.1 h
  refine ⟨fun b s j hs hj => ?_, fun b s j hs hj => ?_, fun b s p m e hs hp hm he => ?_⟩
  · rw [rd_eq a0 b s j hs hj]
    exact real_of_bit _ (Host.reduce_andi_all _ _ _ _ _ hq (ix3 b ⟨s, hs⟩ ⟨j, hj⟩))
  · rw [rd_eq a1 b s j hs (by omega)]
    have e : (extractStridedSlice S2x8192x512 ![0, 0, 0] a1 Facts.slices_S2x8192x1024_S2x8192x512_0_0_0) (ix3 b ⟨s, hs⟩ ⟨j, hj⟩) = a1 (ix3 b ⟨s, hs⟩ ⟨j, by omega⟩) := by
      pointwise []
    rw [← e]
    exact real_of_bit _ (Host.reduce_andi_all _ _ _ _ _ hk (ix3 b ⟨s, hs⟩ ⟨j, hj⟩))
  · rw [rd_eq a2 b s _ hs (by omega)]
    have e' := part_at a2 b ⟨s, hs⟩ ⟨p, hp⟩ ⟨m, hm⟩ ⟨e, he⟩
    rw [← e']
    exact real_of_bit _ (Host.reduce_andi_all _ _ _ _ _ hc (ix5 b ⟨s, hs⟩ ⟨p, hp⟩ ⟨m, hm⟩ ⟨e, he⟩))

theorem ix3_self {l n k : ℕ} (y : (⟨3, ![l, n, k]⟩ : Shape).Idx) : y = ix3 (y 0 : Fin l) (y 1 : Fin n) (y 2 : Fin k) := by
  funext a
  fin_cases a <;> rfl

end Cert.Fox
-- ==== Proof.FfnCell.lean ====
module

public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Ref

/-! The feed-forward kernel's stored terms, each read at one element. -/

@[expose] public section

set_option maxRecDepth 16384

noncomputable section

namespace Cert.Ffwd

open Idealize.ShloMosaic Idealize.ShloMosaic.TcCoe

/-- A row of 1024 numbers over its root mean square, times the gain. -/
def nrm (r g : Fin 1024 → EReal) (k : Fin 1024) : EReal :=
  r k * Ideal.rsqrt (Ideal.div (∑ x, r x * r x) (Ideal.ofBits .f32 0x44800000#32) + Ideal.ofBits .f32 0x358637BD#32) * g k

/-- The half-tangent form of the Gaussian unit. -/
def gelu (z : EReal) : EReal :=
  Ideal.ofBits .f32 0x3F000000#32 * z * (1 + Ideal.tanh (Ideal.ofBits .f32 0x3F4C422A#32 * (z + Ideal.ofBits .f32 0x3D372713#32 * (z * z * z))))

/-- A hidden unit: the Gaussian unit of the three-tap convolution of `u` (two before, one before, here), times the gate. -/
def act (cb c0 c1 c2 u2 u1 u0 gate : EReal) : EReal := gelu (cb + c0 * u2 + c1 * u1 + c2 * u0) * gate

open Cert.FfnIdeal Cert.FfnIdeal.Gen

theorem pay4_at (g : Vec Ideal S1x1024 .f32) (x : Vec Ideal S8x1024 .f32) (r : Fin 8) (k : Fin 1024) :
    k0_pay4 g x (ix2 r k) = nrm (fun k => x (ix2 r k)) (fun k => g (ix2 0 k)) k := by
  pointwise [k0_pay4, k0_pay3]
  rfl

theorem pay5_at (g : Vec Ideal S1x1024 .f32) (x : Vec Ideal S512x1024 .f32) (s : Fin 512) (k : Fin 1024) :
    k0_pay5 g x (ix2 s k) = nrm (fun k => x (ix2 s k)) (fun k => g (ix2 0 k)) k := by
  pointwise [k0_pay5, k0_pay3]
  rfl

theorem pay7_at (s : Fin 512) (k : Fin 1024) : k0_pay7 (F := Ideal) k0_pay6 (ix2 s k) = 0 := by
  pointwise [k0_pay7, k0_pay6]

theorem pay2_at (x f : Vec Ideal S512x1024 .f32) (g : Vec Ideal S1x1024 .f32) (s : Fin 512) (k : Fin 1024) :
    k0_pay2 x f g (ix2 s k) = x (ix2 s k) + nrm (fun k => f (ix2 s k)) (fun k => g (ix2 0 k)) k := by
  pointwise [k0_pay2]
  rfl

theorem ge_bit : ∀ r : Fin 520, IntOp.cmpi CmpIPredicate.sge (BitVec.ofNat 32 r.val) 8#32 = if 8 ≤ r.val then 1#1 else 0#1 := by
  decide +kernel

theorem start_bit : ∀ i : Fin 32,
    Scalar.cmpi CmpIPredicate.ne
      (Scalar.select
        (Scalar.andi
          (Scalar.xori
            (Scalar.cmpi CmpIPredicate.slt (Scalar.remsi (Scalar.muli (BitVec.ofNat 32 i.val) 512#32) (Scalar.select (Scalar.cmpi CmpIPredicate.eq 8192#32 0#32) 1#32 8192#32)) 0#32)
            (Scalar.cmpi CmpIPredicate.slt (Scalar.select (Scalar.cmpi CmpIPredicate.eq 8192#32 0#32) 1#32 8192#32) 0#32))
          (Scalar.cmpi CmpIPredicate.ne (Scalar.remsi (Scalar.muli (BitVec.ofNat 32 i.val) 512#32) (Scalar.select (Scalar.cmpi CmpIPredicate.eq 8192#32 0#32) 1#32 8192#32)) 0#32))
        (Scalar.addi (Scalar.remsi (Scalar.muli (BitVec.ofNat 32 i.val) 512#32) (Scalar.select (Scalar.cmpi CmpIPredicate.eq 8192#32 0#32) 1#32 8192#32))
          (Scalar.select (Scalar.cmpi CmpIPredicate.eq 8192#32 0#32) 1#32 8192#32))
        (Scalar.remsi (Scalar.muli (BitVec.ofNat 32 i.val) 512#32) (Scalar.select (Scalar.cmpi CmpIPredicate.eq 8192#32 0#32) 1#32 8192#32)))
      0#32 = if i.val % 16 ≠ 0 then 1#1 else 0#1 := by
  decide +kernel

theorem pay8_at (i : grid0.Coords) (h : Vec Ideal S520x1024 .bf16) (w : Vec Ideal S1024x1408 .bf16) (r : Fin 520) (l : Fin 1408) :
    k0_pay8 i h w (ix2 r l) = if 8 ≤ r.val ∨ (i 0).val % 16 ≠ 0 then ∑ k : Fin 1024, h (ix2 r k) * w (ix2 k l) else 0 := by
  pointwise [k0_pay8]
  have hr : IntOp.cmpi CmpIPredicate.sge (BitVec.ofNat 32 r.val) 8#32 = if 8 ≤ r.val then 1#1 else 0#1 := ge_bit r
  have hi := start_bit (i 0)
  rw [hr, hi]
  by_cases h1 : 8 ≤ r.val <;> by_cases h2 : (i 0).val % 16 = 0 <;> simp [h1, h2, Scalar.select, IntOp.ori]

theorem pay9_at (i : grid0.Coords) (h : Vec Ideal S520x1024 .bf16) (w : Vec Ideal S1024x1408 .bf16) (s : Fin 512) (l : Fin 1408) :
    k0_pay9 i h w (ix2 s l) = k0_pay8 i h w (ix2 ⟨8 + s.val, by omega⟩ l) := by
  pointwise [k0_pay9]

theorem pay10_at (i : grid0.Coords) (h : Vec Ideal S520x1024 .bf16) (w : Vec Ideal S1024x1408 .bf16) (s : Fin 512) (l : Fin 1408) :
    k0_pay10 i h w (ix2 s l) = k0_pay8 i h w (ix2 ⟨8 + s.val - 1, by omega⟩ l) := by
  pointwise [k0_pay10]
  exact congrArg (fun r : Fin 520 => k0_pay8 i h w (ix2 r l)) (Fin.ext (show (8 + s.val + 520 - 1) % 520 = 8 + s.val - 1 by omega))

theorem pay11_at (i : grid0.Coords) (h : Vec Ideal S520x1024 .bf16) (w : Vec Ideal S1024x1408 .bf16) (s : Fin 512) (l : Fin 1408) :
    k0_pay11 i h w (ix2 s l) = k0_pay8 i h w (ix2 ⟨8 + s.val - 2, by omega⟩ l) := by
  pointwise [k0_pay11]
  exact congrArg (fun r : Fin 520 => k0_pay8 i h w (ix2 r l)) (Fin.ext (show (8 + s.val + 520 - 2) % 520 = 8 + s.val - 2 by omega))

theorem pay12_at (b : Vec Ideal S1x1408 .f32) (l : Fin 1408) : k0_pay12 b (ix2 0 l) = b (ix2 0 l) := by
  pointwise [k0_pay12]

theorem pay13_at (a0 a1 a2 : FVec Ideal S512x1408 .f32) (cw : Vec Ideal S3x1408 .f32) (cb : FVec Ideal S1x1408 .f32) (h : Vec Ideal S512x1024 .bf16)
    (wb : Vec Ideal S1024x1408 .bf16) (acc : Vec Ideal S512x1024 .f32) (wo : Vec Ideal S1408x1024 .bf16) (s : Fin 512) (j : Fin 1024) :
    k0_pay13 a0 a1 a2 cw cb h wb acc wo (ix2 s j)
      = acc (ix2 s j) + ∑ x, act (cb (ix2 0 x)) (cw (ix2 0 x)) (cw (ix2 1 x)) (cw (ix2 2 x)) (a2 (ix2 s x)) (a1 (ix2 s x)) (a0 (ix2 s x))
          (∑ k : Fin 1024, h (ix2 s k) * wb (ix2 k x)) * wo (ix2 x j) := by
  pointwise [k0_pay13]
  rfl

theorem pay1_at (a : FVec Ideal S512x1408 .f32) (r : Fin 8) (l : Fin 1408) :
    k0_pay1 (k0_pay14 a) (ix3 0 r l) = a (ix2 ⟨504 + r.val, by omega⟩ l) := by
  pointwise [k0_pay1, k0_pay14]

end Cert.Ffwd
-- ==== Proof.FfnBlock.lean ====
module

public import proofs.«01_k».proof.Proof.FfnCell
public import proofs.«01_k».proof.Proof.Gen.FfnReferenceIdeal
public import proofs.«01_k».proof.Proof.Gen.FfnReferenceIdeal.Run
public import proofs.«01_k».proof.Proof.Gen.FfnReferenceIdeal.Read
public import Idealize.ShloMosaic.Lib.Pipeline.ValueKit
public import Idealize.ShloMosaic.Lib.Pipeline.ReadBack
public import Idealize.ShloMosaic.Lib.Claim

/-! The feed-forward layer as one function of the arguments, and what each grid point of the kernel leaves in its blocks. -/

@[expose] public section

set_option maxRecDepth 16384

noncomputable section

namespace Cert.Ffwd

open Idealize.ShloMosaic Idealize.ShloMosaic.TcCoe
open Cert.Fox (rd rd_at rd_eq)

section
variable (x : (⟨3, ![2, 8192, 1024]⟩ : Shape).Idx → EReal) (g : (⟨1, ![1024]⟩ : Shape).Idx → EReal) (w : (⟨2, ![1024, 5632]⟩ : Shape).Idx → EReal)
  (cw : (⟨2, ![3, 2816]⟩ : Shape).Idx → EReal) (cb : (⟨1, ![2816]⟩ : Shape).Idx → EReal) (wo : (⟨2, ![2816, 1024]⟩ : Shape).Idx → EReal)
  (gp : (⟨1, ![1024]⟩ : Shape).Idx → EReal)

/-- The normed input at batch `b`, position `t`. -/
def hrow (b : Fin 2) (t : ℕ) : Fin 1024 → EReal := nrm (fun k => rd x b t k.val) (fun k => g (ix1 k))

/-- Column `l` of the up-projection. -/
def up (b : Fin 2) (t : ℕ) (l : Fin 5632) : EReal := ∑ k : Fin 1024, hrow x g b t k * w (ix2 k l)

/-- Column `l`'s up-projection `d` positions before `t`, nothing before the first. -/
def tap (b : Fin 2) (t d : ℕ) (l : Fin 5632) : EReal := if d ≤ t then up x g w b (t - d) l else 0

/-- The convolved column and the gate column of a hidden unit. -/
def lo (l : Fin 2816) : Fin 5632 := ⟨l.val, by omega⟩
def hi (l : Fin 2816) : Fin 5632 := ⟨2816 + l.val, by omega⟩

/-- Hidden unit `l`. -/
def hid (b : Fin 2) (t : ℕ) (l : Fin 2816) : EReal :=
  act (cb (ix1 l)) (cw (ix2 0 l)) (cw (ix2 1 l)) (cw (ix2 2 l)) (tap x g w b t 2 (lo l)) (tap x g w b t 1 (lo l)) (tap x g w b t 0 (lo l)) (up x g w b t (hi l))

/-- The down-projection. -/
def down (b : Fin 2) (t : ℕ) (j : Fin 1024) : EReal := ∑ l : Fin 2816, hid x g w cw cb b t l * wo (ix2 l j)

/-- The layer's result. -/
def ffnOut (b : Fin 2) (t : ℕ) (j : Fin 1024) : EReal :=
  rd x b t j.val + nrm (down x g w cw cb wo b t) (fun k => gp (ix1 k)) j

end

/-- Unit `l` of half `h`. -/
def half (h : Fin 2) (l : Fin 1408) : Fin 2816 := ⟨1408 * h.val + l.val, by omega⟩

theorem sum_halves (f : Fin 2816 → EReal) : ∑ l, f l = (0 + ∑ l, f (half 0 l)) + ∑ l, f (half 1 l) := by
  rw [zero_add]
  refine (Fin.sum_univ_add (a := 1408) (b := 1408) f).trans (congrArg₂ (· + ·) ?_ ?_) <;> refine Finset.sum_congr rfl fun l _ => congrArg f (Fin.ext ?_)
  · show l.val = 1408 * 0 + l.val; omega
  · show 1408 + l.val = 1408 * 1 + l.val; omega

open Cert.FfnIdeal Cert.FfnIdeal.Gen

section
variable (t : Fin cfg0.N)
theorem tlt : t.val < 64 := t.isLt

/-- A grid point's batch, its half of the hidden units, and the first position of its block. -/
def bat : Fin 2 := ⟨t.val / 32, by have := tlt t; omega⟩
def hlf : Fin 2 := ⟨t.val % 2, by omega⟩
def pos : ℕ := 512 * (t.val / 2 % 16)
end

theorem idx0 : ∀ t : Fin cfg0.N, win0_0.index t = ![t.val / 2, 0] := (by decide +kernel : ∀ t : Fin grid0.N, _)
theorem idx1 : ∀ t : Fin cfg0.N, t.val / 2 % 16 ≠ 0 → win0_1.index t = ![64 * (t.val / 2) - 1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val % 2] := (by decide +kernel : ∀ t : Fin grid0.N, _)
theorem idx4 : ∀ t : Fin cfg0.N, win0_4.index t = ![0, t.val % 2] := (by decide +kernel : ∀ t : Fin grid0.N, _)
theorem idx5 : ∀ t : Fin cfg0.N, win0_5.index t = ![0, t.val % 2] := (by decide +kernel : ∀ t : Fin grid0.N, _)
theorem idx6 : ∀ t : Fin cfg0.N, win0_6.index t = ![0, t.val % 2] := (by decide +kernel : ∀ t : Fin grid0.N, _)
theorem idx7 : ∀ t : Fin cfg0.N, win0_7.index t = ![t.val % 2, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val / 2, 0] := (by decide +kernel : ∀ t : Fin grid0.N, _)
theorem idx10 : ∀ t : Fin cfg0.N, win0_10.index t = ![t.val / 2, 0, t.val % 2] := (by decide +kernel : ∀ t : Fin grid0.N, _)
theorem crd : ∀ t : Fin cfg0.N, (grid0.coords t 0).val = t.val / 2 := (by decide +kernel : ∀ t : Fin grid0.N, _)

variable (m : (ℓ : Loc nD τ sig) → Buf (Elt Ideal) ℓ) (c : Dev nD) (t : Fin cfg0.N)

theorem blk0 (s : Fin 512) (k : Fin 1024) :
    iblk (F := Ideal) m c 0 t (ix2 s k) = rd (n := 1024) (m ((c : Thread nD τ).loc main_arg0)) (bat t) (pos t + s.val) k.val := by
  have hs := s.isLt
  have ht := tlt t
  rw [rd_eq (n := 1024) _ _ _ _ (by unfold pos; omega) k.isLt]
  unfold bat pos
  blk_ext! [iblk, V, idx0 t]

theorem blk1 (h : t.val / 2 % 16 ≠ 0) (s : Fin 8) (k : Fin 1024) :
    iblk (F := Ideal) m c 1 t (ix2 s k) = rd (n := 1024) (m ((c : Thread nD τ).loc main_arg0)) (bat t) (pos t + s.val - 8) k.val := by
  have hs := s.isLt
  have ht := tlt t
  rw [rd_eq (n := 1024) _ _ _ _ (by unfold pos; omega) k.isLt]
  unfold bat pos
  blk_ext! [iblk, V, idx1 t h]

theorem blk2 (k : Fin 1024) : iblk (F := Ideal) m c 2 t (ix2 0 k) = m ((c : Thread nD τ).loc main_arg1) (ix1 k) := by
  blk_ext! [iblk, V, idx2 t]

theorem blk3 (k : Fin 1024) (l : Fin 1408) :
    iblk (F := Ideal) m c 3 t (ix2 k l) = m ((c : Thread nD τ).loc main_arg2) (ix2 k (lo (half (hlf t) l))) := by
  unfold lo half hlf
  blk_ext! [iblk, V, idx3 t]

theorem blk4 (k : Fin 1024) (l : Fin 1408) :
    iblk (F := Ideal) m c 4 t (ix2 k l) = m ((c : Thread nD τ).loc main_arg2) (ix2 k (hi (half (hlf t) l))) := by
  unfold hi half hlf
  blk_ext! [iblk, V, idx4 t]

theorem blk5 (d : Fin 3) (l : Fin 1408) :
    iblk (F := Ideal) m c 5 t (ix2 d l) = m ((c : Thread nD τ).loc main_arg3) (ix2 d (half (hlf t) l)) := by
  unfold half hlf
  blk_ext! [iblk, V, idx5 t]

theorem blk6 (l : Fin 1408) : iblk (F := Ideal) m c 6 t (ix2 0 l) = m ((c : Thread nD τ).loc main_arg4) (ix1 (half (hlf t) l)) := by
  unfold half hlf
  blk_ext! [iblk, V, idx6 t]

theorem blk7 (l : Fin 1408) (j : Fin 1024) :
    iblk (F := Ideal) m c 7 t (ix2 l j) = m ((c : Thread nD τ).loc main_arg5) (ix2 (half (hlf t) l) j) := by
  unfold half hlf
  blk_ext! [iblk, V, idx7 t]

theorem blk8 (k : Fin 1024) : iblk (F := Ideal) m c 8 t (ix2 0 k) = m ((c : Thread nD τ).loc main_arg6) (ix1 k) := by
  blk_ext! [iblk, V, idx8 t]

end Cert.Ffwd
-- ==== Proof.FfnPoint.lean ====
module

public import proofs.«01_k».proof.Proof.FfnBlock

/-! What each grid point of the feed-forward kernel leaves in its scratch and in its output blocks. -/

@[expose] public section

set_option maxRecDepth 16384

noncomputable section

namespace Cert.Ffwd

open Idealize.ShloMosaic Idealize.ShloMosaic.TcCoe
open Cert.FfnIdeal Cert.FfnIdeal.Gen

variable (m : (ℓ : Loc nD τ sig) → Buf (Elt Ideal) ℓ) (c : Dev nD) (t : Fin cfg0.N)

/-- The normed input, the projections and the layer's result at a grid point's batch, of the kernel's arguments. -/
abbrev hrowAt (q : ℕ) : Fin 1024 → EReal := hrow (m ((c : Thread nD τ).loc main_arg0)) (m ((c : Thread nD τ).loc main_arg1)) (bat t) q
abbrev upAt (q : ℕ) (l : Fin 5632) : EReal :=
  up (m ((c : Thread nD τ).loc main_arg0)) (m ((c : Thread nD τ).loc main_arg1)) (m ((c : Thread nD τ).loc main_arg2)) (bat t) q l
abbrev tapAt (q d : ℕ) (l : Fin 5632) : EReal :=
  tap (m ((c : Thread nD τ).loc main_arg0)) (m ((c : Thread nD τ).loc main_arg1)) (m ((c : Thread nD τ).loc main_arg2)) (bat t) q d l
abbrev hidAt (q : ℕ) (l : Fin 2816) : EReal :=
  hid (m ((c : Thread nD τ).loc main_arg0)) (m ((c : Thread nD τ).loc main_arg1)) (m ((c : Thread nD τ).loc main_arg2))
    (m ((c : Thread nD τ).loc main_arg3)) (m ((c : Thread nD τ).loc main_arg4)) (bat t) q l
abbrev partAt (h : Fin 2) (q : ℕ) (j : Fin 1024) : EReal :=
  ∑ l : Fin 1408, hidAt m c t q (half h l) * (m ((c : Thread nD τ).loc main_arg5) : (⟨2, ![2816, 1024]⟩ : Shape).Idx → EReal) (ix2 (half h l) j)
abbrev outAt (q : ℕ) (j : Fin 1024) : EReal :=
  ffnOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (bat t) q j

/-- The scratch holds the normed rows of the block, after those of the eight positions before it unless a sequence starts here. -/
def Rows (H : Vec Ideal S520x1024 .bf16) : Prop :=
  ∀ (r : Fin 520) (k : Fin 1024), 8 ≤ r.val ∨ t.val / 2 % 16 ≠ 0 → H (ix2 r k) = hrowAt m c t (pos t + r.val - 8) k

section
variable {H : Vec Ideal S520x1024 .bf16} (hH : Rows m c t H)
include hH

theorem ext_at (r : Fin 520) (l : Fin 1408) :
    k0_pay8 (grid0.coords t) H (iblk m c 3 t) (ix2 r l)
      = if 8 ≤ r.val ∨ t.val / 2 % 16 ≠ 0 then upAt m c t (pos t + r.val - 8) (lo (half (hlf t) l)) else 0 := by
  rw [pay8_at, crd]
  by_cases h : 8 ≤ r.val ∨ t.val / 2 % 16 ≠ 0
  · rw [if_pos h, if_pos h]
    exact Finset.sum_congr rfl fun k _ => congrArg₂ (· * ·) (hH r k h) (blk3 m c t k l)
  · rw [if_neg h, if_neg h]

theorem tap0_at (s : Fin 512) (l : Fin 1408) :
    k0_pay9 (grid0.coords t) H (iblk m c 3 t) (ix2 s l) = tapAt m c t (pos t + s.val) 0 (lo (half (hlf t) l)) := by
  rw [pay9_at, ext_at m c t hH]
  refine if_congr (iff_of_true (Or.inl (Nat.le_add_right _ _)) (Nat.zero_le _)) ?_ rfl
  exact congrArg (fun q => upAt m c t q (lo (half (hlf t) l))) (show pos t + (8 + s.val) - 8 = pos t + s.val - 0 by omega)

theorem tap1_at (s : Fin 512) (l : Fin 1408) :
    k0_pay10 (grid0.coords t) H (iblk m c 3 t) (ix2 s l) = tapAt m c t (pos t + s.val) 1 (lo (half (hlf t) l)) := by
  rw [pay10_at, ext_at m c t hH]
  refine if_congr (show 8 ≤ 8 + s.val - 1 ∨ t.val / 2 % 16 ≠ 0 ↔ 1 ≤ pos t + s.val by unfold pos; omega) ?_ rfl
  exact congrArg (fun q => upAt m c t q (lo (half (hlf t) l))) (show pos t + (8 + s.val - 1) - 8 = pos t + s.val - 1 by omega)

theorem tap2_at (s : Fin 512) (l : Fin 1408) :
    k0_pay11 (grid0.coords t) H (iblk m c 3 t) (ix2 s l) = tapAt m c t (pos t + s.val) 2 (lo (half (hlf t) l)) := by
  rw [pay11_at, ext_at m c t hH]
  refine if_congr (show 8 ≤ 8 + s.val - 2 ∨ t.val / 2 % 16 ≠ 0 ↔ 2 ≤ pos t + s.val by have := s.isLt; unfold pos; omega) ?_ rfl
  exact congrArg (fun q => upAt m c t q (lo (half (hlf t) l))) (show pos t + (8 + s.val - 2) - 8 = pos t + s.val - 2 by omega)

theorem step_at (h : Vec Ideal S512x1024 .bf16) (hh : ∀ (s : Fin 512) (k : Fin 1024), h (ix2 s k) = hrowAt m c t (pos t + s.val) k)
    (acc : Vec Ideal S512x1024 .f32) (s : Fin 512) (j : Fin 1024) :
    k0_pay13 (k0_pay9 (grid0.coords t) H (iblk m c 3 t)) (k0_pay10 (grid0.coords t) H (iblk m c 3 t)) (k0_pay11 (grid0.coords t) H (iblk m c 3 t))
        (iblk m c 5 t) (k0_pay12 (iblk m c 6 t)) h (iblk m c 4 t) acc (iblk m c 7 t) (ix2 s j)
      = acc (ix2 s j) + partAt m c t (hlf t) (pos t + s.val) j := by
  rw [pay13_at]
  refine congrArg (acc (ix2 s j) + ·) (Finset.sum_congr rfl fun l _ => congrArg₂ (· * ·) ?_ (blk7 m c t l j))
  rw [tap0_at m c t hH, tap1_at m c t hH, tap2_at m c t hH, blk5, blk5, blk5, show k0_pay12 (iblk m c 6 t) (ix2 0 l) = iblk m c 6 t (ix2 0 l) from pay12_at _ l, blk6]
  exact congrArg (act _ _ _ _ _ _ _) (Finset.sum_congr rfl fun k _ => congrArg₂ (· * ·) (hh s k) (blk4 m c t k l))

theorem tail_at (r : Fin 8) (l : Fin 1408) :
    k0_pay1 (k0_pay14 (k0_pay9 (grid0.coords t) H (iblk m c 3 t))) (ix3 0 r l) = upAt m c t (pos t + (504 + r.val)) (lo (half (hlf t) l)) := by
  rw [pay1_at, tap0_at m c t hH]
  exact if_pos (Nat.zero_le _)

end

theorem down_at (q : ℕ) (j : Fin 1024) :
    (0 + partAt m c t 0 q j) + partAt m c t 1 q j
      = down (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (bat t) q j :=
  (sum_halves fun l => hidAt m c t q l * (m ((c : Thread nD τ).loc main_arg5) : (⟨2, ![2816, 1024]⟩ : Shape).Idx → EReal) (ix2 l j)).symm

/-- The scratch's two stores read back. -/
theorem stored_rows : Rows m c t (View.canon (Val := Elt Ideal) (s := S520x1024) (e := .bf16)
    [⟨Rect.unit ![8, 0] ![512, 1024] inb_S520x1024_S512x1024_8_0, k0_pay5 (iblk m c 2 t) (iblk m c 0 t)⟩,
      ⟨Rect.unit ![0, 0] ![8, 1024] inb_S520x1024_S8x1024_0_0, k0_pay4 (iblk m c 2 t) (iblk m c 1 t)⟩]) := by
  intro r k h
  rw [← View.read_writes_junk_apply_eq_canon (View.whole cc0_scratch0)]
  by_cases hr : 8 ≤ r.val
  · refine (View.read_writes_cons_rows_of_mem (Val := Elt Ideal) (View.whole cc0_scratch0) _ inb_S520x1024_S512x1024_8_0 _ _ (ix2 r k)
      (ix2 (⟨r.val - 8, by omega⟩ : Fin 512) k) (o := 8) rfl (show r.val = 8 + (r.val - 8) by omega) rfl).trans ?_
    rw [pay5_at]
    refine congrArg₂ (fun a b => nrm a b k) (funext fun k => ?_) (funext fun k => blk2 m c t k)
    exact (blk0 m c t _ k).trans (congrArg (fun q => Cert.Fox.rd (n := 1024) _ (bat t) q k.val) (show pos t + (r.val - 8) = pos t + r.val - 8 by omega))
  · refine (View.read_writes_cons_rows_of_not_mem (Val := Elt Ideal) (View.whole cc0_scratch0) _ inb_S520x1024_S512x1024_8_0 _ _ (ix2 r k)
      (o := 8) (W := 512) rfl rfl (Or.inl (show r.val < 8 by omega))).trans ?_
    refine (View.read_writes_cons_rows_of_mem (Val := Elt Ideal) (View.whole cc0_scratch0) _ inb_S520x1024_S8x1024_0_0 _ _ (ix2 r k)
      (ix2 (⟨r.val, by omega⟩ : Fin 8) k) (o := 0) rfl (show r.val = 0 + r.val by omega) rfl).trans ?_
    rw [pay4_at]
    exact congrArg₂ (fun a b => nrm a b k) (funext fun k => blk1 m c t (by omega) _ k) (funext fun k => blk2 m c t k)

theorem full_load (L : List (View.Piece (Elt Ideal) S520x1024 .bf16)) (hL : Rows m c t (View.canon L)) :
    Rows m c t (View.readCov (Val := Elt Ideal) (s := S520x1024) (e := .bf16) (View.whole cc0_scratch0) L
      (Rect.unit (s := S520x1024) ![0, 0] ![520, 1024] inb_S520x1024_S520x1024_0_0).toLoadRect) := by
  intro r k h
  rw [View.readCov_eq_canon', ← hL r k h]
  refine congrArg (View.canon L) (funext fun a => ?_)
  fin_cases a
  · exact Fin.ext (by show 0 + 1 * r.val = r.val; omega)
  · exact Fin.ext (by show 0 + 1 * k.val = k.val; omega)

section
variable (h0 : t.val % 2 = 0)
include h0

theorem even_scratch : Rows m c t (outsAt0 (F := Ideal) m c t.val t.isLt).2.2.1 := by
  intro r k h
  rw [outsAt0_A m c t h0 (by omega)]
  frame_out
  exact stored_rows m c t r k h

theorem even_acc (s : Fin 512) (j : Fin 1024) :
    (outsAt0 (F := Ideal) m c t.val t.isLt).2.2.2 (ix2 s j) = 0 + partAt m c t (hlf t) (pos t + s.val) j := by
  rw [outsAt0_A m c t h0 (by omega)]
  frame_out
  rw [step_at m c t (full_load m c t _ (stored_rows m c t)), pay7_at]
  intro s k
  rw [View.readCov_cons_toLoadRect, pay5_at]
  exact congrArg₂ (fun a b => nrm a b k) (funext fun k => blk0 m c t s k) (funext fun k => blk2 m c t k)

theorem even_tail (r : Fin 8) (l : Fin 1408) :
    (outsAt0 (F := Ideal) m c t.val t.isLt).2.1 (ix3 0 r l) = upAt m c t (pos t + (504 + r.val)) (lo (half (hlf t) l)) := by
  rw [outsAt0_A m c t h0 (by omega)]
  frame_out
  exact tail_at m c t (full_load m c t _ (stored_rows m c t)) r l
end

section
variable (h1 : t.val % 2 = 1)
include h1

theorem before_lt : t.val - 1 < cfg0.N := by have := t.isLt; omega

theorem odd_scratch : Rows m c t (outsAt0 (F := Ideal) m c (t.val - 1) (before_lt t h1)).2.2.1 := by
  have h := even_scratch m c ⟨t.val - 1, before_lt t h1⟩ (show (t.val - 1) % 2 = 0 by omega)
  have e : (t.val - 1) / 2 = t.val / 2 := by omega
  have e2 : (t.val - 1) / 32 = t.val / 32 := by omega
  unfold Rows hrowAt bat pos at h ⊢
  simpa only [e, e2] using h

theorem odd_acc (s : Fin 512) (j : Fin 1024) :
    (outsAt0 (F := Ideal) m c (t.val - 1) (before_lt t h1)).2.2.2 (ix2 s j) = 0 + partAt m c t 0 (pos t + s.val) j := by
  have h := even_acc m c ⟨t.val - 1, before_lt t h1⟩ (show (t.val - 1) % 2 = 0 by omega) s j
  have e : (t.val - 1) / 2 = t.val / 2 := by omega
  have e2 : (t.val - 1) / 32 = t.val / 32 := by omega
  have e3 : hlf ⟨t.val - 1, before_lt t h1⟩ = 0 := Fin.ext (show (t.val - 1) % 2 = 0 by omega)
  rw [e3] at h
  unfold partAt hidAt bat pos at h ⊢
  simpa only [e, e2] using h

theorem odd_out (s : Fin 512) (j : Fin 1024) :
    (outsAt0 (F := Ideal) m c t.val t.isLt).1 (ix2 s j) = outAt m c t (pos t + s.val) j := by
  rw [outsAt0_B m c t (by omega) h1]
  frame_out
  simp only [read_unread_whole]
  rw [pay2_at, blk0]
  refine congrArg (_ + ·) (congrArg₂ (fun a b => nrm a b j) (funext fun k => ?_) (funext fun k => blk8 m c t k))
  rw [step_at m c t (odd_scratch m c t h1), odd_acc m c t h1]
  · rw [show hlf t = 1 from Fin.ext h1]
    exact down_at m c t (pos t + s.val) k
  · intro s k
    refine (View.ld_unit_apply_of _ _ _ _ (ix2 s k) (ix2 (⟨8 + s.val, by omega⟩ : Fin 520) k) fun a => ?_).trans
      ((odd_scratch m c t h1 _ k (Or.inl (Nat.le_add_right _ _))).trans (congrArg (fun q => hrowAt m c t q k) (show pos t + (8 + s.val) - 8 = pos t + s.val by omega)))
    fin_cases a
    · rfl
    · exact (Nat.zero_add _).symm

theorem odd_tail (r : Fin 8) (l : Fin 1408) :
    (outsAt0 (F := Ideal) m c t.val t.isLt).2.1 (ix3 0 r l) = upAt m c t (pos t + (504 + r.val)) (lo (half (hlf t) l)) := by
  rw [outsAt0_B m c t (by omega) h1]
  frame_out
  simp only [read_unread_whole]
  exact tail_at m c t (odd_scratch m c t h1) r l
end

end Cert.Ffwd
-- ==== Proof.FfnArray.lean ====
module

public import proofs.«01_k».proof.Proof.FfnPoint

/-! The feed-forward kernel's two results, of its arguments. -/

@[expose] public section

set_option maxRecDepth 16384

noncomputable section

namespace Cert.Ffwd

open Idealize.ShloMosaic Idealize.ShloMosaic.TcCoe
open Cert.FfnIdeal Cert.FfnIdeal.Gen

/-- The layer's result as the kernel lays it out: rows of both sequences. -/
def outRow (x : (⟨3, ![2, 8192, 1024]⟩ : Shape).Idx → EReal) (g : (⟨1, ![1024]⟩ : Shape).Idx → EReal) (w : (⟨2, ![1024, 5632]⟩ : Shape).Idx → EReal)
    (cw : (⟨2, ![3, 2816]⟩ : Shape).Idx → EReal) (cb : (⟨1, ![2816]⟩ : Shape).Idx → EReal) (wo : (⟨2, ![2816, 1024]⟩ : Shape).Idx → EReal)
    (gp : (⟨1, ![1024]⟩ : Shape).Idx → EReal) (y : (⟨2, ![16384, 1024]⟩ : Shape).Idx) : EReal :=
  ffnOut x g w cw cb wo gp ⟨(y 0).val / 8192, by have : (y 0).val < 16384 := (y 0).isLt; omega⟩ ((y 0).val % 8192) (y 1)

/-- The last eight rows of every block of 512 of the convolution's input. -/
def tailRow (x : (⟨3, ![2, 8192, 1024]⟩ : Shape).Idx → EReal) (g : (⟨1, ![1024]⟩ : Shape).Idx → EReal) (w : (⟨2, ![1024, 5632]⟩ : Shape).Idx → EReal)
    (y : (⟨3, ![32, 8, 2816]⟩ : Shape).Idx) : EReal :=
  up x g w ⟨(y 0).val / 16, by have : (y 0).val < 32 := (y 0).isLt; omega⟩ (512 * ((y 0).val % 16) + (504 + (y 1).val)) (lo (y 2))

variable (m : (ℓ : Loc nD τ sig) → Buf (Elt Ideal) ℓ) (c : Dev nD)

theorem arr9 : (dats (F := Ideal) m 0 c).arrAt 9 cfg0.N
    = outRow (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats (F := Ideal) m 0 c).arrAt_eq_of_covers 9 _ (by decide +kernel) fun t hf y => ?_
  rw [after0_9]
  have h1 : t.val % 2 = 1 := (flush0_9 t).mp hf
  have hy : y = ix2 (y 0 : Fin 512) (y 1 : Fin 1024) := by funext a; fin_cases a <;> rfl
  refine (congrArg (outsAt0 (F := Ideal) m c t.val t.isLt).1 hy).trans ((odd_out m c t h1 (y 0) (y 1)).trans ?_)
  have hy0 : (y 0).val < 512 := (y 0).isLt
  have e0 : ((win0_9.blk t).view.emb y 0).val = 512 * (t.val / 2) + (y 0).val := by blk_simp [idx9 t]; omega
  have e1 : (win0_9.blk t).view.emb y 1 = y 1 := Fin.ext (by blk_simp [idx9 t])
  have ht := tlt t
  have eb : bat t = ⟨((win0_9.blk t).view.emb y 0).val / 8192, by rw [e0]; omega⟩ := Fin.ext (by show t.val / 32 = _ / 8192; rw [e0]; omega)
  have eq : pos t + (y 0).val = ((win0_9.blk t).view.emb y 0).val % 8192 := by rw [e0]; unfold pos; omega
  unfold outAt
  rw [eb, eq]
  exact congrArg (ffnOut _ _ _ _ _ _ _ _ _) e1.symm

theorem arr10 : (dats (F := Ideal) m 0 c).arrAt 10 cfg0.N
    = tailRow (m ((c : Thread nD τ).loc main_arg0)) (m ((c : Thread nD τ).loc main_arg1)) (m ((c : Thread nD τ).loc main_arg2)) := by
  refine (dats (F := Ideal) m 0 c).arrAt_eq_of_covers 10 _ (by decide +kernel) fun t hf y => ?_
  rw [after0_10]
  have hy : y = ix3 (0 : Fin 1) (y 1 : Fin 8) (y 2 : Fin 1408) := by
    funext a
    fin_cases a
    · exact Fin.ext (by have h0 : (y 0).val < 1 := (y 0).isLt; show (y 0).val = 0; omega)
    · rfl
    · rfl
  have hv : (outsAt0 (F := Ideal) m c t.val t.isLt).2.1 (ix3 0 (y 1 : Fin 8) (y 2 : Fin 1408))
      = upAt m c t (pos t + (504 + (y 1).val)) (lo (half (hlf t) (y 2))) := by
    rcases Nat.mod_two_eq_zero_or_one t.val with h | h
    · exact even_tail m c t h (y 1) (y 2)
    · exact odd_tail m c t h (y 1) (y 2)
  refine (congrArg (outsAt0 (F := Ideal) m c t.val t.isLt).2.1 hy).trans (hv.trans ?_)
  have hy0 : (y 0).val < 1 := (y 0).isLt
  have e0 : ((win0_10.blk t).view.emb y 0).val = t.val / 2 := by blk_simp [idx10 t]; try omega
  have e1 : (win0_10.blk t).view.emb y 1 = y 1 := Fin.ext (by blk_simp [idx10 t])
  have e2 : ((win0_10.blk t).view.emb y 2).val = 1408 * (t.val % 2) + (y 2).val := by blk_simp [idx10 t]; try omega
  have ht := tlt t
  have eb : bat t = ⟨((win0_10.blk t).view.emb y 0).val / 16, by rw [e0]; omega⟩ := Fin.ext (by show t.val / 32 = _ / 16; rw [e0]; omega)
  have eq : pos t + (504 + (y 1).val) = 512 * (((win0_10.blk t).view.emb y 0).val % 16) + (504 + ((win0_10.blk t).view.emb y 1).val) := by
    rw [e0, e1]
    rfl
  have el : half (hlf t) (y 2) = (win0_10.blk t).view.emb y 2 := Fin.ext (by rw [e2]; rfl)
  unfold upAt
  rw [eb, eq, el]
  rfl

end Cert.Ffwd
-- ==== Proof.FfnRef.lean ====
module

public import proofs.«01_k».proof.Proof.FfnBlock

/-! The reference's two results as the same functions of the arguments. -/

@[expose] public section

set_option maxRecDepth 16384

noncomputable section

namespace Cert.Ffwd

open Idealize.ShloMosaic Idealize.ShloMosaic.TcCoe
open Cert.FfnReferenceIdeal Cert.FfnReferenceIdeal.Gen Cert.FfnReferenceIdeal.Read
open Cert.Fox (rd rd_at rd_eq)

variable (x : FVec Ideal S2x8192x1024 .f32) (g : FVec Ideal S1024 .f32) (w : FVec Ideal S1024x5632 .f32) (cw : FVec Ideal S3x2816 .f32)
  (cb : FVec Ideal S2816 .f32) (wo : FVec Ideal S2816x1024 .f32) (gp : FVec Ideal S1024 .f32)

theorem ix2_self {n₀ n₁ : ℕ} (y : (⟨2, ![n₀, n₁]⟩ : Shape).Idx) : y = ix2 (y 0 : Fin n₀) (y 1 : Fin n₁) := by
  funext a
  fin_cases a <;> rfl

theorem ref_h (b : Fin 2) (t : Fin 8192) (k : Fin 1024) :
    val_main_v13 (F := Ideal) x g (ix3 b t k) = hrow x g b t.val k := by
  pointwise [val_main_v13, val_main_v12, val_main_v11, val_main_v10, val_main_v9, val_main_v8, val_main_v7, val_main_v6, val_main_v5, val_main_v4, val_main_v3, val_main_v2, val_main_v1, val_main_cst_0, val_main_cst_1, val_main_cst_2]
  unfold hrow nrm
  simp only [rd_at]

theorem ref_up (b : Fin 2) (t : Fin 8192) (l : Fin 5632) :
    val_main_v14 (F := Ideal) x g w (ix3 b t l) = up x g w b t.val l := by
  pointwise [val_main_v14]
  exact Finset.sum_congr rfl fun k _ => congrArg (· * _) (ref_h x g b t k)

theorem ref_pad (b : Fin 2) (r : Fin 8194) (l : Fin 2816) :
    val_main_v17 (F := Ideal) x g w (ix3 b r l) = if 2 ≤ r.val then up x g w b (r.val - 2) (lo l) else 0 := by
  pointwise [val_main_v17, val_main_v15, val_main_v0, val_main_cst]
  by_cases h : r.val < 2
  · exact (dif_pos h).trans (if_neg (by omega)).symm
  · exact (dif_neg h).trans ((ref_up x g w b ⟨r.val - 2, by omega⟩ (lo l)).trans (if_pos (by omega)).symm)

theorem ref_tap (b : Fin 2) (t : Fin 8192) (d : ℕ) (hd : d ≤ 2) (r : Fin 8194) (hr : r.val = 2 - d + t.val) (l : Fin 2816) :
    val_main_v17 (F := Ideal) x g w (ix3 b r l) = tap x g w b t.val d (lo l) := by
  rw [ref_pad]
  refine if_congr (by omega) ?_ rfl
  exact congrArg (fun q => up x g w b q (lo l)) (by omega)

theorem ref_hid (b : Fin 2) (t : Fin 8192) (l : Fin 2816) :
    val_main_v54 (F := Ideal) x g w cw cb (ix3 b t l) = hid x g w cw cb b t.val l := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v16, val_main_cst_3, val_main_cst_4, val_main_cst_5, val_main_cst_6]
  rw [ref_tap x g w b t 2 (le_refl _) ⟨t.val, by omega⟩ (show t.val = 2 - 2 + t.val by omega) l, ref_tap x g w b t 1 (by omega) ⟨1 + t.val, by omega⟩ rfl l,
    ref_tap x g w b t 0 (by omega) ⟨2 + t.val, by omega⟩ rfl l]
  exact congrArg₂ (· * ·) ((mul_left_comm _ _ _).trans (mul_assoc _ _ _).symm) (ref_up x g w b t (hi l))

theorem ref_down (b : Fin 2) (t : Fin 8192) (j : Fin 1024) :
    val_main_v55 (F := Ideal) x g w cw cb wo (ix3 b t j) = down x g w cw cb wo b t.val j := by
  pointwise [val_main_v55]
  exact Finset.sum_congr rfl fun l _ => congrArg (· * _) (ref_hid x g w cw cb b t l)

theorem ref_out (r : Fin 16384) (j : Fin 1024) :
    val_main_v70 (F := Ideal) x g w cw cb wo gp (ix2 r j) = ffnOut x g w cw cb wo gp ⟨r.val / 8192, by omega⟩ (r.val % 8192) j := by
  pointwise [val_main_v70, val_main_v69, val_main_v68, val_main_v67, val_main_v66, val_main_v65, val_main_v64, val_main_v63, val_main_v62, val_main_v61, val_main_v60, val_main_v59, val_main_v58, val_main_v57, val_main_v56, val_main_cst_7, val_main_cst_8, val_main_cst_9]
  simp only [ref_down]
  unfold ffnOut nrm
  rw [rd_eq (n := 1024) _ _ _ _ (by omega) j.isLt]

theorem ref_tail (i : Fin 32) (r : Fin 8) (l : Fin 2816) :
    val_main_v72 (F := Ideal) x g w (ix3 i r l) = up x g w ⟨i.val / 16, by omega⟩ (512 * (i.val % 16) + (504 + r.val)) (lo l) := by
  pointwise [val_main_v72, val_main_v71, val_main_v15]
  refine (ref_up x g w _ _ (lo l)).trans ?_
  exact congrArg (fun q => up x g w _ q (lo l)) (show i.val % 16 * 512 + (504 + r.val) = 512 * (i.val % 16) + (504 + r.val) by omega)

end Cert.Ffwd
-- ==== Proof.ProjCell.lean ====
module

public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import Idealize.ShloMosaic.Lib.StableHlo.RunRead
public import proofs.«01_k».proof.Proof.FfnBlock

/-! The input projection's stored terms, each read at one element, and the windows' blocks. -/

@[expose] public section

set_option maxRecDepth 16384

noncomputable section

namespace Cert.Prj

open Idealize.ShloMosaic Idealize.ShloMosaic.TcCoe
open Cert.Fox (rd rd_at rd_eq)
open Cert.Ffwd (nrm hrow)

open Cert.ProjIdeal Cert.ProjIdeal.Gen

/-- The logarithm of the sigmoid as the kernel writes it. -/
def lsg (z : EReal) : EReal := min z 0 - Ideal.log (1 + Ideal.exp (0 - FloatOps.absf (F := Ideal) (φ := .f32) z))

/-- A packed row's gates and forget logarithms: the sigmoid in the first 24 lanes. -/
def sml (l : Fin 128) (z : EReal) : EReal := if l.val < 24 then Ideal.logistic z else lsg z

theorem pay2_at (x : Vec Ideal S512x1024 .f32) (g : Vec Ideal S1x1024 .f32) (s : Fin 512) (k : Fin 1024) :
    k0_pay2 x g (ix2 s k) = nrm (fun k => x (ix2 s k)) (fun k => g (ix2 0 k)) k := by
  pointwise [k0_pay2]
  rfl

theorem pay3_at (x : Vec Ideal S512x1024 .f32) (g : Vec Ideal S1x1024 .f32) (w : Vec Ideal S1024x512 .bf16) (s l : Fin 512) :
    k0_pay3 x g w (ix2 s l) = (∑ k : Fin 1024, k0_pay2 x g (ix2 s k) * w (ix2 k l)) * Ideal.ofBits .f32 0x3E000000#32 := by
  pointwise [k0_pay3]

theorem pay5_at (x : Vec Ideal S512x1024 .f32) (g : Vec Ideal S1x1024 .f32) (w : Vec Ideal S1024x512 .bf16) (s l : Fin 512) :
    k0_pay5 x g w (ix3 0 l s) = ∑ k : Fin 1024, k0_pay2 x g (ix2 s k) * w (ix2 k l) := by
  pointwise [k0_pay5, k0_pay4]

theorem pay6_at (x : Vec Ideal S512x1024 .f32) (g : Vec Ideal S1x1024 .f32) (w : Vec Ideal S1024x512 .bf16) (s : Fin 512) (l : Fin 256) :
    k0_pay6 x g w (ix2 s l) = ∑ k : Fin 1024, k0_pay2 x g (ix2 s k) * w (ix2 k ⟨l.val, by omega⟩) := by
  pointwise [k0_pay6, k0_pay4]

theorem pay8_at (x : Vec Ideal S512x1024 .f32) (g : Vec Ideal S1x1024 .f32) (w : Vec Ideal S1024x512 .bf16) (s : Fin 512) (l : Fin 256) :
    k0_pay8 (k0_pay7 x g w) (ix2 s l) = ∑ k : Fin 1024, k0_pay2 x g (ix2 s k) * w (ix2 k ⟨256 + l.val, by omega⟩) := by
  pointwise [k0_pay8, k0_pay7, k0_pay4]

theorem pay10_at (h : FVec Ideal S512x1024 .bf16) (w : Vec Ideal S1024x256 .bf16) (s : Fin 512) (l : Fin 256) :
    k0_pay10 h w (ix3 0 l s) = ∑ k : Fin 1024, h (ix2 s k) * w (ix2 k l) := by
  pointwise [k0_pay10, k0_pay9]

theorem pay11_at (h : FVec Ideal S512x1024 .bf16) (w : Vec Ideal S1024x256 .bf16) (s : Fin 512) (l : Fin 256) :
    k0_pay11 h w (ix2 s l) = ∑ k : Fin 1024, h (ix2 s k) * w (ix2 k l) := by
  pointwise [k0_pay11, k0_pay9]

theorem pay12_at (h : FVec Ideal S512x1024 .bf16) (w : Vec Ideal S1024x512 .bf16) (s l : Fin 512) :
    k0_pay12 h w (ix2 s l) = (∑ k : Fin 1024, h (ix2 s k) * w (ix2 k l)) * Ideal.ofBits .f32 0x3E000000#32 := by
  pointwise [k0_pay12]

theorem pay14_at (h : FVec Ideal S512x1024 .bf16) (w : Vec Ideal S1024x1024 .bf16) (s : Fin 512) (l : Fin 1024) :
    k0_pay14 h w (ix3 0 l s) = ∑ k : Fin 1024, h (ix2 s k) * w (ix2 k l) := by
  pointwise [k0_pay14, k0_pay13]

theorem pay15_at (h : FVec Ideal S512x1024 .bf16) (w : Vec Ideal S1024x1024 .bf16) (s : Fin 512) (l : Fin 1024) :
    k0_pay15 h w (ix2 s l) = ∑ k : Fin 1024, h (ix2 s k) * w (ix2 k l) := by
  pointwise [k0_pay15, k0_pay13]

theorem lane_bit : ∀ l : Fin 128, IntOp.cmpi CmpIPredicate.slt (BitVec.ofNat 32 l.val) 24#32 = if l.val < 24 then 1#1 else 0#1 := by
  decide +kernel

theorem pay1_at (h : FVec Ideal S512x1024 .bf16) (w : Vec Ideal S1024x128 .bf16) (b : Vec Ideal S1x128 .f32) (s : Fin 512) (l : Fin 128) :
    k0_pay1 h w b (ix2 s l) = sml l ((∑ k : Fin 1024, h (ix2 s k) * w (ix2 k l)) + b (ix2 0 l)) := by
  pointwise [k0_pay1]
  have hl : IntOp.cmpi CmpIPredicate.slt (BitVec.ofNat 32 l.val) 24#32 = if l.val < 24 then 1#1 else 0#1 := lane_bit l
  rw [hl]
  unfold sml lsg
  by_cases h1 : l.val < 24 <;> simp [h1, Scalar.select]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

section
variable (t : Fin cfg0.N)
theorem tlt : t.val < 32 := t.isLt

/-- A grid point's batch, and the first position of its block. -/
def bat : Fin 2 := ⟨t.val / 16, by have := tlt t; omega⟩
def pos : ℕ := 512 * (t.val % 16)
end

variable (m : (ℓ : Loc nD τ sig) → Buf (Elt Ideal) ℓ) (c : Dev nD) (t : Fin cfg0.N)

theorem blk0 (s : Fin 512) (k : Fin 1024) :
    iblk (F := Ideal) m c 0 t (ix2 s k) = rd (n := 1024) (m ((c : Thread nD τ).loc main_arg0)) (bat t) (pos t + s.val) k.val := by
  have hs := s.isLt
  have ht := tlt t
  rw [rd_eq (n := 1024) _ _ _ _ (by unfold pos; omega) k.isLt]
  unfold bat pos
  blk_ext! [iblk, V, idx0 t]

theorem blk1 (k : Fin 1024) : iblk (F := Ideal) m c 1 t (ix2 0 k) = m ((c : Thread nD τ).loc main_arg1) (ix1 k) := by
  blk_ext! [iblk, V, idx1 t]

/-- The packed weights' pieces with their heads' two axes swapped, and the packed weights and biases. -/
def wq (w : FVec Ideal S1024x2848 .f32) : FVec Ideal S1024x512 .f32 :=
  shapeCast _ (shapeCast _ (transpose S1024x4x2x64 [0, 2, 1, 3]
    (shapeCast _ (shapeCast _ (extractStridedSlice S1024x512 ![0, 0] w slices_S1024x2848_S1024x512_0_0) shapeCasts_S1024x512_S1024x8x64) shapeCasts_S1024x8x64_S1024x2x4x64)
    transposes_S1024x2x4x64_S1024x4x2x64_0_2_1_3) shapeCasts_S1024x4x2x64_S1024x8x64) shapeCasts_S1024x8x64_S1024x512

def wg (w : FVec Ideal S1024x2848 .f32) : FVec Ideal S1024x24 .f32 :=
  shapeCast _ (shapeCast _ (transpose S1024x3x4x2 [0, 1, 3, 2]
    (shapeCast _ (shapeCast _ (extractStridedSlice S1024x24 ![0, 1280] w slices_S1024x2848_S1024x24_0_1280) shapeCasts_S1024x24_S1024x3x8) shapeCasts_S1024x3x8_S1024x3x2x4)
    transposes_S1024x3x2x4_S1024x3x4x2_0_1_3_2) shapeCasts_S1024x3x4x2_S1024x3x8) shapeCasts_S1024x3x8_S1024x24

def ws (w : FVec Ideal S1024x2848 .f32) : FVec Ideal S1024x128 .f32 :=
  concatenate S1024x128 1 [⟨S1024x24, wg w⟩, ⟨S1024x8, extractStridedSlice S1024x8 ![0, 2840] w slices_S1024x2848_S1024x8_0_2840⟩,
    ⟨S1024x96, broadcastInDim S1024x96 ![] bcast_S_S1024x96 (constant S_ .f32 0x00000000#32)⟩] concatenates_S1024x24_S1024x8_S1024x96_S1024x128_d1

def wp (w : FVec Ideal S1024x2848 .f32) : FVec Ideal S1024x2944 .f32 :=
  concatenate S1024x2944 1 [⟨S1024x512, wq w⟩, ⟨S1024x768, extractStridedSlice S1024x768 ![0, 512] w slices_S1024x2848_S1024x768_0_512⟩,
    ⟨S1024x512, extractStridedSlice S1024x512 ![0, 1304] w slices_S1024x2848_S1024x512_0_1304⟩,
    ⟨S1024x1024, extractStridedSlice S1024x1024 ![0, 1816] w slices_S1024x2848_S1024x1024_0_1816⟩, ⟨S1024x128, ws w⟩]
    concatenates_S1024x512_S1024x768_S1024x512_S1024x1024_S1024x128_S1024x2944_d1

def bg (b : FVec Ideal S24 .f32) : FVec Ideal S24 .f32 :=
  shapeCast _ (shapeCast _ (transpose S3x4x2 [0, 2, 1] (shapeCast _ (shapeCast _ b shapeCasts_S24_S3x8) shapeCasts_S3x8_S3x2x4)
    transposes_S3x2x4_S3x4x2_0_2_1) shapeCasts_S3x4x2_S3x8) shapeCasts_S3x8_S24

def bp (b : FVec Ideal S24 .f32) (f : FVec Ideal S8 .f32) : FVec Ideal S128 .f32 :=
  concatenate S128 0 [⟨S24, bg b⟩, ⟨S8, f⟩, ⟨S96, broadcastInDim S96 ![] bcast_S_S96 (constant S_ .f32 0x00000000#32)⟩] concatenates_S24_S8_S96_S128_d0

set_option maxHeartbeats 4000000 in
theorem entry_w : V (F := Ideal) m c main_v19 = truncf .bf16 (wp (m ((c : Thread nD τ).loc main_arg2))) bitsLt_bf16_f32 := by
  show StableHlo.after hostOps0 _ _ = _
  unfold hostOps0
  after_reads_simp
  rfl

set_option maxHeartbeats 4000000 in
theorem entry_b : V (F := Ideal) m c main_v27 = shapeCast _ (bp (m ((c : Thread nD τ).loc main_arg3)) (m ((c : Thread nD τ).loc main_arg4))) shapeCasts_S128_S1x128 := by
  show StableHlo.after hostOps0 _ _ = _
  unfold hostOps0
  after_reads_simp
  rfl

theorem blk2 (k : Fin 1024) (p : Fin 2944) : iblk (F := Ideal) m c 2 t (ix2 k p) = wp (m ((c : Thread nD τ).loc main_arg2)) (ix2 k p) := by
  refine Eq.trans ?_ (congrFun (entry_w m c) (ix2 k p))
  refine congrArg (V (F := Ideal) m c main_v19) ?_
  funext a
  fin_cases a
  · exact Fin.ext (by blk_simp [idx2 t])
  · exact Fin.ext (by blk_simp [idx2 t])

theorem blk3 (p : Fin 128) : iblk (F := Ideal) m c 3 t (ix2 0 p)
    = bp (m ((c : Thread nD τ).loc main_arg3)) (m ((c : Thread nD τ).loc main_arg4)) (ix1 p) := by
  refine Eq.trans ?_ ((congrFun (entry_b m c) (ix2 0 p)).trans ?_)
  · refine congrArg (V (F := Ideal) m c main_v27) ?_
    funext a
    fin_cases a
    · exact Fin.ext (by blk_simp [idx3 t])
    · exact Fin.ext (by blk_simp [idx3 t])
  · pointwise

/-- The source column of packed query column `p` and of packed gate column `p`: the heads' two axes swapped. -/
def qcol (p : Fin 512) : Fin 2848 := ⟨256 * (p.val / 64 % 2) + 64 * (p.val / 128) + p.val % 64, by omega⟩
def gsrc (p : Fin 24) : Fin 24 := ⟨8 * (p.val / 8) + 4 * (p.val % 2) + p.val / 2 % 4, by omega⟩
def gcol (p : Fin 24) : Fin 2848 := ⟨1280 + (gsrc p).val, by have := (gsrc p).isLt; omega⟩

theorem wq_at (w : FVec Ideal S1024x2848 .f32) (k : Fin 1024) (p : Fin 512) : wq w (ix2 k p) = w (ix2 k (qcol p)) := by
  pointwise [wq]
  refine congrArg (fun p => w (ix2 k p)) (Fin.ext ?_)
  show p.val / 64 % 2 * 256 + p.val / 128 * 64 + p.val % 64 = 256 * (p.val / 64 % 2) + 64 * (p.val / 128) + p.val % 64
  omega

theorem wg_at (w : FVec Ideal S1024x2848 .f32) (k : Fin 1024) (p : Fin 24) : wg w (ix2 k p) = w (ix2 k (gcol p)) := by
  pointwise [wg]
  refine congrArg (fun p => w (ix2 k p)) (Fin.ext ?_)
  show 1280 + (p.val / 8 * 8 + p.val % 2 * 4 + p.val / 2 % 4) = 1280 + (8 * (p.val / 8) + 4 * (p.val % 2) + p.val / 2 % 4)
  omega

theorem bg_at (b : FVec Ideal S24 .f32) (p : Fin 24) : bg b (ix1 p) = b (ix1 (gsrc p)) := by
  pointwise [bg]
  refine congrArg (fun p => b (ix1 p)) (Fin.ext ?_)
  show p.val / 8 * 8 + p.val % 2 * 4 + p.val / 2 % 4 = 8 * (p.val / 8) + 4 * (p.val % 2) + p.val / 2 % 4
  omega

theorem ws_gate (w : FVec Ideal S1024x2848 .f32) (k : Fin 1024) (p : Fin 128) (h : p.val < 24) : ws w (ix2 k p) = w (ix2 k (gcol ⟨p.val, h⟩)) := by
  pointwise [ws]
  exact (dif_pos h).trans (wg_at w k ⟨p.val, h⟩)

theorem ws_forget (w : FVec Ideal S1024x2848 .f32) (k : Fin 1024) (p : Fin 128) (h : ¬p.val < 24) (h' : p.val < 32) :
    ws w (ix2 k p) = w (ix2 k ⟨2840 + (p.val - 24), by omega⟩) := by
  pointwise [ws]
  exact (dif_neg h).trans (dif_pos (by omega))

theorem ws_rest (w : FVec Ideal S1024x2848 .f32) (k : Fin 1024) (p : Fin 128) (h : ¬p.val < 32) : ws w (ix2 k p) = 0 := by
  pointwise [ws]
  exact (dif_neg (by omega)).trans (dif_neg (by omega))

theorem wp_q (w : FVec Ideal S1024x2848 .f32) (k : Fin 1024) (p : Fin 512) : wp w (ix2 k ⟨p.val, by omega⟩) = w (ix2 k (qcol p)) := by
  pointwise [wp]
  exact wq_at w k p

theorem wp_kvn (w : FVec Ideal S1024x2848 .f32) (k : Fin 1024) (p : Fin 2944) (q : Fin 2848) (h : 512 ≤ p.val) (h' : p.val < 1280) (hq : q.val = p.val) :
    wp w (ix2 k p) = w (ix2 k q) := by
  pointwise [wp]
  refine (dif_neg (by omega)).trans ((dif_pos (by omega)).trans ?_)
  exact congrArg (fun q => w (ix2 k q)) (Fin.ext (by show 512 + (p.val - 512) = q.val; omega))

theorem wp_qf (w : FVec Ideal S1024x2848 .f32) (k : Fin 1024) (p : Fin 2944) (q : Fin 2848) (h : 1280 ≤ p.val) (h' : p.val < 2816) (hq : q.val = p.val + 24) :
    wp w (ix2 k p) = w (ix2 k q) := by
  pointwise [wp]
  refine (dif_neg (by omega)).trans ((dif_neg (by omega)).trans ?_)
  by_cases hp : p.val - 512 - 768 < 512
  · refine (dif_pos hp).trans (congrArg (fun q => w (ix2 k q)) (Fin.ext ?_))
    show 1304 + (p.val - 512 - 768) = q.val; omega
  · refine (dif_neg hp).trans ((dif_pos (by omega)).trans (congrArg (fun q => w (ix2 k q)) (Fin.ext ?_)))
    show 1816 + (p.val - 512 - 768 - 512) = q.val; omega

theorem wp_s (w : FVec Ideal S1024x2848 .f32) (k : Fin 1024) (p : Fin 128) : wp w (ix2 k ⟨2816 + p.val, by omega⟩) = ws w (ix2 k p) := by
  pointwise [wp]
  refine (dif_neg (by omega)).trans ((dif_neg (by omega)).trans ((dif_neg (by omega)).trans ((dif_neg (by omega)).trans ?_)))
  exact congrArg (fun p => ws w (ix2 k p)) (Fin.ext (by show 2816 + p.val - 512 - 768 - 512 - 1024 = p.val; omega))

theorem bp_gate (b : FVec Ideal S24 .f32) (f : FVec Ideal S8 .f32) (p : Fin 128) (h : p.val < 24) : bp b f (ix1 p) = b (ix1 (gsrc ⟨p.val, h⟩)) := by
  pointwise [bp]
  exact (dif_pos h).trans (bg_at b ⟨p.val, h⟩)

theorem bp_forget (b : FVec Ideal S24 .f32) (f : FVec Ideal S8 .f32) (p : Fin 128) (h : ¬p.val < 24) (h' : p.val < 32) :
    bp b f (ix1 p) = f (ix1 ⟨p.val - 24, by omega⟩) := by
  pointwise [bp]
  exact (dif_neg h).trans (dif_pos (by omega))

theorem bp_rest (b : FVec Ideal S24 .f32) (f : FVec Ideal S8 .f32) (p : Fin 128) (h : ¬p.val < 32) : bp b f (ix1 p) = 0 := by
  pointwise [bp]
  exact (dif_neg (by omega)).trans (dif_neg (by omega))

end Cert.Prj
-- ==== Proof.ProjArray.lean ====
module

public import proofs.«01_k».proof.Proof.ProjCell
public import Idealize.ShloMosaic.Lib.Pipeline.ValueKit
public import Idealize.ShloMosaic.Lib.Claim

/-! The input projection's ten results, of its arguments. -/

@[expose] public section

set_option maxRecDepth 16384

noncomputable section

namespace Cert.Prj

open Idealize.ShloMosaic Idealize.ShloMosaic.TcCoe
open Cert.Fox (rd rd_at rd_eq)
open Cert.Ffwd (nrm hrow)

section
variable (x : (⟨3, ![2, 8192, 1024]⟩ : Shape).Idx → EReal) (g : (⟨1, ![1024]⟩ : Shape).Idx → EReal) (w : (⟨2, ![1024, 2848]⟩ : Shape).Idx → EReal)
  (bgate : (⟨1, ![24]⟩ : Shape).Idx → EReal) (bforget : (⟨1, ![8]⟩ : Shape).Idx → EReal)

/-- Column `p` of the projection of position `t` of batch `b`. -/
def col (b : Fin 2) (t : ℕ) (p : Fin 2848) : EReal := ∑ k : Fin 1024, hrow x g b t k * w (ix2 k p)

/-- The `n` columns from column `o` on. -/
def cols {n : ℕ} (o : ℕ) (h : o + n ≤ 2848) (b : Fin 2) (t : ℕ) (l : Fin n) : EReal := col x g w b t ⟨o + l.val, by omega⟩

/-- Scaled queries: the first 512 columns with the heads' two axes swapped, and 512 columns as they are. -/
def qnCol (b : Fin 2) (t : ℕ) (l : Fin 512) : EReal := col x g w b t (qcol l) * Ideal.ofBits .f32 0x3E000000#32
def qfCol (b : Fin 2) (t : ℕ) (l : Fin 512) : EReal := cols x g w 1304 (by omega) b t l * Ideal.ofBits .f32 0x3E000000#32

/-- The gates, the forget logarithms, and what the unused lanes hold. -/
def smallCol (b : Fin 2) (t : ℕ) (l : Fin 128) : EReal :=
  if h : l.val < 24 then Ideal.logistic (col x g w b t (gcol ⟨l.val, h⟩) + bgate (ix1 (gsrc ⟨l.val, h⟩)))
  else if h' : l.val < 32 then lsg (col x g w b t ⟨2840 + (l.val - 24), by omega⟩ + bforget (ix1 ⟨l.val - 24, by omega⟩))
  else lsg 0

end

/-- A result as rows of both sequences, and as one matrix per sequence with the positions last. -/
def rowOf {n : ℕ} (f : Fin 2 → ℕ → Fin n → EReal) (y : (⟨2, ![16384, n]⟩ : Shape).Idx) : EReal :=
  f ⟨(y 0).val / 8192, by have : (y 0).val < 16384 := (y 0).isLt; omega⟩ ((y 0).val % 8192) (y 1)
def colOf {n : ℕ} (f : Fin 2 → ℕ → Fin n → EReal) (y : (⟨3, ![2, n, 8192]⟩ : Shape).Idx) : EReal := f (y 0) (y 2).val (y 1)

open Cert.ProjIdeal Cert.ProjIdeal.Gen

theorem ix2_self {n₀ n₁ : ℕ} (y : (⟨2, ![n₀, n₁]⟩ : Shape).Idx) : y = ix2 (y 0 : Fin n₀) (y 1 : Fin n₁) := by
  funext a
  fin_cases a <;> rfl

theorem ix3_front {n₁ n₂ : ℕ} (y : (⟨3, ![1, n₁, n₂]⟩ : Shape).Idx) : y = ix3 (0 : Fin 1) (y 1 : Fin n₁) (y 2 : Fin n₂) := by
  funext a
  fin_cases a
  · exact Fin.ext (by have h0 : (y 0).val < 1 := (y 0).isLt; show (y 0).val = 0; omega)
  · rfl
  · rfl

theorem row_emb {n : ℕ} (f : Fin 2 → ℕ → Fin n → EReal) (t : Fin cfg0.N) (s : Fin 512) (l : Fin n) (e : (⟨2, ![16384, n]⟩ : Shape).Idx)
    (h0 : (e 0).val = 512 * t.val + s.val) (h1 : (e 1).val = l.val) : f (bat t) (pos t + s.val) l = rowOf f e := by
  have ht := tlt t
  have hs := s.isLt
  unfold rowOf
  have eb : bat t = ⟨(e 0).val / 8192, by rw [h0]; omega⟩ := Fin.ext (by show t.val / 16 = _ / 8192; rw [h0]; omega)
  have eq : pos t + s.val = (e 0).val % 8192 := by rw [h0]; unfold pos; omega
  rw [← eb, ← eq]
  exact congrArg (f (bat t) (pos t + s.val)) (Fin.ext h1.symm)

theorem col_emb {n : ℕ} (f : Fin 2 → ℕ → Fin n → EReal) (t : Fin cfg0.N) (s : Fin 512) (l : Fin n) (e : (⟨3, ![2, n, 8192]⟩ : Shape).Idx)
    (h0 : (e 0).val = t.val / 16) (h1 : (e 1).val = l.val) (h2 : (e 2).val = 512 * (t.val % 16) + s.val) :
    f (bat t) (pos t + s.val) l = colOf f e := by
  have eb : bat t = e 0 := Fin.ext h0.symm
  have el : l = e 1 := Fin.ext h1.symm
  have eq : pos t + s.val = (e 2).val := h2.symm
  unfold colOf
  rw [eb, el, eq]

theorem idx4 : ∀ t : Fin cfg0.N, win0_4.index t = ![t.val, 0] := (by decide +kernel : ∀ t : Fin grid0.N, _)
theorem idx5 : ∀ t : Fin cfg0.N, win0_5.index t = ![t.val / 16, 0, t.val % 16] := (by decide +kernel : ∀ t : Fin grid0.N, _)
theorem idx6 : ∀ t : Fin cfg0.N, win0_6.index t = ![t.val / 16, 0, t.val % 16] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val / 16, 0, t.val % 16] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

section
variable (m : (ℓ : Loc nD τ sig) → Buf (Elt Ideal) ℓ) (c : Dev nD) (t : Fin cfg0.N)

abbrev aX := m ((c : Thread nD τ).loc main_arg0)
abbrev aG := m ((c : Thread nD τ).loc main_arg1)
abbrev aW := m ((c : Thread nD τ).loc main_arg2)
abbrev aB := m ((c : Thread nD τ).loc main_arg3)
abbrev aF := m ((c : Thread nD τ).loc main_arg4)

theorem h_at (s : Fin 512) (k : Fin 1024) :
    k0_pay2 (iblk (F := Ideal) m c 0 t) (iblk (F := Ideal) m c 1 t) (ix2 s k) = hrow (aX m c) (aG m c) (bat t) (pos t + s.val) k :=
  (pay2_at _ _ s k).trans (congrArg₂ (fun a b => nrm a b k) (funext fun k => blk0 m c t s k) (funext fun k => blk1 m c t k))

end

section
variable {X0 : Vec Ideal S512x1024 .f32} {X1 : Vec Ideal S1x1024 .f32} {X2 : Vec Ideal S1024x2944 .bf16} {X3 : Vec Ideal S1x128 .f32}
  {x : (⟨3, ![2, 8192, 1024]⟩ : Shape).Idx → EReal} {g : (⟨1, ![1024]⟩ : Shape).Idx → EReal} {w : FVec Ideal S1024x2848 .f32} {b : Fin 2} {q : ℕ → ℕ}
  (hh : ∀ (s : Fin 512) (k : Fin 1024), k0_pay2 X0 X1 (ix2 s k) = hrow x g b (q s.val) k)
  (hw : ∀ (k : Fin 1024) (p : Fin 2944), X2 (ix2 k p) = wp w (ix2 k p))

/-- A slice of the packed weights from column `o` on. -/
theorem ld2 (X2 : Vec Ideal S1024x2944 .bf16) {n : ℕ} (o : ℕ) (inb : ∀ a, (![0, o] : Fin 2 → ℕ) a + (![1024, n] : Fin 2 → ℕ) a ≤ S1024x2944.size a) (k : Fin 1024) (l : Fin n)
    (p : Fin 2944) (hp : p.val = o + l.val) :
    View.ld X2 (Rect.unit (s := S1024x2944) ![0, o] ![1024, n] inb) (ix2 k l) = X2 (ix2 k p) := by
  refine View.ld_unit_apply_of _ _ _ _ (ix2 k l) (ix2 k p) fun a => ?_
  fin_cases a
  · show k.val = 0 + k.val; omega
  · exact hp

theorem pay16_eq : k0_pay16 X0 X1 X2 X3 = k0_pay2 X0 X1 :=
  congrArg₂ k0_pay2 (View.ld_unit_lit _ X0 (by decide)) (View.ld_unit_lit _ X1 (by decide))

include hh hw

/-- A product with a slice of the packed weights, given the column of the weights it holds. -/
theorem mm_at {n : ℕ} (o : ℕ) (inb : ∀ a, (![0, o] : Fin 2 → ℕ) a + (![1024, n] : Fin 2 → ℕ) a ≤ S1024x2944.size a) (s : Fin 512) (l : Fin n)
    (p : Fin 2944) (hp : p.val = o + l.val) (r : Fin 2848) (hr : ∀ k : Fin 1024, wp w (ix2 k p) = w (ix2 k r)) :
    (∑ k : Fin 1024, k0_pay2 X0 X1 (ix2 s k) * (View.ld X2 (Rect.unit (s := S1024x2944) ![0, o] ![1024, n] inb) (ix2 k l) : EReal))
      = col x g w b (q s.val) r :=
  Finset.sum_congr rfl fun k _ => congrArg₂ (· * ·) (hh s k) ((ld2 X2 o inb k l p hp).trans ((hw k p).trans (hr k)))

theorem out4 : out0_4 X0 X1 X2 X3 = fun z => qnCol x g w b (q (z 0).val) (z 1) := by
  frame_out
  funext z
  refine (congrArg (k0_pay3 _ _ _) (ix2_self z)).trans ((pay3_at _ _ _ (z 0) (z 1)).trans ?_)
  exact congrArg (· * _) (mm_at hh hw 0 _ (z 0) (z 1) ⟨(z 1).val, _⟩ (Nat.zero_add _).symm (qcol (z 1)) fun k => wp_q _ k (z 1))

theorem out5 : out0_5 X0 X1 X2 X3 = fun z => cols (n := 512) x g w 512 (by omega) b (q (z 2).val) (z 1) := by
  frame_out
  funext z
  have h1 : (z 1).val < 512 := (z 1).isLt
  refine (congrArg (k0_pay5 _ _ _) (ix3_front z)).trans ((pay5_at _ _ _ (z 2) (z 1)).trans ?_)
  exact mm_at (n := 512) hh hw 512 _ (z 2) (z 1) ⟨512 + (z 1).val, by omega⟩ rfl ⟨512 + (z 1).val, by omega⟩ fun k =>
    wp_kvn _ k _ _ (show 512 ≤ 512 + (z 1).val by omega) (show 512 + (z 1).val < 1280 by omega) rfl

theorem out6 : out0_6 X0 X1 X2 X3 = fun z => cols (n := 256) x g w 1024 (by omega) b (q (z 2).val) (z 1) := by
  frame_out
  rw [pay16_eq]
  funext z
  have h1 : (z 1).val < 256 := (z 1).isLt
  refine (congrArg (k0_pay10 _ _) (ix3_front z)).trans ((pay10_at _ _ (z 2) (z 1)).trans ?_)
  exact mm_at (n := 256) hh hw 1024 _ (z 2) (z 1) ⟨1024 + (z 1).val, by omega⟩ rfl ⟨1024 + (z 1).val, by omega⟩ fun k =>
    wp_kvn _ k _ _ (show 512 ≤ 1024 + (z 1).val by omega) (show 1024 + (z 1).val < 1280 by omega) rfl

theorem out7 : out0_7 X0 X1 X2 X3 = fun z => cols (n := 256) x g w 512 (by omega) b (q (z 0).val) (z 1) := by
  frame_out
  funext z
  have h1 : (z 1).val < 256 := (z 1).isLt
  refine (congrArg (k0_pay6 _ _ _) (ix2_self z)).trans ((pay6_at _ _ _ (z 0) (z 1)).trans ?_)
  exact mm_at (n := 512) hh hw 512 _ (z 0) ⟨(z 1).val, by omega⟩ ⟨512 + (z 1).val, by omega⟩ rfl ⟨512 + (z 1).val, by omega⟩ fun k =>
    wp_kvn _ k _ _ (show 512 ≤ 512 + (z 1).val by omega) (show 512 + (z 1).val < 1280 by omega) rfl

theorem out8 : out0_8 X0 X1 X2 X3 = fun z => cols (n := 256) x g w 768 (by omega) b (q (z 0).val) (z 1) := by
  frame_out
  funext z
  have h1 : (z 1).val < 256 := (z 1).isLt
  refine (congrArg (k0_pay8 (k0_pay7 _ _ _)) (ix2_self z)).trans ((pay8_at _ _ _ (z 0) (z 1)).trans ?_)
  exact mm_at (n := 512) hh hw 512 _ (z 0) ⟨256 + (z 1).val, by omega⟩ ⟨768 + (z 1).val, by omega⟩ (show 768 + (z 1).val = 512 + (256 + (z 1).val) by omega) ⟨768 + (z 1).val, by omega⟩ fun k =>
    wp_kvn _ k _ _ (show 512 ≤ 768 + (z 1).val by omega) (show 768 + (z 1).val < 1280 by omega) rfl

theorem out9 : out0_9 X0 X1 X2 X3 = fun z => cols (n := 256) x g w 1024 (by omega) b (q (z 0).val) (z 1) := by
  frame_out
  rw [pay16_eq]
  funext z
  have h1 : (z 1).val < 256 := (z 1).isLt
  refine (congrArg (k0_pay11 _ _) (ix2_self z)).trans ((pay11_at _ _ (z 0) (z 1)).trans ?_)
  exact mm_at (n := 256) hh hw 1024 _ (z 0) (z 1) ⟨1024 + (z 1).val, by omega⟩ rfl ⟨1024 + (z 1).val, by omega⟩ fun k =>
    wp_kvn _ k _ _ (show 512 ≤ 1024 + (z 1).val by omega) (show 1024 + (z 1).val < 1280 by omega) rfl

theorem out10 : out0_10 X0 X1 X2 X3 = fun z => qfCol x g w b (q (z 0).val) (z 1) := by
  frame_out
  rw [pay16_eq]
  funext z
  have h1 : (z 1).val < 512 := (z 1).isLt
  refine (congrArg (k0_pay12 _ _) (ix2_self z)).trans ((pay12_at _ _ (z 0) (z 1)).trans ?_)
  exact congrArg (· * _) (mm_at (n := 512) hh hw 1280 _ (z 0) (z 1) ⟨1280 + (z 1).val, by omega⟩ rfl ⟨1304 + (z 1).val, by omega⟩ fun k =>
    wp_qf _ k _ _ (show 1280 ≤ 1280 + (z 1).val by omega) (show 1280 + (z 1).val < 2816 by omega) (show 1304 + (z 1).val = 1280 + (z 1).val + 24 by omega))

theorem out11 : out0_11 X0 X1 X2 X3 = fun z => cols (n := 1024) x g w 1816 (by omega) b (q (z 2).val) (z 1) := by
  frame_out
  rw [pay16_eq]
  funext z
  have h1 : (z 1).val < 1024 := (z 1).isLt
  refine (congrArg (k0_pay14 _ _) (ix3_front z)).trans ((pay14_at _ _ (z 2) (z 1)).trans ?_)
  exact mm_at (n := 1024) hh hw 1792 _ (z 2) (z 1) ⟨1792 + (z 1).val, by omega⟩ rfl ⟨1816 + (z 1).val, by omega⟩ fun k =>
    wp_qf _ k _ _ (show 1280 ≤ 1792 + (z 1).val by omega) (show 1792 + (z 1).val < 2816 by omega) (show 1816 + (z 1).val = 1792 + (z 1).val + 24 by omega)

theorem out12 : out0_12 X0 X1 X2 X3 = fun z => cols (n := 1024) x g w 1816 (by omega) b (q (z 0).val) (z 1) := by
  frame_out
  rw [pay16_eq]
  funext z
  have h1 : (z 1).val < 1024 := (z 1).isLt
  refine (congrArg (k0_pay15 _ _) (ix2_self z)).trans ((pay15_at _ _ (z 0) (z 1)).trans ?_)
  exact mm_at (n := 1024) hh hw 1792 _ (z 0) (z 1) ⟨1792 + (z 1).val, by omega⟩ rfl ⟨1816 + (z 1).val, by omega⟩ fun k =>
    wp_qf _ k _ _ (show 1280 ≤ 1792 + (z 1).val by omega) (show 1792 + (z 1).val < 2816 by omega) (show 1816 + (z 1).val = 1792 + (z 1).val + 24 by omega)

theorem out13 {bgate : FVec Ideal S24 .f32} {bforget : FVec Ideal S8 .f32} (hb : ∀ p : Fin 128, X3 (ix2 0 p) = bp bgate bforget (ix1 p)) :
    out0_13 X0 X1 X2 X3 = fun z => smallCol x g w bgate bforget b (q (z 0).val) (z 1) := by
  frame_out
  rw [pay16_eq]
  funext z
  refine (congrArg (k0_pay1 _ _ _) (ix2_self z)).trans ((pay1_at _ _ _ (z 0) (z 1)).trans ?_)
  have hl : (z 1).val < 128 := (z 1).isLt
  have hs : ∀ k : Fin 1024, View.ld X2 (Rect.unit (s := S1024x2944) ![0, 2816] ![1024, 128] inb_S1024x2944_S1024x128_0_2816) (ix2 k (z 1 : Fin 128)) = ws w (ix2 k (z 1)) :=
    fun k => (ld2 X2 2816 _ k (z 1) ⟨2816 + (z 1).val, by omega⟩ rfl).trans ((hw k _).trans (wp_s w k (z 1)))
  have hm : ∀ r : Fin 2848, (∀ k : Fin 1024, ws w (ix2 k (z 1 : Fin 128)) = w (ix2 k r)) →
      (∑ k : Fin 1024, k0_pay2 X0 X1 (ix2 (z 0 : Fin 512) k) * (View.ld X2 (Rect.unit (s := S1024x2944) ![0, 2816] ![1024, 128] inb_S1024x2944_S1024x128_0_2816) (ix2 k (z 1 : Fin 128)) : EReal))
        = col x g w b (q (z 0).val) r :=
    fun r hr => Finset.sum_congr rfl fun k _ => congrArg₂ (· * ·) (hh (z 0) k) ((hs k).trans (hr k))
  unfold sml smallCol
  by_cases h : (z 1).val < 24
  · refine (if_pos h).trans (Eq.trans ?_ (dif_pos h).symm)
    exact congrArg Ideal.logistic (congrArg₂ (· + ·) (hm _ fun k => ws_gate w k (z 1) h) ((hb (z 1)).trans (bp_gate bgate bforget (z 1) h)))
  · refine (if_neg h).trans (Eq.trans ?_ (dif_neg h).symm)
    by_cases h' : (z 1).val < 32
    · refine Eq.trans ?_ (dif_pos h').symm
      exact congrArg lsg (congrArg₂ (· + ·) (hm _ fun k => ws_forget w k (z 1) h h') ((hb (z 1)).trans (bp_forget bgate bforget (z 1) h h')))
    · refine Eq.trans ?_ (dif_neg h').symm
      refine congrArg lsg ((congrArg₂ (· + ·) (Finset.sum_eq_zero fun k _ => ?_) ((hb (z 1)).trans (bp_rest bgate bforget (z 1) h'))).trans (add_zero 0))
      exact (congrArg₂ (· * ·) rfl ((hs k).trans (ws_rest w k (z 1) h'))).trans (mul_zero _)

end

variable (m : (ℓ : Loc nD τ sig) → Buf (Elt Ideal) ℓ) (c : Dev nD)

theorem arr4 : (dats (F := Ideal) m 0 c).arrAt 4 cfg0.N = rowOf (qnCol (aX m c) (aG m c) (aW m c)) := by
  refine (dats (F := Ideal) m 0 c).arrAt_eq_of_covers 4 _ (by decide +kernel) fun t hf y => ?_
  rw [after0_4, out4 (h_at m c t) (blk2 m c t)]
  exact row_emb (qnCol (aX m c) (aG m c) (aW m c)) t (y 0) (y 1) ((win0_4.blk t).view.emb y) (by blk_simp [idx4 t]; try omega) (by blk_simp [idx4 t]; try omega)

theorem arr5 : (dats (F := Ideal) m 0 c).arrAt 5 cfg0.N = colOf (cols (n := 512) (aX m c) (aG m c) (aW m c) 512 (by omega)) := by
  refine (dats (F := Ideal) m 0 c).arrAt_eq_of_covers 5 _ (by decide +kernel) fun t hf y => ?_
  rw [after0_5, out5 (h_at m c t) (blk2 m c t)]
  have h0 : (y 0).val < 1 := (y 0).isLt
  exact col_emb (cols (n := 512) (aX m c) (aG m c) (aW m c) 512 (by omega)) t (y 2) (y 1) ((win0_5.blk t).view.emb y)
    (by blk_simp [idx5 t]; try omega) (by blk_simp [idx5 t]; try omega) (by blk_simp [idx5 t]; try omega)

theorem arr6 : (dats (F := Ideal) m 0 c).arrAt 6 cfg0.N = colOf (cols (n := 256) (aX m c) (aG m c) (aW m c) 1024 (by omega)) := by
  refine (dats (F := Ideal) m 0 c).arrAt_eq_of_covers 6 _ (by decide +kernel) fun t hf y => ?_
  rw [after0_6, out6 (h_at m c t) (blk2 m c t)]
  have h0 : (y 0).val < 1 := (y 0).isLt
  exact col_emb (cols (n := 256) (aX m c) (aG m c) (aW m c) 1024 (by omega)) t (y 2) (y 1) ((win0_6.blk t).view.emb y)
    (by blk_simp [idx6 t]; try omega) (by blk_simp [idx6 t]; try omega) (by blk_simp [idx6 t]; try omega)

theorem arr7 : (dats (F := Ideal) m 0 c).arrAt 7 cfg0.N = rowOf (cols (n := 256) (aX m c) (aG m c) (aW m c) 512 (by omega)) := by
  refine (dats (F := Ideal) m 0 c).arrAt_eq_of_covers 7 _ (by decide +kernel) fun t hf y => ?_
  rw [after0_7, out7 (h_at m c t) (blk2 m c t)]
  exact row_emb (cols (n := 256) (aX m c) (aG m c) (aW m c) 512 (by omega)) t (y 0) (y 1) ((win0_7.blk t).view.emb y) (by blk_simp [idx7 t]; try omega) (by blk_simp [idx7 t]; try omega)

theorem arr8 : (dats (F := Ideal) m 0 c).arrAt 8 cfg0.N = rowOf (cols (n := 256) (aX m c) (aG m c) (aW m c) 768 (by omega)) := by
  refine (dats (F := Ideal) m 0 c).arrAt_eq_of_covers 8 _ (by decide +kernel) fun t hf y => ?_
  rw [after0_8, out8 (h_at m c t) (blk2 m c t)]
  exact row_emb (cols (n := 256) (aX m c) (aG m c) (aW m c) 768 (by omega)) t (y 0) (y 1) ((win0_8.blk t).view.emb y) (by blk_simp [idx8 t]; try omega) (by blk_simp [idx8 t]; try omega)

theorem arr9 : (dats (F := Ideal) m 0 c).arrAt 9 cfg0.N = rowOf (cols (n := 256) (aX m c) (aG m c) (aW m c) 1024 (by omega)) := by
  refine (dats (F := Ideal) m 0 c).arrAt_eq_of_covers 9 _ (by decide +kernel) fun t hf y => ?_
  rw [after0_9, out9 (h_at m c t) (blk2 m c t)]
  exact row_emb (cols (n := 256) (aX m c) (aG m c) (aW m c) 1024 (by omega)) t (y 0) (y 1) ((win0_9.blk t).view.emb y) (by blk_simp [idx9 t]; try omega) (by blk_simp [idx9 t]; try omega)

theorem arr10 : (dats (F := Ideal) m 0 c).arrAt 10 cfg0.N = rowOf (qfCol (aX m c) (aG m c) (aW m c)) := by
  refine (dats (F := Ideal) m 0 c).arrAt_eq_of_covers 10 _ (by decide +kernel) fun t hf y => ?_
  rw [after0_10, out10 (h_at m c t) (blk2 m c t)]
  exact row_emb (qfCol (aX m c) (aG m c) (aW m c)) t (y 0) (y 1) ((win0_10.blk t).view.emb y) (by blk_simp [idx10 t]; try omega) (by blk_simp [idx10 t]; try omega)

theorem arr11 : (dats (F := Ideal) m 0 c).arrAt 11 cfg0.N = colOf (cols (n := 1024) (aX m c) (aG m c) (aW m c) 1816 (by omega)) := by
  refine (dats (F := Ideal) m 0 c).arrAt_eq_of_covers 11 _ (by decide +kernel) fun t hf y => ?_
  rw [after0_11, out11 (h_at m c t) (blk2 m c t)]
  have h0 : (y 0).val < 1 := (y 0).isLt
  exact col_emb (cols (n := 1024) (aX m c) (aG m c) (aW m c) 1816 (by omega)) t (y 2) (y 1) ((win0_11.blk t).view.emb y)
    (by blk_simp [idx11 t]; try omega) (by blk_simp [idx11 t]; try omega) (by blk_simp [idx11 t]; try omega)

theorem arr12 : (dats (F := Ideal) m 0 c).arrAt 12 cfg0.N = rowOf (cols (n := 1024) (aX m c) (aG m c) (aW m c) 1816 (by omega)) := by
  refine (dats (F := Ideal) m 0 c).arrAt_eq_of_covers 12 _ (by decide +kernel) fun t hf y => ?_
  rw [after0_12, out12 (h_at m c t) (blk2 m c t)]
  exact row_emb (cols (n := 1024) (aX m c) (aG m c) (aW m c) 1816 (by omega)) t (y 0) (y 1) ((win0_12.blk t).view.emb y) (by blk_simp [idx12 t]; try omega) (by blk_simp [idx12 t]; try omega)

theorem arr13 : (dats (F := Ideal) m 0 c).arrAt 13 cfg0.N = rowOf (smallCol (aX m c) (aG m c) (aW m c) (aB m c) (aF m c)) := by
  refine (dats (F := Ideal) m 0 c).arrAt_eq_of_covers 13 _ (by decide +kernel) fun t hf y => ?_
  rw [after0_13, out13 (h_at m c t) (blk2 m c t) (blk3 m c t)]
  exact row_emb (smallCol (aX m c) (aG m c) (aW m c) (aB m c) (aF m c)) t (y 0) (y 1) ((win0_13.blk t).view.emb y) (by blk_simp [idx13 t]; try omega) (by blk_simp [idx13 t]; try omega)

end Cert.Prj
-- ==== Proof.ProjRef.lean ====
module

public import proofs.«01_k».proof.Proof.ProjArray
public import proofs.«01_k».proof.Proof.Gen.ProjReferenceIdeal
public import proofs.«01_k».proof.Proof.Gen.ProjReferenceIdeal.Run
public import proofs.«01_k».proof.Proof.Gen.ProjReferenceIdeal.Read

/-! The reference's ten results as the same functions of the arguments. -/

@[expose] public section

set_option maxRecDepth 16384

noncomputable section

namespace Cert.Prj

open Idealize.ShloMosaic Idealize.ShloMosaic.TcCoe
open Cert.ProjReferenceIdeal Cert.ProjReferenceIdeal.Gen Cert.ProjReferenceIdeal.Read
open Cert.Fox (rd rd_at rd_eq)
open Cert.Ffwd (nrm hrow)

theorem neg_max_zero (z : EReal) : -max (-z) 0 = min z 0 := by
  rcases le_total z 0 with h | h
  · rw [min_eq_left h, max_eq_left (EReal.neg_nonneg.mpr h), neg_neg]
  · rw [min_eq_right h, max_eq_right ((EReal.neg_le_neg_iff.mpr h).trans_eq neg_zero), neg_zero]

/-- The logarithm of the sigmoid as the reference writes it. -/
theorem lsg_ref (z : EReal) :
    (-if -z ≠ -z then -z else max (-z) 0 + Ideal.log1p (Ideal.exp (-FloatOps.absf (F := Ideal) (φ := .f32) (-z)))) = lsg z := by
  rw [if_neg (fun h => h rfl)]
  have ha : FloatOps.absf (F := Ideal) (φ := .f32) (-z) = FloatOps.absf (F := Ideal) (φ := .f32) z := by
    show max (-z) (- -z) = max z (-z)
    rw [neg_neg, max_comm]
  rw [ha, EReal.neg_add, neg_max_zero]
  · unfold lsg
    rw [zero_sub]
    rfl
  · refine Or.inl fun h => ?_
    exact absurd (le_max_right (-z) 0) (by rw [h]; exact not_le.mpr EReal.bot_lt_zero)
  · by_cases hz : z = ⊥
    · refine Or.inr ?_
      have : Ideal.log1p (Ideal.exp (-FloatOps.absf (F := Ideal) (φ := .f32) z)) = ((Real.log 1 : ℝ) : EReal) := by
        have he : Ideal.exp (-FloatOps.absf (F := Ideal) (φ := .f32) z) = 0 := by
          have : FloatOps.absf (F := Ideal) (φ := .f32) z = (⊤ : EReal) := by
            show max z (-z) = ⊤
            rw [hz]; simp
          rw [this]; rfl
        rw [he]
        show Ideal.log (1 + 0) = _
        rw [add_zero]
        show (if (1 : ℝ) ≤ 0 then (⊥ : EReal) else ((Real.log 1 : ℝ) : EReal)) = _
        rw [if_neg (by norm_num)]
      rw [this]
      exact EReal.coe_ne_bot _
    · refine Or.inl fun h => ?_
      rcases max_choice (-z) 0 with e | e
      · rw [e] at h
        exact hz (by rw [← neg_neg z, h]; rfl)
      · rw [e] at h
        exact absurd h EReal.zero_ne_top

variable (x : FVec Ideal S2x8192x1024 .f32) (g : FVec Ideal S1024 .f32) (w : FVec Ideal S1024x2848 .f32) (bg : FVec Ideal S24 .f32)
  (bf : FVec Ideal S8 .f32)

theorem ref_h (b : Fin 2) (t : Fin 8192) (k : Fin 1024) :
    val_main_v12 (F := Ideal) x g (ix3 b t k) = hrow x g b t.val k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  unfold hrow nrm
  simp only [rd_at]

theorem ref_col (b : Fin 2) (t : Fin 8192) (p : Fin 2848) :
    val_main_v13 (F := Ideal) x g w (ix3 b t p) = col x g w b t.val p := by
  pointwise [val_main_v13]
  exact Finset.sum_congr rfl fun k _ => congrArg (· * _) (ref_h x g b t k)

theorem ref_kvn (b : Fin 2) (l : Fin 512) (t : Fin 8192) :
    val_main_v47 (F := Ideal) x g w (ix3 b l t) = cols x g w 512 (by omega) b t.val l := by
  pointwise [val_main_v47, val_main_v46, val_main_v15]
  exact ref_col x g w b t _

theorem ref_win (b : Fin 2) (l : Fin 256) (t : Fin 8192) :
    val_main_v49 (F := Ideal) x g w (ix3 b l t) = cols x g w 1024 (by omega) b t.val l := by
  pointwise [val_main_v49, val_main_v48, val_main_v15]
  exact (ref_col x g w b t _).trans (congrArg (col x g w b t.val) (Fin.ext (show 512 + (512 + l.val) = 1024 + l.val by omega)))

theorem ref_kvf (b : Fin 2) (l : Fin 1024) (t : Fin 8192) :
    val_main_v63 (F := Ideal) x g w (ix3 b l t) = cols x g w 1816 (by omega) b t.val l := by
  pointwise [val_main_v63, val_main_v18]
  exact ref_col x g w b t _

theorem ref_cmp (r : Fin 16384) (l : Fin 256) :
    val_main_v52 (F := Ideal) x g w (ix2 r l) = cols x g w 512 (by omega) ⟨r.val / 8192, by omega⟩ (r.val % 8192) l := by
  pointwise [val_main_v52, val_main_v51, val_main_v50, val_main_v15]
  exact ref_col x g w _ _ _

theorem ref_slc (r : Fin 16384) (l : Fin 256) :
    val_main_v55 (F := Ideal) x g w (ix2 r l) = cols x g w 768 (by omega) ⟨r.val / 8192, by omega⟩ (r.val % 8192) l := by
  pointwise [val_main_v55, val_main_v54, val_main_v53, val_main_v15]
  exact (ref_col x g w _ _ _).trans (congrArg (col x g w _ _) (Fin.ext (show 512 + (256 + l.val) = 768 + l.val by omega)))

theorem ref_winb (r : Fin 16384) (l : Fin 256) :
    val_main_v58 (F := Ideal) x g w (ix2 r l) = cols x g w 1024 (by omega) ⟨r.val / 8192, by omega⟩ (r.val % 8192) l := by
  pointwise [val_main_v58, val_main_v57, val_main_v56, val_main_v15]
  exact (ref_col x g w _ _ _).trans (congrArg (col x g w _ _) (Fin.ext (show 512 + (512 + l.val) = 1024 + l.val by omega)))

theorem ref_kvfb (r : Fin 16384) (l : Fin 1024) :
    val_main_v65 (F := Ideal) x g w (ix2 r l) = cols x g w 1816 (by omega) ⟨r.val / 8192, by omega⟩ (r.val % 8192) l := by
  pointwise [val_main_v65, val_main_v64, val_main_v18]
  exact ref_col x g w _ _ _

theorem ref_qf (r : Fin 16384) (l : Fin 512) :
    val_main_v62 (F := Ideal) x g w (ix2 r l) = qfCol x g w ⟨r.val / 8192, by omega⟩ (r.val % 8192) l := by
  pointwise [val_main_v62, val_main_v61, val_main_v60, val_main_v59, val_main_cst_6, val_main_v17]
  exact congrArg (· * _) (ref_col x g w _ _ _)

theorem ref_qn (r : Fin 16384) (l : Fin 512) :
    val_main_v45 (F := Ideal) x g w (ix2 r l) = qnCol x g w ⟨r.val / 8192, by omega⟩ (r.val % 8192) l := by
  pointwise [val_main_v45, val_main_v44, val_main_v43, val_main_v42, val_main_cst_5, val_main_v35, val_main_v34, val_main_v14]
  refine congrArg (· * _) ((ref_col x g w _ _ _).trans (congrArg (col x g w _ _) (Fin.ext ?_)))
  show l.val / 64 % 2 * 256 + l.val / 128 * 64 + l.val % 64 = 256 * (l.val / 64 % 2) + 64 * (l.val / 128) + l.val % 64
  omega

theorem ref_gate (r : Fin 16384) (l : Fin 24) :
    val_main_v39 (F := Ideal) x g w bg (ix2 r l)
      = Ideal.logistic (col x g w ⟨r.val / 8192, by omega⟩ (r.val % 8192) (gcol l) + bg (ix1 (gsrc l))) := by
  pointwise [val_main_v39, val_main_v36, val_main_v29, val_main_v28, val_main_v27, val_main_v26, val_main_v25, val_main_v24, val_main_v23, val_main_v22, val_main_v21, val_main_v20, val_main_v16, val_main_cst_2, val_main_cst_3]
  refine congrArg Ideal.logistic (congrArg₂ (· + ·) ((ref_col x g w _ _ _).trans (congrArg (col x g w _ _) (Fin.ext ?_))) (congrArg (fun p => bg (ix1 p)) (Fin.ext ?_)))
  · show 1280 + (l.val / 8 * 8 + l.val % 2 * 4 + l.val / 2 % 4) = 1280 + (8 * (l.val / 8) + 4 * (l.val % 2) + l.val / 2 % 4)
    omega
  · show l.val / 8 * 8 + l.val % 2 * 4 + l.val / 2 % 4 = 8 * (l.val / 8) + 4 * (l.val % 2) + l.val / 2 % 4
    omega

theorem ref_forget (r : Fin 16384) (l : Fin 8) :
    val_main_v40 (F := Ideal) x g w bf (ix2 r l)
      = lsg (col x g w ⟨r.val / 8192, by omega⟩ (r.val % 8192) ⟨2840 + l.val, by omega⟩ + bf (ix1 l)) := by
  pointwise [val_main_v40, val_main_v33, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v32, val_main_v31, val_main_v30, val_main_v19]
  exact (lsg_ref _).trans (congrArg (fun u => lsg (u + bf (ix1 l))) (ref_col x g w _ _ _))

theorem ref_zero (r : Fin 16384) (l : Fin 96) : val_main_v38 (F := Ideal) (ix2 r l) = lsg 0 := by
  pointwise [val_main_v38, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_v37, val_main_cst_4]
  exact lsg_ref 0

theorem ref_small (r : Fin 16384) (l : Fin 128) :
    val_main_v41 (F := Ideal) x g w bg bf (ix2 r l) = smallCol x g w bg bf ⟨r.val / 8192, by omega⟩ (r.val % 8192) l := by
  pointwise [val_main_v41]
  unfold smallCol
  by_cases h : l.val < 24
  · refine Eq.trans ?_ (dif_pos h).symm
    exact (dif_pos h).trans (ref_gate x g w bg r ⟨l.val, h⟩)
  · refine (dif_neg h).trans (Eq.trans ?_ (dif_neg h).symm)
    by_cases h' : l.val < 32
    · refine Eq.trans ?_ (dif_pos h').symm
      exact (dif_pos (by omega)).trans (ref_forget x g w bf r ⟨l.val - 24, by omega⟩)
    · refine Eq.trans ?_ (dif_neg h').symm
      exact (dif_neg (by omega)).trans (ref_zero r ⟨l.val - 24 - 8, by omega⟩)

end Cert.Prj
-- ==== Proof.ProjValue.lean ====
module

public import proofs.«01_k».proof.Defs
public import proofs.«01_k».proof.Proof.ProjRef
public import proofs.«01_k».proof.Proof.FfnRef
public import proofs.«01_k».proof.Proof.Pre
public import Idealize.ShloMosaic.Lib.Claim
public import Idealize.ShloMosaic.Lib.Quiescent
public import Idealize.ShloMosaic.Adequacy
public import Idealize.ShloMosaic.Init

/-! The input projection's value: kernel and reference leave equal results. -/

@[expose] public section

set_option maxRecDepth 16384

noncomputable section

namespace Cert.Prj

open Idealize.ShloMosaic Idealize.SL.Sem

theorem projReferenceFrame : Cert.quiescent_ProjReferenceIdeal := fun m g _ =>
  (θ_run Cert.ProjReferenceIdeal.defs _ _).mono (fun r h => ⟨fun c => (h c).2.2.2.2.2.2.2.2.2.2, sem_eq_zero_of_no_sems (by decide) r.2⟩)
    (Cert.ProjReferenceIdeal.Value.run (F := Ideal) m g)

set_option maxHeartbeats 2000000 in
theorem projValue : Cert.algebraic_ProjIdeal_ProjReferenceIdeal := by
  pair_intro
  · run_from Cert.ProjIdeal.Value.run_blocks m g
  · run_from Cert.ProjReferenceIdeal.Value.run m' g'
    · refine Eq.trans ?_ (arr4 m c).symm
      funext y
      refine Eq.trans ?_ (ref_qn _ _ _ (y 0) (y 1))
      exact congrArg (Cert.ProjReferenceIdeal.Read.val_main_v45 (F := Ideal) _ _ _) (ix2_self y)
    · refine Eq.trans ?_ (arr5 m c).symm
      funext y
      refine Eq.trans ?_ (ref_kvn _ _ _ (y 0) (y 1) (y 2))
      exact congrArg (Cert.ProjReferenceIdeal.Read.val_main_v47 (F := Ideal) _ _ _) (Cert.Fox.ix3_self y)
    · refine Eq.trans ?_ (arr6 m c).symm
      funext y
      refine Eq.trans ?_ (ref_win _ _ _ (y 0) (y 1) (y 2))
      exact congrArg (Cert.ProjReferenceIdeal.Read.val_main_v49 (F := Ideal) _ _ _) (Cert.Fox.ix3_self y)
    · refine Eq.trans ?_ (arr7 m c).symm
      funext y
      refine Eq.trans ?_ (ref_cmp _ _ _ (y 0) (y 1))
      exact congrArg (Cert.ProjReferenceIdeal.Read.val_main_v52 (F := Ideal) _ _ _) (ix2_self y)
    · refine Eq.trans ?_ (arr8 m c).symm
      funext y
      refine Eq.trans ?_ (ref_slc _ _ _ (y 0) (y 1))
      exact congrArg (Cert.ProjReferenceIdeal.Read.val_main_v55 (F := Ideal) _ _ _) (ix2_self y)
    · refine Eq.trans ?_ (arr9 m c).symm
      funext y
      refine Eq.trans ?_ (ref_winb _ _ _ (y 0) (y 1))
      exact congrArg (Cert.ProjReferenceIdeal.Read.val_main_v58 (F := Ideal) _ _ _) (ix2_self y)
    · refine Eq.trans ?_ (arr10 m c).symm
      funext y
      refine Eq.trans ?_ (ref_qf _ _ _ (y 0) (y 1))
      exact congrArg (Cert.ProjReferenceIdeal.Read.val_main_v62 (F := Ideal) _ _ _) (ix2_self y)
    · refine Eq.trans ?_ (arr11 m c).symm
      funext y
      refine Eq.trans ?_ (ref_kvf _ _ _ (y 0) (y 1) (y 2))
      exact congrArg (Cert.ProjReferenceIdeal.Read.val_main_v63 (F := Ideal) _ _ _) (Cert.Fox.ix3_self y)
    · refine Eq.trans ?_ (arr12 m c).symm
      funext y
      refine Eq.trans ?_ (ref_kvfb _ _ _ (y 0) (y 1))
      exact congrArg (Cert.ProjReferenceIdeal.Read.val_main_v65 (F := Ideal) _ _ _) (ix2_self y)
    · refine (Cert.ProjReferenceIdeal.Read.val_main_v41_eq m' c).trans ?_
      rw [(hagree c).1, (hagree c).2.1, (hagree c).2.2.1, (hagree c).2.2.2.1, (hagree c).2.2.2.2]
      refine Eq.trans ?_ (arr13 m c).symm
      funext y
      exact (congrArg _ (ix2_self y)).trans (ref_small _ _ _ _ _ (y 0) (y 1))

end Cert.Prj
-- ==== Proof.MixCell.lean ====
module

public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import Idealize.ShloMosaic.Lib.StableHlo.RunRead
public import Idealize.ShloMosaic.Lib.Pipeline.ValueKit
public import Idealize.ShloMosaic.Lib.Claim
public import proofs.«01_k».proof.Proof.FfnBlock

/-! The output projection's stored term read at one element, the windows' blocks, and the kernel's result. -/

@[expose] public section

set_option maxRecDepth 16384

noncomputable section

namespace Cert.Mixo

open Idealize.ShloMosaic Idealize.ShloMosaic.TcCoe
open Cert.Fox (rd rd_at rd_eq)
open Cert.Ffwd (nrm)

/-- A row of 512 numbers over its root mean square, times the gain. -/
def nrh (r g : Fin 512 → EReal) (k : Fin 512) : EReal :=
  r k * Ideal.rsqrt (Ideal.div (∑ x, r x * r x) (Ideal.ofBits .f32 0x44000000#32) + Ideal.ofBits .f32 0x358637BD#32) * g k

/-- The two halves of a row of 1024. -/
def lo (l : Fin 512) : Fin 1024 := ⟨l.val, by omega⟩
def hi (l : Fin 512) : Fin 1024 := ⟨512 + l.val, by omega⟩

/-- The source row of packed row `k`: the heads' two axes swapped; and back. -/
def prm (k : Fin 512) : Fin 512 := ⟨256 * (k.val / 64 % 2) + 64 * (k.val / 128) + k.val % 64, by omega⟩
def unp (k : Fin 512) : Fin 512 := ⟨128 * (k.val / 64 % 4) + 64 * (k.val / 256) + k.val % 64, by omega⟩

theorem unp_prm : ∀ k : Fin 512, unp (prm k) = k := by decide +kernel
theorem prm_unp : ∀ k : Fin 512, prm (unp k) = k := by decide +kernel

def swap : Fin 512 ≃ Fin 512 := ⟨prm, unp, unp_prm, prm_unp⟩

theorem sum_prm (f : Fin 512 → EReal) : ∑ k, f (prm k) = ∑ k, f k := Equiv.sum_comp swap f

section
variable (on : (⟨3, ![2, 8192, 512]⟩ : Shape).Idx → EReal) (of : (⟨3, ![2, 8192, 512]⟩ : Shape).Idx → EReal) (x : (⟨3, ![2, 8192, 1024]⟩ : Shape).Idx → EReal)
  (g : (⟨1, ![1024]⟩ : Shape).Idx → EReal) (w : (⟨2, ![1024, 1024]⟩ : Shape).Idx → EReal) (gp : (⟨1, ![1024]⟩ : Shape).Idx → EReal)

/-- The normed rows of the two attentions' outputs, the first in the kernel's order of heads. -/
def yn (b : Fin 2) (t : ℕ) : Fin 512 → EReal := nrh (fun k => rd on b t k.val) (fun k => g (ix1 (lo (prm k))))
def yf (b : Fin 2) (t : ℕ) : Fin 512 → EReal := nrh (fun k => rd of b t k.val) (fun k => g (ix1 (hi k)))

/-- Column `j` of the output projection, and the layer's result. -/
def prj (b : Fin 2) (t : ℕ) (j : Fin 1024) : EReal :=
  (∑ l : Fin 512, yn on g b t l * w (ix2 (lo (prm l)) j)) + ∑ l : Fin 512, yf of g b t l * w (ix2 (hi l) j)
def mixOut (b : Fin 2) (t : ℕ) (j : Fin 1024) : EReal := rd x b t j.val + nrm (prj on of g w b t) (fun k => gp (ix1 k)) j

end

open Cert.MixIdeal Cert.MixIdeal.Gen

theorem pay2_at (g : Vec Ideal S1x1024 .f32) (a b : Vec Ideal S512x512 .f32) (w : Vec Ideal S1024x1024 .bf16) (s : Fin 512) (j : Fin 1024) :
    k0_pay2 g a b w (ix2 s j) = (∑ l : Fin 512, nrh (fun k => a (ix2 s k)) (fun k => g (ix2 0 (lo k))) l * w (ix2 (lo l) j))
      + ∑ l : Fin 512, nrh (fun k => b (ix2 s k)) (fun k => g (ix2 0 (hi k))) l * w (ix2 (hi l) j) := by
  pointwise [k0_pay2]
  rfl

theorem pay1_at (y x : FVec Ideal S512x1024 .f32) (g : Vec Ideal S1x1024 .f32) (s : Fin 512) (j : Fin 1024) :
    k0_pay1 y (k0_pay3 x) g (ix2 s j) = x (ix2 s j) + nrm (fun k => y (ix2 s k)) (fun k => g (ix2 0 k)) j := by
  pointwise [k0_pay1, k0_pay3]
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

section
variable (t : Fin cfg0.N)
theorem tlt : t.val < 32 := t.isLt

/-- A grid point's batch, and the first position of its block. -/
def bat : Fin 2 := ⟨t.val / 16, by have := tlt t; omega⟩
def pos : ℕ := 512 * (t.val % 16)
end

/-- The packed gains and weights. -/
def gg (g : FVec Ideal S1024 .f32) : FVec Ideal S1024 .f32 :=
  concatenate S1024 0 [⟨S512, shapeCast _ (shapeCast _ (transpose S4x2x64 [1, 0, 2]
      (shapeCast _ (shapeCast _ (extractStridedSlice S512 ![0] g slices_S1024_S512_0) shapeCasts_S512_S8x64) shapeCasts_S8x64_S2x4x64)
      transposes_S2x4x64_S4x2x64_1_0_2) shapeCasts_S4x2x64_S8x64) shapeCasts_S8x64_S512⟩,
    ⟨S512, extractStridedSlice S512 ![512] g slices_S1024_S512_512⟩] concatenates_S512_S512_S1024_d0

def ww (w : FVec Ideal S1024x1024 .f32) : FVec Ideal S1024x1024 .f32 :=
  concatenate S1024x1024 0 [⟨S512x1024, shapeCast _ (shapeCast _ (transpose S4x2x64x1024 [1, 0, 2, 3]
      (shapeCast _ (shapeCast _ (extractStridedSlice S512x1024 ![0, 0] w slices_S1024x1024_S512x1024_0_0) shapeCasts_S512x1024_S8x64x1024) shapeCasts_S8x64x1024_S2x4x64x1024)
      transposes_S2x4x64x1024_S4x2x64x1024_1_0_2_3) shapeCasts_S4x2x64x1024_S8x64x1024) shapeCasts_S8x64x1024_S512x1024⟩,
    ⟨S512x1024, extractStridedSlice S512x1024 ![512, 0] w slices_S1024x1024_S512x1024_512_0⟩] concatenates_S512x1024_S512x1024_S1024x1024_d0

theorem gg_lo (g : FVec Ideal S1024 .f32) (l : Fin 512) : gg g (ix1 (lo l)) = g (ix1 (lo (prm l))) := by
  pointwise [gg]
  refine (dif_pos l.isLt).trans (congrArg (fun q => g (ix1 q)) (Fin.ext ?_))
  show l.val / 64 % 2 * 256 + l.val / 128 * 64 + l.val % 64 = 256 * (l.val / 64 % 2) + 64 * (l.val / 128) + l.val % 64
  omega

theorem gg_hi (g : FVec Ideal S1024 .f32) (l : Fin 512) : gg g (ix1 (hi l)) = g (ix1 (hi l)) := by
  pointwise [gg]
  refine (dif_neg (show ¬512 + l.val < 512 by omega)).trans (congrArg (fun q => g (ix1 q)) (Fin.ext ?_))
  show 512 + (512 + l.val - 512) = 512 + l.val
  omega

theorem ww_lo (w : FVec Ideal S1024x1024 .f32) (l : Fin 512) (j : Fin 1024) : ww w (ix2 (lo l) j) = w (ix2 (lo (prm l)) j) := by
  pointwise [ww]
  refine (dif_pos l.isLt).trans (congrArg (fun q => w (ix2 q j)) (Fin.ext ?_))
  show l.val / 64 % 2 * 256 + l.val / 128 * 64 + l.val % 64 = 256 * (l.val / 64 % 2) + 64 * (l.val / 128) + l.val % 64
  omega

theorem ww_hi (w : FVec Ideal S1024x1024 .f32) (l : Fin 512) (j : Fin 1024) : ww w (ix2 (hi l) j) = w (ix2 (hi l) j) := by
  pointwise [ww]
  refine (dif_neg (show ¬512 + l.val < 512 by omega)).trans (congrArg (fun q => w (ix2 q j)) (Fin.ext ?_))
  show 512 + (512 + l.val - 512) = 512 + l.val
  omega

variable (m : (ℓ : Loc nD τ sig) → Buf (Elt Ideal) ℓ) (c : Dev nD) (t : Fin cfg0.N)

set_option maxHeartbeats 4000000 in
theorem entry_g : V (F := Ideal) m c main_v8 = shapeCast _ (gg (m ((c : Thread nD τ).loc main_arg3))) shapeCasts_S1024_S1x1024 := by
  show StableHlo.after hostOps0 _ _ = _
  unfold hostOps0
  after_reads_simp
  rfl

set_option maxHeartbeats 4000000 in
theorem entry_w : V (F := Ideal) m c main_v17 = truncf .bf16 (ww (m ((c : Thread nD τ).loc main_arg4))) bitsLt_bf16_f32 := by
  show StableHlo.after hostOps0 _ _ = _
  unfold hostOps0
  after_reads_simp
  rfl

theorem blk0 (s k : Fin 512) :
    iblk (F := Ideal) m c 0 t (ix2 s k) = rd (n := 512) (m ((c : Thread nD τ).loc main_arg0)) (bat t) (pos t + s.val) k.val := by
  have hs := s.isLt
  have ht := tlt t
  rw [rd_eq (n := 512) _ _ _ _ (by unfold pos; omega) k.isLt]
  unfold bat pos
  blk_ext! [iblk, V, idx0 t]

theorem blk1 (s k : Fin 512) :
    iblk (F := Ideal) m c 1 t (ix2 s k) = rd (n := 512) (m ((c : Thread nD τ).loc main_arg1)) (bat t) (pos t + s.val) k.val := by
  have hs := s.isLt
  have ht := tlt t
  rw [rd_eq (n := 512) _ _ _ _ (by unfold pos; omega) k.isLt]
  unfold bat pos
  blk_ext! [iblk, V, idx1 t]

theorem blk2 (s : Fin 512) (k : Fin 1024) :
    iblk (F := Ideal) m c 2 t (ix2 s k) = rd (n := 1024) (m ((c : Thread nD τ).loc main_arg2)) (bat t) (pos t + s.val) k.val := by
  have hs := s.isLt
  have ht := tlt t
  rw [rd_eq (n := 1024) _ _ _ _ (by unfold pos; omega) k.isLt]
  unfold bat pos
  blk_ext! [iblk, V, idx2 t]

theorem blk5 (k : Fin 1024) : iblk (F := Ideal) m c 5 t (ix2 0 k) = m ((c : Thread nD τ).loc main_arg5) (ix1 k) := by
  blk_ext! [iblk, V, idx5 t]

theorem blk4 (k j : Fin 1024) : iblk (F := Ideal) m c 4 t (ix2 k j) = ww (m ((c : Thread nD τ).loc main_arg4)) (ix2 k j) := by
  refine Eq.trans ?_ (congrFun (entry_w m c) (ix2 k j))
  refine congrArg (V (F := Ideal) m c main_v17) ?_
  funext a
  fin_cases a
  · exact Fin.ext (by blk_simp [idx4 t])
  · exact Fin.ext (by blk_simp [idx4 t])

theorem blk3 (k : Fin 1024) : iblk (F := Ideal) m c 3 t (ix2 0 k) = gg (m ((c : Thread nD τ).loc main_arg3)) (ix1 k) := by
  refine Eq.trans ?_ ((congrFun (entry_g m c) (ix2 0 k)).trans ?_)
  · refine congrArg (V (F := Ideal) m c main_v8) ?_
    funext a
    fin_cases a
    · exact Fin.ext (by blk_simp [idx3 t])
    · exact Fin.ext (by blk_simp [idx3 t])
  · pointwise

end Cert.Mixo
-- ==== Proof.MixArray.lean ====
module

public import proofs.«01_k».proof.Proof.MixCell
public import proofs.«01_k».proof.Proof.ProjArray

/-! The output projection's result, of its arguments. -/

@[expose] public section

set_option maxRecDepth 16384

noncomputable section

namespace Cert.Mixo

open Idealize.ShloMosaic Idealize.ShloMosaic.TcCoe
open Cert.Fox (rd rd_at rd_eq)
open Cert.Ffwd (nrm)
open Cert.Prj (ix2_self rowOf)
open Cert.MixIdeal Cert.MixIdeal.Gen

theorem row_emb {n : ℕ} (f : Fin 2 → ℕ → Fin n → EReal) (t : Fin cfg0.N) (s : Fin 512) (l : Fin n) (e : (⟨2, ![16384, n]⟩ : Shape).Idx)
    (h0 : (e 0).val = 512 * t.val + s.val) (h1 : (e 1).val = l.val) : f (bat t) (pos t + s.val) l = rowOf f e := by
  have ht := tlt t
  have hs := s.isLt
  unfold rowOf
  have eb : bat t = ⟨(e 0).val / 8192, by rw [h0]; omega⟩ := Fin.ext (by show t.val / 16 = _ / 8192; rw [h0]; omega)
  have eq : pos t + s.val = (e 0).val % 8192 := by rw [h0]; unfold pos; omega
  rw [← eb, ← eq]
  exact congrArg (f (bat t) (pos t + s.val)) (Fin.ext h1.symm)

theorem out6 {X0 X1 : Vec Ideal S512x512 .f32} {X2 : Vec Ideal S512x1024 .f32} {X3 : Vec Ideal S1x1024 .f32} {X4 : Vec Ideal S1024x1024 .bf16}
    {X5 : Vec Ideal S1x1024 .f32} {on of : FVec Ideal S2x8192x512 .f32} {x : FVec Ideal S2x8192x1024 .f32} {g : FVec Ideal S1024 .f32}
    {w : FVec Ideal S1024x1024 .f32} {gp : FVec Ideal S1024 .f32} {b : Fin 2} {q : ℕ → ℕ}
    (h0 : ∀ s k : Fin 512, X0 (ix2 s k) = rd (n := 512) on b (q s.val) k.val) (h1 : ∀ s k : Fin 512, X1 (ix2 s k) = rd (n := 512) of b (q s.val) k.val)
    (h2 : ∀ (s : Fin 512) (k : Fin 1024), X2 (ix2 s k) = rd (n := 1024) x b (q s.val) k.val) (h3 : ∀ k : Fin 1024, X3 (ix2 0 k) = gg g (ix1 k))
    (h4 : ∀ k j : Fin 1024, X4 (ix2 k j) = ww w (ix2 k j)) (h5 : ∀ k : Fin 1024, X5 (ix2 0 k) = gp (ix1 k)) :
    out0_6 X0 X1 X2 X3 X4 X5 = fun z => mixOut on of x g w gp b (q (z 0).val) (z 1) := by
  have e0 (s : Fin 512) : (fun k : Fin 512 => X0 (ix2 s k)) = fun k => rd (n := 512) on b (q s.val) k.val := funext fun k => h0 s k
  have e1 (s : Fin 512) : (fun k : Fin 512 => X1 (ix2 s k)) = fun k => rd (n := 512) of b (q s.val) k.val := funext fun k => h1 s k
  have e3 : (fun k : Fin 512 => X3 (ix2 0 (lo k))) = fun k => g (ix1 (lo (prm k))) := funext fun k => (h3 _).trans (gg_lo g k)
  have e3' : (fun k : Fin 512 => X3 (ix2 0 (hi k))) = fun k => g (ix1 (hi k)) := funext fun k => (h3 _).trans (gg_hi g k)
  have e5 : (fun k : Fin 1024 => X5 (ix2 0 k)) = fun k => gp (ix1 k) := funext h5
  have hy (s : Fin 512) (j : Fin 1024) : k0_pay2 X3 X0 X1 X4 (ix2 s j) = prj on of g w b (q s.val) j := by
    refine (pay2_at X3 X0 X1 X4 s j).trans ?_
    unfold prj yn yf
    rw [e0, e1, e3, e3']
    exact congrArg₂ (· + ·) (Finset.sum_congr rfl fun l _ => congrArg _ ((h4 _ j).trans (ww_lo w l j)))
      (Finset.sum_congr rfl fun l _ => congrArg _ ((h4 _ j).trans (ww_hi w l j)))
  frame_out
  funext z
  refine (congrArg (k0_pay1 _ _ _) (ix2_self z)).trans ((pay1_at _ X2 X5 (z 0) (z 1)).trans ?_)
  exact congrArg₂ (· + ·) (h2 (z 0) (z 1)) (congrArg₂ (fun r p => nrm r p (z 1)) (funext fun k => hy (z 0) k) e5)

variable (m : (ℓ : Loc nD τ sig) → Buf (Elt Ideal) ℓ) (c : Dev nD)

abbrev aOn := m ((c : Thread nD τ).loc main_arg0)
abbrev aOf := m ((c : Thread nD τ).loc main_arg1)
abbrev aX := m ((c : Thread nD τ).loc main_arg2)
abbrev aG := m ((c : Thread nD τ).loc main_arg3)
abbrev aW := m ((c : Thread nD τ).loc main_arg4)
abbrev aP := m ((c : Thread nD τ).loc main_arg5)

theorem arr6 : (dats (F := Ideal) m 0 c).arrAt 6 cfg0.N = rowOf (mixOut (aOn m c) (aOf m c) (aX m c) (aG m c) (aW m c) (aP m c)) := by
  refine (dats (F := Ideal) m 0 c).arrAt_eq_of_covers 6 _ (by decide +kernel) fun t hf y => ?_
  rw [after0_6, out6 (q := fun s => pos t + s) (blk0 m c t) (blk1 m c t) (blk2 m c t) (blk3 m c t) (blk4 m c t) (blk5 m c t)]
  exact row_emb (mixOut (aOn m c) (aOf m c) (aX m c) (aG m c) (aW m c) (aP m c)) t (y 0) (y 1) ((win0_6.blk t).view.emb y)
    (by blk_simp [idx6 t]; try omega) (by blk_simp [idx6 t]; try omega)

end Cert.Mixo
-- ==== Proof.MixRef.lean ====
module

public import proofs.«01_k».proof.Proof.MixArray
public import proofs.«01_k».proof.Proof.Gen.MixReferenceIdeal
public import proofs.«01_k».proof.Proof.Gen.MixReferenceIdeal.Run
public import proofs.«01_k».proof.Proof.Gen.MixReferenceIdeal.Read

/-! The output projection's reference as the same function of the arguments. -/

@[expose] public section

set_option maxRecDepth 16384

noncomputable section

namespace Cert.Mixo

open Idealize.ShloMosaic Idealize.ShloMosaic.TcCoe
open Cert.MixReferenceIdeal Cert.MixReferenceIdeal.Gen Cert.MixReferenceIdeal.Read
open Cert.Fox (rd rd_at rd_eq)
open Cert.Ffwd (nrm)
open Cert.Prj (rowOf)

variable (on of : FVec Ideal S2x8192x512 .f32) (x : FVec Ideal S2x8192x1024 .f32) (g : FVec Ideal S1024 .f32) (w : FVec Ideal S1024x1024 .f32)
  (gp : FVec Ideal S1024 .f32)

theorem ref_on (b : Fin 2) (t : Fin 8192) (k : Fin 512) :
    val_main_v2 (F := Ideal) on (ix3 b t k) = rd (n := 512) on b t.val (unp k).val := by
  rw [rd_eq (n := 512) _ _ _ _ t.isLt (unp k).isLt]
  pointwise [val_main_v2, val_main_v1, val_main_v0]
  refine congrArg (fun q => on (ix3 b t q)) (Fin.ext ?_)
  show k.val / 64 % 4 * 128 + k.val / 256 * 64 + k.val % 64 = 128 * (k.val / 64 % 4) + 64 * (k.val / 256) + k.val % 64
  omega

theorem ref_yn (b : Fin 2) (t : Fin 8192) (k : Fin 512) :
    val_main_v16 (F := Ideal) on g (ix3 b t k) = nrh (fun k => val_main_v2 (F := Ideal) on (ix3 b t k)) (fun k => g (ix1 (lo k))) k := by
  pointwise [val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  rfl

theorem ref_yf (b : Fin 2) (t : Fin 8192) (k : Fin 512) :
    val_main_v30 (F := Ideal) of g (ix3 b t k) = yf of g b t.val k := by
  pointwise [val_main_v30, val_main_v29, val_main_v28, val_main_v27, val_main_v26, val_main_v25, val_main_v24, val_main_v23, val_main_v22, val_main_v21, val_main_v20, val_main_v19, val_main_v18, val_main_v17, val_main_cst_2, val_main_cst_3, val_main_cst_4]
  unfold yf nrh
  simp only [rd_at]
  rfl

theorem ref_yp (b : Fin 2) (t : Fin 8192) (l : Fin 512) :
    val_main_v16 (F := Ideal) on g (ix3 b t (prm l)) = yn on g b t.val l := by
  refine (ref_yn on g b t (prm l)).trans ?_
  have e (k : Fin 512) : val_main_v2 (F := Ideal) on (ix3 b t (prm k)) = rd (n := 512) on b t.val k.val := by rw [ref_on, unp_prm]
  have hs : (∑ k : Fin 512, (val_main_v2 (F := Ideal) on (ix3 b t k) * val_main_v2 (F := Ideal) on (ix3 b t k) : EReal))
      = ∑ k : Fin 512, rd (n := 512) on b t.val k.val * rd (n := 512) on b t.val k.val :=
    (sum_prm fun k => (val_main_v2 (F := Ideal) on (ix3 b t k) * val_main_v2 (F := Ideal) on (ix3 b t k) : EReal)).symm.trans
      (Finset.sum_congr rfl fun k _ => congrArg₂ (· * ·) (e k) (e k))
  unfold yn nrh
  exact congrArg₂ (fun a z => a * Ideal.rsqrt (Ideal.div z (Ideal.ofBits .f32 0x44000000#32) + Ideal.ofBits .f32 0x358637BD#32) * g (ix1 (lo (prm l)))) (e l) hs

theorem ref_prj (b : Fin 2) (t : Fin 8192) (j : Fin 1024) :
    val_main_v32 (F := Ideal) on of g w (ix3 b t j) = prj on of g w b t.val j := by
  pointwise [val_main_v32, val_main_v31]
  unfold prj
  refine congrArg₂ (· + ·) ((sum_prm _).symm.trans ?_) ?_
  · exact Finset.sum_congr rfl fun l _ => congrArg (· * _) (ref_yp on g b t l)
  · exact Finset.sum_congr rfl fun l _ => congrArg (· * _) (ref_yf of g b t l)

theorem ref_out (s : Fin 16384) (j : Fin 1024) :
    val_main_v47 (F := Ideal) on of x g w gp (ix2 s j) = rowOf (mixOut on of x g w gp) (ix2 s j) := by
  pointwise [val_main_v47, val_main_v46, val_main_v45, val_main_v44, val_main_v43, val_main_v42, val_main_v41, val_main_v40, val_main_v39, val_main_v38, val_main_v37, val_main_v36, val_main_v35, val_main_v34, val_main_v33, val_main_cst_5, val_main_cst_6, val_main_cst_7]
  simp only [ref_prj]
  exact congrArg (· + _) (rd_eq (n := 1024) x _ _ _ (by omega) j.isLt).symm

end Cert.Mixo
-- ==== Proof.MixValue.lean ====
module

public import proofs.«01_k».proof.Defs
public import proofs.«01_k».proof.Proof.MixRef
public import Idealize.ShloMosaic.Lib.Claim
public import Idealize.ShloMosaic.Lib.Quiescent
public import Idealize.ShloMosaic.Adequacy
public import Idealize.ShloMosaic.Init

/-! The output projection's value: kernel and reference leave equal results. -/

@[expose] public section

set_option maxRecDepth 16384

noncomputable section

namespace Cert.Mixo

open Idealize.ShloMosaic Idealize.SL.Sem

theorem mixReferenceFrame : Cert.quiescent_MixReferenceIdeal := fun m g _ =>
  (θ_run Cert.MixReferenceIdeal.defs _ _).mono (fun r h => ⟨fun c => (h c).2, sem_eq_zero_of_no_sems (by decide) r.2⟩)
    (Cert.MixReferenceIdeal.Value.run (F := Ideal) m g)

set_option maxHeartbeats 2000000 in
theorem mixValue : Cert.algebraic_MixIdeal_MixReferenceIdeal := by
  pair_intro
  · run_from Cert.MixIdeal.Value.run_blocks m g
  · run_from Cert.MixReferenceIdeal.Value.run m' g'
    refine (Cert.MixReferenceIdeal.Read.val_main_v47_eq m' c).trans ?_
    rw [(hagree c).1, (hagree c).2.1, (hagree c).2.2.1, (hagree c).2.2.2.1, (hagree c).2.2.2.2.1, (hagree c).2.2.2.2.2]
    refine Eq.trans ?_ (arr6 m c).symm
    funext y
    exact (congrArg _ (Cert.Prj.ix2_self y)).trans ((ref_out _ _ _ _ _ _ (y 0) (y 1)).trans (congrArg _ (Cert.Prj.ix2_self y).symm))

end Cert.Mixo
-- ==== Proof.ProjSCell.lean ====
module

public import proofs.«01_k».proof.Proof.Gen.ProjS
public import proofs.«01_k».proof.Proof.Gen.ProjS.Frame
public import proofs.«01_k».proof.Proof.Gen.ProjSIdeal
public import proofs.«01_k».proof.Proof.Gen.ProjSIdeal.Frame
public import Idealize.ShloMosaic.Lib.StableHlo.RunRead
public import Idealize.ShloMosaic.Lib.KernelVsHost
public import proofs.«01_k».proof.Proof.ProjRef

/-! The decode step's input projection: each stored term read at one element, the windows' blocks, and the nine results used. -/

@[expose] public section

set_option maxRecDepth 16384

noncomputable section

namespace Cert.PrjS

open Idealize.ShloMosaic Idealize.ShloMosaic.TcCoe
open Cert.Ffwd (nrm)
open Cert.Prj (lsg sml lane_bit wp bp qcol gsrc gcol ws ix2_self wp_q wp_kvn wp_qf wp_s ws_gate ws_forget ws_rest bp_gate bp_forget bp_rest)

section
variable (r : Fin 1024 → EReal) (g : (⟨1, ![1024]⟩ : Shape).Idx → EReal) (w : (⟨2, ![1024, 2848]⟩ : Shape).Idx → EReal)
  (bgate : (⟨1, ![24]⟩ : Shape).Idx → EReal) (bforget : (⟨1, ![8]⟩ : Shape).Idx → EReal)

/-- Column `p` of the projection of the row `r`, the `n` columns from column `o` on, and the scaled queries. -/
def col (p : Fin 2848) : EReal := ∑ k : Fin 1024, nrm r (fun k => g (ix1 k)) k * w (ix2 k p)
def cols {n : ℕ} (o : ℕ) (h : o + n ≤ 2848) (l : Fin n) : EReal := col r g w ⟨o + l.val, by omega⟩
def qnCol (l : Fin 512) : EReal := col r g w (qcol l) * Ideal.ofBits .f32 0x3E000000#32
def qfCol (l : Fin 512) : EReal := cols r g w 1304 (by omega) l * Ideal.ofBits .f32 0x3E000000#32

/-- The gates, the forget logarithms, and what the unused lanes hold. -/
def smallCol (l : Fin 128) : EReal :=
  if h : l.val < 24 then Ideal.logistic (col r g w (gcol ⟨l.val, h⟩) + bgate (ix1 (gsrc ⟨l.val, h⟩)))
  else if h' : l.val < 32 then lsg (col r g w ⟨2840 + (l.val - 24), by omega⟩ + bforget (ix1 ⟨l.val - 24, by omega⟩))
  else lsg 0

end

open Cert.ProjSIdeal Cert.ProjSIdeal.Gen

theorem pay2_at (x : Vec Ideal S256x1024 .f32) (g : Vec Ideal S1x1024 .f32) (s : Fin 256) (k : Fin 1024) :
    k0_pay2 x g (ix2 s k) = nrm (fun k => x (ix2 s k)) (fun k => g (ix2 0 k)) k := by
  pointwise [k0_pay2]
  rfl

theorem pay3_at (x : Vec Ideal S256x1024 .f32) (g : Vec Ideal S1x1024 .f32) (w : Vec Ideal S1024x512 .bf16) (s : Fin 256) (l : Fin 512) :
    k0_pay3 x g w (ix2 s l) = (∑ k : Fin 1024, k0_pay2 x g (ix2 s k) * w (ix2 k l)) * Ideal.ofBits .f32 0x3E000000#32 := by
  pointwise [k0_pay3]

theorem pay4_at (x : Vec Ideal S256x1024 .f32) (g : Vec Ideal S1x1024 .f32) (w : Vec Ideal S1024x512 .bf16) (s : Fin 256) (l : Fin 512) :
    k0_pay4 x g w (ix2 s l) = ∑ k : Fin 1024, k0_pay2 x g (ix2 s k) * w (ix2 k l) := by
  pointwise [k0_pay4]

theorem pay5_at (x : Vec Ideal S256x1024 .f32) (g : Vec Ideal S1x1024 .f32) (w : Vec Ideal S1024x512 .bf16) (s : Fin 256) (l : Fin 256) :
    k0_pay5 x g w (ix2 s l) = ∑ k : Fin 1024, k0_pay2 x g (ix2 s k) * w (ix2 k ⟨l.val, by omega⟩) := by
  pointwise [k0_pay5, k0_pay4]

theorem pay6_at (x : Vec Ideal S256x1024 .f32) (g : Vec Ideal S1x1024 .f32) (w : Vec Ideal S1024x512 .bf16) (s : Fin 256) (l : Fin 256) :
    k0_pay6 x g w (ix2 s l) = ∑ k : Fin 1024, k0_pay2 x g (ix2 s k) * w (ix2 k ⟨256 + l.val, by omega⟩) := by
  pointwise [k0_pay6, k0_pay4]

theorem pay7_at (h : FVec Ideal S256x1024 .bf16) (w : Vec Ideal S1024x256 .bf16) (s : Fin 256) (l : Fin 256) :
    k0_pay7 h w (ix2 s l) = ∑ k : Fin 1024, h (ix2 s k) * w (ix2 k l) := by
  pointwise [k0_pay7]

theorem pay8_at (h : FVec Ideal S256x1024 .bf16) (w : Vec Ideal S1024x256 .bf16) (s : Fin 256) (l : Fin 256) :
    k0_pay8 h w (ix2 s l) = ∑ k : Fin 1024, h (ix2 s k) * w (ix2 k l) := by
  pointwise [k0_pay8, k0_pay7]

theorem pay9_at (h : FVec Ideal S256x1024 .bf16) (w : Vec Ideal S1024x512 .bf16) (s : Fin 256) (l : Fin 512) :
    k0_pay9 h w (ix2 s l) = (∑ k : Fin 1024, h (ix2 s k) * w (ix2 k l)) * Ideal.ofBits .f32 0x3E000000#32 := by
  pointwise [k0_pay9]

theorem pay10_at (h : FVec Ideal S256x1024 .bf16) (w : Vec Ideal S1024x1024 .bf16) (s : Fin 256) (l : Fin 1024) :
    k0_pay10 h w (ix2 s l) = ∑ k : Fin 1024, h (ix2 s k) * w (ix2 k l) := by
  pointwise [k0_pay10]

theorem pay11_at (h : FVec Ideal S256x1024 .bf16) (w : Vec Ideal S1024x1024 .bf16) (s : Fin 256) (l : Fin 1024) :
    k0_pay11 h w (ix2 s l) = ∑ k : Fin 1024, h (ix2 s k) * w (ix2 k l) := by
  pointwise [k0_pay11, k0_pay10]

theorem pay1_at (h : FVec Ideal S256x1024 .bf16) (w : Vec Ideal S1024x128 .bf16) (b : Vec Ideal S1x128 .f32) (s : Fin 256) (l : Fin 128) :
    k0_pay1 (k0_pay12 h w b) (iota .tc S256x128 32 [1] iota_S256x128_d1_w32) (k0_pay13 (F := Ideal)) (ix2 s l)
      = sml l ((∑ k : Fin 1024, h (ix2 s k) * w (ix2 k l)) + b (ix2 0 l)) := by
  pointwise [k0_pay1, k0_pay12, k0_pay13]
  have hl : IntOp.cmpi CmpIPredicate.slt (BitVec.ofNat 32 l.val) 24#32 = if l.val < 24 then 1#1 else 0#1 := lane_bit l
  rw [hl]
  unfold sml lsg
  by_cases h1 : l.val < 24 <;> simp [h1, Scalar.select]

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)

variable (m : (ℓ : Loc nD τ sig) → Buf (Elt Ideal) ℓ) (c : Dev nD) (t : Fin cfg0.N)

abbrev aX := m ((c : Thread nD τ).loc main_arg0)
abbrev aS := m ((c : Thread nD τ).loc main_arg1)
abbrev aG := m ((c : Thread nD τ).loc main_arg2)
abbrev aW := m ((c : Thread nD τ).loc main_arg3)
abbrev aB := m ((c : Thread nD τ).loc main_arg4)
abbrev aF := m ((c : Thread nD τ).loc main_arg5)

set_option maxHeartbeats 4000000 in
theorem entry_w : V (F := Ideal) m c main_v19 = truncf .bf16 (wp (aW m c)) bitsLt_bf16_f32 := by
  show StableHlo.after (List.flatten [hostOps0, hostOps0_1, hostOps0_2]) _ _ = _
  unfold hostOps0 hostOps0_1 hostOps0_2
  simp only [List.flatten_cons, List.flatten_nil, List.append_nil, List.cons_append, List.nil_append]
  after_reads_simp
  rfl

set_option maxHeartbeats 4000000 in
theorem entry_b : V (F := Ideal) m c main_v27 = shapeCast _ (bp (aB m c) (aF m c)) shapeCasts_S128_S1x128 := by
  show StableHlo.after (List.flatten [hostOps0, hostOps0_1, hostOps0_2]) _ _ = _
  unfold hostOps0 hostOps0_1 hostOps0_2
  simp only [List.flatten_cons, List.flatten_nil, List.append_nil, List.cons_append, List.nil_append]
  after_reads_simp
  rfl

set_option maxHeartbeats 4000000 in
theorem entry_g : V (F := Ideal) m c main_v30 = shapeCast _ (aG m c) shapeCasts_S1024_S1x1024 := by
  show StableHlo.after (List.flatten [hostOps0, hostOps0_1, hostOps0_2]) _ _ = _
  unfold hostOps0 hostOps0_1 hostOps0_2
  simp only [List.flatten_cons, List.flatten_nil, List.append_nil, List.cons_append, List.nil_append]
  after_reads_simp
  rfl

/-- The input with each sequence's four rows padded to eight. -/
def xpad (x : FVec Ideal S32x4x1024 .f32) : FVec Ideal S32x8x1024 .f32 :=
  pad S32x8x1024 ![0, 0, 0] ![0, 4, 0] ![0, 0, 0] x (sitofp .f32 (constantI S_ 32 0#32)) pads_S32x4x1024_S32x8x1024_000_040_000 h_S_

set_option maxHeartbeats 4000000 in
theorem entry_x : V (F := Ideal) m c main_v29 = shapeCast _ (xpad (aX m c)) shapeCasts_S32x8x1024_S256x1024 := by
  show StableHlo.after (List.flatten [hostOps0, hostOps0_1, hostOps0_2]) _ _ = _
  unfold hostOps0 hostOps0_1 hostOps0_2
  simp only [List.flatten_cons, List.flatten_nil, List.append_nil, List.cons_append, List.nil_append]
  after_reads_simp
  rfl

/-- Row `s` of the padded input. -/
def xrow (s : Fin 256) (k : Fin 1024) : EReal := xpad (aX m c) (ix3 ⟨s.val / 8, by omega⟩ ⟨s.val % 8, by omega⟩ k)

/-- A sequence's own rows of the padded input are the input's. -/
theorem xrow_at (b : Fin 32) (i : Fin 4) : xrow m c ⟨8 * b.val + i.val, by omega⟩ = fun k => aX m c (ix3 b i k) := by
  funext k
  refine pad_apply_of_inside (s := S32x4x1024) (t := S32x8x1024) ![0, 0, 0] ![0, 4, 0] ![0, 0, 0] (aX m c) _
    pads_S32x4x1024_S32x8x1024_000_040_000 h_S_ _ (ix3 b i k) fun a => ?_
  fin_cases a
  · show (8 * b.val + i.val) / 8 = 0 + b.val * (0 + 1); omega
  · show (8 * b.val + i.val) % 8 = 0 + i.val * (0 + 1); omega
  · show k.val = 0 + k.val * (0 + 1); omega

theorem blk0 (s : Fin 256) (k : Fin 1024) : iblk (F := Ideal) m c 0 t (ix2 s k) = xrow m c s k := by
  refine Eq.trans ?_ ((congrFun (entry_x m c) (ix2 s k)).trans ?_)
  · refine congrArg (V (F := Ideal) m c main_v29) ?_
    funext a
    fin_cases a
    · exact Fin.ext (by blk_simp [idx0 t])
    · exact Fin.ext (by blk_simp [idx0 t])
  · pointwise
    rfl

theorem blk1 (k : Fin 1024) : iblk (F := Ideal) m c 1 t (ix2 0 k) = aG m c (ix1 k) := by
  refine Eq.trans ?_ ((congrFun (entry_g m c) (ix2 0 k)).trans ?_)
  · refine congrArg (V (F := Ideal) m c main_v30) ?_
    funext a
    fin_cases a
    · exact Fin.ext (by blk_simp [idx1 t])
    · exact Fin.ext (by blk_simp [idx1 t])
  · pointwise

theorem blk2 (k : Fin 1024) (p : Fin 2944) : iblk (F := Ideal) m c 2 t (ix2 k p) = wp (aW m c) (ix2 k p) := by
  refine Eq.trans ?_ (congrFun (entry_w m c) (ix2 k p))
  refine congrArg (V (F := Ideal) m c main_v19) ?_
  funext a
  fin_cases a
  · exact Fin.ext (by blk_simp [idx2 t])
  · exact Fin.ext (by blk_simp [idx2 t])

theorem blk3 (p : Fin 128) : iblk (F := Ideal) m c 3 t (ix2 0 p) = bp (aB m c) (aF m c) (ix1 p) := by
  refine Eq.trans ?_ ((congrFun (entry_b m c) (ix2 0 p)).trans ?_)
  · refine congrArg (V (F := Ideal) m c main_v27) ?_
    funext a
    fin_cases a
    · exact Fin.ext (by blk_simp [idx3 t])
    · exact Fin.ext (by blk_simp [idx3 t])
  · pointwise

theorem h_at (s : Fin 256) (k : Fin 1024) :
    k0_pay2 (iblk (F := Ideal) m c 0 t) (iblk (F := Ideal) m c 1 t) (ix2 s k) = nrm (xrow m c s) (fun k => aG m c (ix1 k)) k :=
  (pay2_at _ _ s k).trans (congrArg₂ (fun a b => nrm a b k) (funext fun k => blk0 m c t s k) (funext fun k => blk1 m c t k))

end Cert.PrjS
-- ==== Proof.ProjSArray.lean ====
module

public import proofs.«01_k».proof.Proof.ProjSCell
public import Idealize.ShloMosaic.Lib.Pipeline.ValueKit
public import Idealize.ShloMosaic.Lib.Claim

/-! The decode step's input projection: its results' arrays, of its arguments. -/

@[expose] public section

set_option maxRecDepth 16384

noncomputable section

namespace Cert.PrjS

open Idealize.ShloMosaic Idealize.ShloMosaic.TcCoe
open Cert.Ffwd (nrm)
open Cert.Prj (lsg sml lane_bit wp bp qcol gsrc gcol ws ix2_self wp_q wp_kvn wp_qf wp_s ws_gate ws_forget ws_rest bp_gate bp_forget bp_rest)
open Cert.ProjSIdeal Cert.ProjSIdeal.Gen

section
variable {X0 : Vec Ideal S256x1024 .f32} {X1 : Vec Ideal S1x1024 .f32} {X2 : Vec Ideal S1024x2944 .bf16} {X3 : Vec Ideal S1x128 .f32}
  {R : Fin 256 → Fin 1024 → EReal} {g : (⟨1, ![1024]⟩ : Shape).Idx → EReal} {w : FVec Ideal S1024x2848 .f32}
  (hh : ∀ (s : Fin 256) (k : Fin 1024), k0_pay2 X0 X1 (ix2 s k) = nrm (R s) (fun k => g (ix1 k)) k)
  (hw : ∀ (k : Fin 1024) (p : Fin 2944), X2 (ix2 k p) = wp w (ix2 k p))

/-- A slice of the packed weights from column `o` on. -/
theorem ld2 (X2 : Vec Ideal S1024x2944 .bf16) {n : ℕ} (o : ℕ) (inb : ∀ a, (![0, o] : Fin 2 → ℕ) a + (![1024, n] : Fin 2 → ℕ) a ≤ S1024x2944.size a) (k : Fin 1024) (l : Fin n)
    (p : Fin 2944) (hp : p.val = o + l.val) :
    View.ld X2 (Rect.unit (s := S1024x2944) ![0, o] ![1024, n] inb) (ix2 k l) = X2 (ix2 k p) := by
  refine View.ld_unit_apply_of _ _ _ _ (ix2 k l) (ix2 k p) fun a => ?_
  fin_cases a
  · show k.val = 0 + k.val; omega
  · exact hp

theorem pay14_eq : k0_pay14 X0 X1 X2 X3 = k0_pay2 X0 X1 :=
  congrArg₂ k0_pay2 (View.ld_unit_lit _ X0 (by decide)) (View.ld_unit_lit _ X1 (by decide))

include hh hw

/-- A product with a slice of the packed weights, given the column of the weights it holds. -/
theorem mm_at {n : ℕ} (o : ℕ) (inb : ∀ a, (![0, o] : Fin 2 → ℕ) a + (![1024, n] : Fin 2 → ℕ) a ≤ S1024x2944.size a) (s : Fin 256) (l : Fin n)
    (p : Fin 2944) (hp : p.val = o + l.val) (r : Fin 2848) (hr : ∀ k : Fin 1024, wp w (ix2 k p) = w (ix2 k r)) :
    (∑ k : Fin 1024, k0_pay2 X0 X1 (ix2 s k) * (View.ld X2 (Rect.unit (s := S1024x2944) ![0, o] ![1024, n] inb) (ix2 k l) : EReal))
      = col (R s) g w r :=
  Finset.sum_congr rfl fun k _ => congrArg₂ (· * ·) (hh s k) ((ld2 X2 o inb k l p hp).trans ((hw k p).trans (hr k)))

theorem out4 : out0_4 X0 X1 X2 X3 = fun z => qnCol (R (z 0)) g w (z 1) := by
  frame_out
  funext z
  refine (congrArg (k0_pay3 _ _ _) (ix2_self z)).trans ((pay3_at _ _ _ (z 0) (z 1)).trans ?_)
  exact congrArg (· * _) (mm_at hh hw 0 _ (z 0) (z 1) ⟨(z 1).val, _⟩ (Nat.zero_add _).symm (qcol (z 1)) fun k => wp_q _ k (z 1))

theorem out5 : out0_5 X0 X1 X2 X3 = fun z => cols (n := 512) (R (z 0)) g w 512 (by omega) (z 1) := by
  frame_out
  funext z
  have h1 : (z 1).val < 512 := (z 1).isLt
  refine (congrArg (k0_pay4 _ _ _) (ix2_self z)).trans ((pay4_at _ _ _ (z 0) (z 1)).trans ?_)
  exact mm_at (n := 512) hh hw 512 _ (z 0) (z 1) ⟨512 + (z 1).val, by omega⟩ rfl ⟨512 + (z 1).val, by omega⟩ fun k =>
    wp_kvn _ k _ _ (show 512 ≤ 512 + (z 1).val by omega) (show 512 + (z 1).val < 1280 by omega) rfl

theorem out6 : out0_6 X0 X1 X2 X3 = fun z => cols (n := 256) (R (z 0)) g w 1024 (by omega) (z 1) := by
  frame_out
  rw [pay14_eq]
  funext z
  have h1 : (z 1).val < 256 := (z 1).isLt
  refine (congrArg (k0_pay7 _ _) (ix2_self z)).trans ((pay7_at _ _ (z 0) (z 1)).trans ?_)
  exact mm_at (n := 256) hh hw 1024 _ (z 0) (z 1) ⟨1024 + (z 1).val, by omega⟩ rfl ⟨1024 + (z 1).val, by omega⟩ fun k =>
    wp_kvn _ k _ _ (show 512 ≤ 1024 + (z 1).val by omega) (show 1024 + (z 1).val < 1280 by omega) rfl

theorem out8 : out0_8 X0 X1 X2 X3 = fun z => cols (n := 256) (R (z 0)) g w 768 (by omega) (z 1) := by
  frame_out
  funext z
  have h1 : (z 1).val < 256 := (z 1).isLt
  refine (congrArg (k0_pay6 _ _ _) (ix2_self z)).trans ((pay6_at _ _ _ (z 0) (z 1)).trans ?_)
  exact mm_at (n := 512) hh hw 512 _ (z 0) ⟨256 + (z 1).val, by omega⟩ ⟨768 + (z 1).val, by omega⟩ (show 768 + (z 1).val = 512 + (256 + (z 1).val) by omega) ⟨768 + (z 1).val, by omega⟩ fun k =>
    wp_kvn _ k _ _ (show 512 ≤ 768 + (z 1).val by omega) (show 768 + (z 1).val < 1280 by omega) rfl

theorem out9 : out0_9 X0 X1 X2 X3 = fun z => cols (n := 256) (R (z 0)) g w 1024 (by omega) (z 1) := by
  frame_out
  rw [pay14_eq]
  funext z
  have h1 : (z 1).val < 256 := (z 1).isLt
  refine (congrArg (k0_pay8 _ _) (ix2_self z)).trans ((pay8_at _ _ (z 0) (z 1)).trans ?_)
  exact mm_at (n := 256) hh hw 1024 _ (z 0) (z 1) ⟨1024 + (z 1).val, by omega⟩ rfl ⟨1024 + (z 1).val, by omega⟩ fun k =>
    wp_kvn _ k _ _ (show 512 ≤ 1024 + (z 1).val by omega) (show 1024 + (z 1).val < 1280 by omega) rfl

theorem out10 : out0_10 X0 X1 X2 X3 = fun z => qfCol (R (z 0)) g w (z 1) := by
  frame_out
  rw [pay14_eq]
  funext z
  have h1 : (z 1).val < 512 := (z 1).isLt
  refine (congrArg (k0_pay9 _ _) (ix2_self z)).trans ((pay9_at _ _ (z 0) (z 1)).trans ?_)
  exact congrArg (· * _) (mm_at (n := 512) hh hw 1280 _ (z 0) (z 1) ⟨1280 + (z 1).val, by omega⟩ rfl ⟨1304 + (z 1).val, by omega⟩ fun k =>
    wp_qf _ k _ _ (show 1280 ≤ 1280 + (z 1).val by omega) (show 1280 + (z 1).val < 2816 by omega) (show 1304 + (z 1).val = 1280 + (z 1).val + 24 by omega))

theorem out11 : out0_11 X0 X1 X2 X3 = fun z => cols (n := 1024) (R (z 0)) g w 1816 (by omega) (z 1) := by
  frame_out
  rw [pay14_eq]
  funext z
  have h1 : (z 1).val < 1024 := (z 1).isLt
  refine (congrArg (k0_pay10 _ _) (ix2_self z)).trans ((pay10_at _ _ (z 0) (z 1)).trans ?_)
  exact mm_at (n := 1024) hh hw 1792 _ (z 0) (z 1) ⟨1792 + (z 1).val, by omega⟩ rfl ⟨1816 + (z 1).val, by omega⟩ fun k =>
    wp_qf _ k _ _ (show 1280 ≤ 1792 + (z 1).val by omega) (show 1792 + (z 1).val < 2816 by omega) (show 1816 + (z 1).val = 1792 + (z 1).val + 24 by omega)

theorem out12 : out0_12 X0 X1 X2 X3 = fun z => cols (n := 1024) (R (z 0)) g w 1816 (by omega) (z 1) := by
  frame_out
  rw [pay14_eq]
  funext z
  have h1 : (z 1).val < 1024 := (z 1).isLt
  refine (congrArg (k0_pay11 _ _) (ix2_self z)).trans ((pay11_at _ _ (z 0) (z 1)).trans ?_)
  exact mm_at (n := 1024) hh hw 1792 _ (z 0) (z 1) ⟨1792 + (z 1).val, by omega⟩ rfl ⟨1816 + (z 1).val, by omega⟩ fun k =>
    wp_qf _ k _ _ (show 1280 ≤ 1792 + (z 1).val by omega) (show 1792 + (z 1).val < 2816 by omega) (show 1816 + (z 1).val = 1792 + (z 1).val + 24 by omega)

theorem out13 {bgate : FVec Ideal S24 .f32} {bforget : FVec Ideal S8 .f32} (hb : ∀ p : Fin 128, X3 (ix2 0 p) = bp bgate bforget (ix1 p)) :
    out0_13 X0 X1 X2 X3 = fun z => smallCol (R (z 0)) g w bgate bforget (z 1) := by
  frame_out
  rw [pay14_eq]
  funext z
  refine (congrArg (k0_pay1 _ _ _) (ix2_self z)).trans ((pay1_at _ _ _ (z 0) (z 1)).trans ?_)
  have hl : (z 1).val < 128 := (z 1).isLt
  have hs : ∀ k : Fin 1024, View.ld X2 (Rect.unit (s := S1024x2944) ![0, 2816] ![1024, 128] inb_S1024x2944_S1024x128_0_2816) (ix2 k (z 1 : Fin 128)) = ws w (ix2 k (z 1)) :=
    fun k => (ld2 X2 2816 _ k (z 1) ⟨2816 + (z 1).val, by omega⟩ rfl).trans ((hw k _).trans (wp_s w k (z 1)))
  have hm : ∀ r : Fin 2848, (∀ k : Fin 1024, ws w (ix2 k (z 1 : Fin 128)) = w (ix2 k r)) →
      (∑ k : Fin 1024, k0_pay2 X0 X1 (ix2 (z 0 : Fin 256) k) * (View.ld X2 (Rect.unit (s := S1024x2944) ![0, 2816] ![1024, 128] inb_S1024x2944_S1024x128_0_2816) (ix2 k (z 1 : Fin 128)) : EReal))
        = col (R (z 0)) g w r :=
    fun r hr => Finset.sum_congr rfl fun k _ => congrArg₂ (· * ·) (hh (z 0) k) ((hs k).trans (hr k))
  unfold sml smallCol
  by_cases h : (z 1).val < 24
  · refine (if_pos h).trans (Eq.trans ?_ (dif_pos h).symm)
    exact congrArg Ideal.logistic (congrArg₂ (· + ·) (hm _ fun k => ws_gate w k (z 1) h) ((hb (z 1)).trans (bp_gate bgate bforget (z 1) h)))
  · refine (if_neg h).trans (Eq.trans ?_ (dif_neg h).symm)
    by_cases h' : (z 1).val < 32
    · refine Eq.trans ?_ (dif_pos h').symm
      exact congrArg lsg (congrArg₂ (· + ·) (hm _ fun k => ws_forget w k (z 1) h h') ((hb (z 1)).trans (bp_forget bgate bforget (z 1) h h')))
    · refine Eq.trans ?_ (dif_neg h').symm
      refine congrArg lsg ((congrArg₂ (· + ·) (Finset.sum_eq_zero fun k _ => ?_) ((hb (z 1)).trans (bp_rest bgate bforget (z 1) h'))).trans (add_zero 0))
      exact (congrArg₂ (· * ·) rfl ((hs k).trans (ws_rest w k (z 1) h'))).trans (mul_zero _)

end

/-- The slice of a row-major result, as `f` of the row. -/
def rowOf {n : ℕ} (f : (Fin 1024 → EReal) → Fin n → EReal) (R : Fin 256 → Fin 1024 → EReal) (y : (⟨2, ![256, n]⟩ : Shape).Idx) : EReal :=
  f (R (y 0)) (y 1)

theorem row_emb {n : ℕ} (f : (Fin 1024 → EReal) → Fin n → EReal) (R : Fin 256 → Fin 1024 → EReal) (s : Fin 256) (l : Fin n)
    (e : (⟨2, ![256, n]⟩ : Shape).Idx) (h0 : (e 0).val = s.val) (h1 : (e 1).val = l.val) : f (R s) l = rowOf f R e := by
  have e0 : s = e 0 := Fin.ext h0.symm
  have e1 : l = e 1 := Fin.ext h1.symm
  unfold rowOf
  rw [e0, e1]

variable (m : (ℓ : Loc nD τ sig) → Buf (Elt Ideal) ℓ) (c : Dev nD)

theorem arr4 : (dats (F := Ideal) m 0 c).arrAt 4 cfg0.N = rowOf (fun r => qnCol r (aG m c) (aW m c)) (xrow m c) := by
  refine (dats (F := Ideal) m 0 c).arrAt_eq_of_covers 4 _ (by decide +kernel) fun t hf y => ?_
  rw [after0_4, out4 (h_at m c t) (blk2 m c t)]
  exact row_emb (fun r => qnCol r (aG m c) (aW m c)) (xrow m c) (y 0) (y 1) ((win0_4.blk t).view.emb y) (by blk_simp [idx4 t]; try omega) (by blk_simp [idx4 t]; try omega)

theorem arr5 : (dats (F := Ideal) m 0 c).arrAt 5 cfg0.N = rowOf (fun r => cols (n := 512) r (aG m c) (aW m c) 512 (by omega)) (xrow m c) := by
  refine (dats (F := Ideal) m 0 c).arrAt_eq_of_covers 5 _ (by decide +kernel) fun t hf y => ?_
  rw [after0_5, out5 (h_at m c t) (blk2 m c t)]
  exact row_emb (fun r => cols (n := 512) r (aG m c) (aW m c) 512 (by omega)) (xrow m c) (y 0) (y 1) ((win0_5.blk t).view.emb y) (by blk_simp [idx5 t]; try omega) (by blk_simp [idx5 t]; try omega)

theorem arr6 : (dats (F := Ideal) m 0 c).arrAt 6 cfg0.N = rowOf (fun r => cols (n := 256) r (aG m c) (aW m c) 1024 (by omega)) (xrow m c) := by
  refine (dats (F := Ideal) m 0 c).arrAt_eq_of_covers 6 _ (by decide +kernel) fun t hf y => ?_
  rw [after0_6, out6 (h_at m c t) (blk2 m c t)]
  exact row_emb (fun r => cols (n := 256) r (aG m c) (aW m c) 1024 (by omega)) (xrow m c) (y 0) (y 1) ((win0_6.blk t).view.emb y) (by blk_simp [idx6 t]; try omega) (by blk_simp [idx6 t]; try omega)

theorem arr8 : (dats (F := Ideal) m 0 c).arrAt 8 cfg0.N = rowOf (fun r => cols (n := 256) r (aG m c) (aW m c) 768 (by omega)) (xrow m c) := by
  refine (dats (F := Ideal) m 0 c).arrAt_eq_of_covers 8 _ (by decide +kernel) fun t hf y => ?_
  rw [after0_8, out8 (h_at m c t) (blk2 m c t)]
  exact row_emb (fun r => cols (n := 256) r (aG m c) (aW m c) 768 (by omega)) (xrow m c) (y 0) (y 1) ((win0_8.blk t).view.emb y) (by blk_simp [idx8 t]; try omega) (by blk_simp [idx8 t]; try omega)

theorem arr9 : (dats (F := Ideal) m 0 c).arrAt 9 cfg0.N = rowOf (fun r => cols (n := 256) r (aG m c) (aW m c) 1024 (by omega)) (xrow m c) := by
  refine (dats (F := Ideal) m 0 c).arrAt_eq_of_covers 9 _ (by decide +kernel) fun t hf y => ?_
  rw [after0_9, out9 (h_at m c t) (blk2 m c t)]
  exact row_emb (fun r => cols (n := 256) r (aG m c) (aW m c) 1024 (by omega)) (xrow m c) (y 0) (y 1) ((win0_9.blk t).view.emb y) (by blk_simp [idx9 t]; try omega) (by blk_simp [idx9 t]; try omega)

theorem arr10 : (dats (F := Ideal) m 0 c).arrAt 10 cfg0.N = rowOf (fun r => qfCol r (aG m c) (aW m c)) (xrow m c) := by
  refine (dats (F := Ideal) m 0 c).arrAt_eq_of_covers 10 _ (by decide +kernel) fun t hf y => ?_
  rw [after0_10, out10 (h_at m c t) (blk2 m c t)]
  exact row_emb (fun r => qfCol r (aG m c) (aW m c)) (xrow m c) (y 0) (y 1) ((win0_10.blk t).view.emb y) (by blk_simp [idx10 t]; try omega) (by blk_simp [idx10 t]; try omega)

theorem arr11 : (dats (F := Ideal) m 0 c).arrAt 11 cfg0.N = rowOf (fun r => cols (n := 1024) r (aG m c) (aW m c) 1816 (by omega)) (xrow m c) := by
  refine (dats (F := Ideal) m 0 c).arrAt_eq_of_covers 11 _ (by decide +kernel) fun t hf y => ?_
  rw [after0_11, out11 (h_at m c t) (blk2 m c t)]
  exact row_emb (fun r => cols (n := 1024) r (aG m c) (aW m c) 1816 (by omega)) (xrow m c) (y 0) (y 1) ((win0_11.blk t).view.emb y) (by blk_simp [idx11 t]; try omega) (by blk_simp [idx11 t]; try omega)

theorem arr12 : (dats (F := Ideal) m 0 c).arrAt 12 cfg0.N = rowOf (fun r => cols (n := 1024) r (aG m c) (aW m c) 1816 (by omega)) (xrow m c) := by
  refine (dats (F := Ideal) m 0 c).arrAt_eq_of_covers 12 _ (by decide +kernel) fun t hf y => ?_
  rw [after0_12, out12 (h_at m c t) (blk2 m c t)]
  exact row_emb (fun r => cols (n := 1024) r (aG m c) (aW m c) 1816 (by omega)) (xrow m c) (y 0) (y 1) ((win0_12.blk t).view.emb y) (by blk_simp [idx12 t]; try omega) (by blk_simp [idx12 t]; try omega)

theorem arr13 : (dats (F := Ideal) m 0 c).arrAt 13 cfg0.N = rowOf (fun r => smallCol r (aG m c) (aW m c) (aB m c) (aF m c)) (xrow m c) := by
  refine (dats (F := Ideal) m 0 c).arrAt_eq_of_covers 13 _ (by decide +kernel) fun t hf y => ?_
  rw [after0_13, out13 (h_at m c t) (blk2 m c t) (blk3 m c t)]
  exact row_emb (fun r => smallCol r (aG m c) (aW m c) (aB m c) (aF m c)) (xrow m c) (y 0) (y 1) ((win0_13.blk t).view.emb y) (by blk_simp [idx13 t]; try omega) (by blk_simp [idx13 t]; try omega)

end Cert.PrjS
-- ==== Proof.ProjSRef.lean ====
module

public import proofs.«01_k».proof.Proof.ProjSArray
public import proofs.«01_k».proof.Proof.Gen.ProjSReferenceIdeal
public import proofs.«01_k».proof.Proof.Gen.ProjSReferenceIdeal.Run
public import proofs.«01_k».proof.Proof.Gen.ProjSReferenceIdeal.Read

/-! The decode step's projection reference: its results as the same functions of the arguments. -/

@[expose] public section

set_option maxRecDepth 16384

noncomputable section

namespace Cert.PrjS

open Idealize.ShloMosaic Idealize.ShloMosaic.TcCoe
open Cert.ProjSReferenceIdeal Cert.ProjSReferenceIdeal.Gen Cert.ProjSReferenceIdeal.Read
open Cert.Ffwd (nrm)
open Cert.Prj (lsg lsg_ref qcol gsrc gcol)

variable (x : FVec Ideal S32x4x1024 .f32) (st : FVec Ideal S32x512x2x2x64 .f32) (g : FVec Ideal S1024 .f32) (w : FVec Ideal S1024x2848 .f32)
  (bg : FVec Ideal S24 .f32) (bf : FVec Ideal S8 .f32)

/-- Row `i` of sequence `b`. -/
def row (b : Fin 32) (i : Fin 4) (k : Fin 1024) : EReal := x (ix3 b i k)

theorem ref_h (b : Fin 32) (i : Fin 4) (k : Fin 1024) :
    val_main_v12 (F := Ideal) x g (ix3 b i k) = nrm (row x b i) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  unfold nrm row
  rfl

theorem ref_col (b : Fin 32) (i : Fin 4) (p : Fin 2848) :
    val_main_v13 (F := Ideal) x g w (ix3 b i p) = col (row x b i) g w p := by
  pointwise [val_main_v13]
  exact Finset.sum_congr rfl fun k _ => congrArg (· * _) (ref_h x g b i k)

theorem ref_kvn (b : Fin 32) (i : Fin 4) (l : Fin 512) :
    val_main_v45 (F := Ideal) x g w (ix3 b i l) = cols (row x b i) g w 512 (by omega) l := by
  pointwise [val_main_v45, val_main_v15]
  exact ref_col x g w b i _

theorem ref_slc (b : Fin 32) (i : Fin 4) (l : Fin 256) :
    val_main_v48 (F := Ideal) x g w (ix3 b i l) = cols (row x b i) g w 768 (by omega) l := by
  pointwise [val_main_v48, val_main_v47, val_main_v15]
  exact (ref_col x g w b i _).trans (congrArg (col (row x b i) g w) (Fin.ext (show 512 + (256 + l.val) = 768 + l.val by omega)))

theorem ref_winb (b : Fin 32) (i : Fin 4) (l : Fin 256) :
    val_main_v50 (F := Ideal) x g w (ix3 b i l) = cols (row x b i) g w 1024 (by omega) l := by
  pointwise [val_main_v50, val_main_v49, val_main_v15]
  exact (ref_col x g w b i _).trans (congrArg (col (row x b i) g w) (Fin.ext (show 512 + (512 + l.val) = 1024 + l.val by omega)))

theorem ref_kvf (b : Fin 32) (i : Fin 4) (l : Fin 1024) :
    val_main_v18 (F := Ideal) x g w (ix3 b i l) = cols (row x b i) g w 1816 (by omega) l := by
  pointwise [val_main_v18]
  exact ref_col x g w b i _

theorem ref_kvfb (b : Fin 32) (i : Fin 4) (l : Fin 1024) :
    val_main_v54 (F := Ideal) x g w (ix3 b i l) = cols (row x b i) g w 1816 (by omega) l := by
  pointwise [val_main_v54, val_main_v18]
  exact ref_col x g w b i _

theorem ref_qf (b : Fin 32) (i : Fin 4) (l : Fin 512) : val_main_v53 (F := Ideal) x g w (ix3 b i l) = qfCol (row x b i) g w l := by
  pointwise [val_main_v53, val_main_v52, val_main_v51, val_main_cst_5, val_main_v17]
  exact congrArg (· * _) (ref_col x g w b i _)

theorem ref_qn (b : Fin 32) (i : Fin 4) (l : Fin 512) : val_main_v44 (F := Ideal) x g w (ix3 b i l) = qnCol (row x b i) g w l := by
  pointwise [val_main_v44, val_main_v43, val_main_v42, val_main_cst_4, val_main_v36, val_main_v35, val_main_v34, val_main_v14]
  refine congrArg (· * _) ((ref_col x g w _ _ _).trans (congrArg (col (row x b i) g w) (Fin.ext ?_)))
  show l.val / 64 % 2 * 256 + l.val / 128 * 64 + l.val % 64 = 256 * (l.val / 64 % 2) + 64 * (l.val / 128) + l.val % 64
  omega

theorem ref_gate (b : Fin 32) (i : Fin 4) (l : Fin 24) :
    val_main_v38 (F := Ideal) x g w bg (ix3 b i l) = Ideal.logistic (col (row x b i) g w (gcol l) + bg (ix1 (gsrc l))) := by
  pointwise [val_main_v38, val_main_v37, val_main_v29, val_main_v28, val_main_v27, val_main_v26, val_main_v25, val_main_v24, val_main_v23, val_main_v22, val_main_v21, val_main_v20, val_main_v16, val_main_cst_2, val_main_cst_3]
  refine congrArg Ideal.logistic (congrArg₂ (· + ·) ((ref_col x g w _ _ _).trans (congrArg (col (row x b i) g w) (Fin.ext ?_))) (congrArg (fun p => bg (ix1 p)) (Fin.ext ?_)))
  · show 1280 + (l.val / 8 * 8 + l.val % 2 * 4 + l.val / 2 % 4) = 1280 + (8 * (l.val / 8) + 4 * (l.val % 2) + l.val / 2 % 4)
    omega
  · show l.val / 8 * 8 + l.val % 2 * 4 + l.val / 2 % 4 = 8 * (l.val / 8) + 4 * (l.val % 2) + l.val / 2 % 4
    omega

theorem ref_forget (b : Fin 32) (i : Fin 4) (l : Fin 8) :
    val_main_v33 (F := Ideal) x g w bf (ix3 b i l) = lsg (col (row x b i) g w ⟨2840 + l.val, by omega⟩ + bf (ix1 l)) := by
  pointwise [val_main_v33, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v32, val_main_v31, val_main_v30, val_main_v19]
  exact (lsg_ref _).trans (congrArg (fun u => lsg (u + bf (ix1 l))) (ref_col x g w _ _ _))

/-- The window's rows before they are cut: the stored window, then the new rows. -/
theorem ref_new (b : Fin 32) (i : Fin 4) (a : Fin 2) (h : Fin 2) (d : Fin 64) :
    val_main_v40 (F := Ideal) x g w (ix5 b i a h d) = cols (row x b i) g w 1024 (by omega) (⟨128 * a.val + 64 * h.val + d.val, by omega⟩ : Fin 256) := by
  pointwise [val_main_v40, val_main_v39, val_main_v15]
  refine (ref_col x g w _ _ _).trans (congrArg (col (row x b i) g w) (Fin.ext ?_))
  show 512 + (512 + (a.val * 128 + h.val * 64 + d.val)) = 1024 + (128 * a.val + 64 * h.val + d.val)
  omega

end Cert.PrjS
-- ==== Proof.ProjSTail.lean ====
module

public import proofs.«01_k».proof.Proof.ProjSRef

/-! The decode step's input projection: what the slices after the call hold. -/

@[expose] public section

set_option maxRecDepth 16384

noncomputable section

namespace Cert.PrjS

open Idealize.ShloMosaic Idealize.ShloMosaic.TcCoe
open Cert.Prj (lsg qcol gsrc gcol)
open Cert.ProjSIdeal Cert.ProjSIdeal.Gen

variable (m : (ℓ : Loc nD τ sig) → Buf (Elt Ideal) ℓ) (c : Dev nD)

theorem inj0 : Function.Injective (Pipeline.arrRef spec0) := by decide

/-- A buffer after the operations that follow the call. -/
abbrev tl (b : Ref sig .tc) := Pipeline.afterTail₀ cfgs (dats (F := Ideal) m) 0 (V0 m) [hostOps1] c b

theorem rowOf_at {n : ℕ} (f : (Fin 1024 → EReal) → Fin n → EReal) (s : Fin 256) (b : Fin 32) (i : Fin 4) (l : Fin n) (hs : s.val = 8 * b.val + i.val) :
    rowOf f (xrow m c) (ix2 s l) = f (row (aX m c) b i) l := by
  have e : s = ⟨8 * b.val + i.val, by omega⟩ := Fin.ext hs
  exact congrArg (fun r => f r l) ((congrArg (xrow m c) e).trans (xrow_at m c b i))

/-- The buffers as the call leaves them. -/
def left : Valuation τ sig (Elt Ideal) := Pipeline.withArrays (cfgs 0).spec c (V0 (F := Ideal) m c) fun w => (dats m 0 c).arrAt w (cfgs 0).N

theorem tl_eq (b : Ref sig .tc) : tl m c b = StableHlo.after hostOps1 (left m c) (Proc.devRef .tc b) := rfl

theorem left_arg1 : left m c (Proc.devRef .tc main_arg1) = aS m c :=
  (Pipeline.withArrays_of_ne (cfgs 0).spec c _ _ main_arg1 (by exact (by decide : ∀ w, Pipeline.arrRef spec0 w ≠ main_arg1))).trans (V_main_arg1 m c)

theorem left4 : left m c (Proc.devRef .tc main_v31_0) = (dats m 0 c).arrAt 4 cfg0.N :=
  Pipeline.withArrays_arr (cfgs 0).spec inj0 c _ _ 4

theorem left5 : left m c (Proc.devRef .tc main_v31_1) = (dats m 0 c).arrAt 5 cfg0.N :=
  Pipeline.withArrays_arr (cfgs 0).spec inj0 c _ _ 5

theorem left6 : left m c (Proc.devRef .tc main_v31_2) = (dats m 0 c).arrAt 6 cfg0.N :=
  Pipeline.withArrays_arr (cfgs 0).spec inj0 c _ _ 6

theorem left8 : left m c (Proc.devRef .tc main_v31_4) = (dats m 0 c).arrAt 8 cfg0.N :=
  Pipeline.withArrays_arr (cfgs 0).spec inj0 c _ _ 8

theorem left9 : left m c (Proc.devRef .tc main_v31_5) = (dats m 0 c).arrAt 9 cfg0.N :=
  Pipeline.withArrays_arr (cfgs 0).spec inj0 c _ _ 9

theorem left10 : left m c (Proc.devRef .tc main_v31_6) = (dats m 0 c).arrAt 10 cfg0.N :=
  Pipeline.withArrays_arr (cfgs 0).spec inj0 c _ _ 10

theorem left11 : left m c (Proc.devRef .tc main_v31_7) = (dats m 0 c).arrAt 11 cfg0.N :=
  Pipeline.withArrays_arr (cfgs 0).spec inj0 c _ _ 11

theorem left12 : left m c (Proc.devRef .tc main_v31_8) = (dats m 0 c).arrAt 12 cfg0.N :=
  Pipeline.withArrays_arr (cfgs 0).spec inj0 c _ _ 12

theorem left13 : left m c (Proc.devRef .tc main_v31_9) = (dats m 0 c).arrAt 13 cfg0.N :=
  Pipeline.withArrays_arr (cfgs 0).spec inj0 c _ _ 13

theorem after39 (W : Valuation τ sig (Elt Ideal)) : StableHlo.after hostOps1 W (Proc.devRef .tc main_v39)
    = extractStridedSlice S32x4x512 ![0, 0, 0] (shapeCast S32x8x512 (W (Proc.devRef .tc main_v31_0)) shapeCasts_S256x512_S32x8x512) slices_S32x8x512_S32x4x512_0_0_0 := by
  unfold hostOps1
  after_reads_simp
  rfl

theorem tl39 : tl m c main_v39 = extractStridedSlice S32x4x512 ![0, 0, 0] (shapeCast S32x8x512 (rowOf (fun r => qnCol r (aG m c) (aW m c)) (xrow m c)) shapeCasts_S256x512_S32x8x512) slices_S32x8x512_S32x4x512_0_0_0 := by
  rw [tl_eq, after39, left4, arr4]

theorem tl39_at (b : Fin 32) (i : Fin 4) (l : Fin 512) : tl m c main_v39 (ix3 b i l) = (fun r => qnCol r (aG m c) (aW m c)) (row (aX m c) b i) l := by
  refine (congrFun (tl39 m c) (ix3 b i l)).trans ?_
  pointwise
  exact rowOf_at m c (fun r => qnCol r (aG m c) (aW m c)) _ b i l (by show b.val * 8 + i.val = 8 * b.val + i.val; omega)

theorem after41 (W : Valuation τ sig (Elt Ideal)) : StableHlo.after hostOps1 W (Proc.devRef .tc main_v41)
    = extractStridedSlice S32x4x512 ![0, 0, 0] (shapeCast S32x8x512 (W (Proc.devRef .tc main_v31_1)) shapeCasts_S256x512_S32x8x512) slices_S32x8x512_S32x4x512_0_0_0 := by
  unfold hostOps1
  after_reads_simp
  rfl

theorem tl41 : tl m c main_v41 = extractStridedSlice S32x4x512 ![0, 0, 0] (shapeCast S32x8x512 (rowOf (fun r => cols (n := 512) r (aG m c) (aW m c) 512 (by omega)) (xrow m c)) shapeCasts_S256x512_S32x8x512) slices_S32x8x512_S32x4x512_0_0_0 := by
  rw [tl_eq, after41, left5, arr5]

theorem tl41_at (b : Fin 32) (i : Fin 4) (l : Fin 512) : tl m c main_v41 (ix3 b i l) = (fun r => cols (n := 512) r (aG m c) (aW m c) 512 (by omega)) (row (aX m c) b i) l := by
  refine (congrFun (tl41 m c) (ix3 b i l)).trans ?_
  pointwise
  exact rowOf_at m c (fun r => cols (n := 512) r (aG m c) (aW m c) 512 (by omega)) _ b i l (by show b.val * 8 + i.val = 8 * b.val + i.val; omega)

theorem after43 (W : Valuation τ sig (Elt Ideal)) : StableHlo.after hostOps1 W (Proc.devRef .tc main_v43)
    = extractStridedSlice S32x4x256 ![0, 0, 0] (shapeCast S32x8x256 (W (Proc.devRef .tc main_v31_4)) shapeCasts_S256x256_S32x8x256) slices_S32x8x256_S32x4x256_0_0_0 := by
  unfold hostOps1
  after_reads_simp
  rfl

theorem tl43 : tl m c main_v43 = extractStridedSlice S32x4x256 ![0, 0, 0] (shapeCast S32x8x256 (rowOf (fun r => cols (n := 256) r (aG m c) (aW m c) 768 (by omega)) (xrow m c)) shapeCasts_S256x256_S32x8x256) slices_S32x8x256_S32x4x256_0_0_0 := by
  rw [tl_eq, after43, left8, arr8]

theorem tl43_at (b : Fin 32) (i : Fin 4) (l : Fin 256) : tl m c main_v43 (ix3 b i l) = (fun r => cols (n := 256) r (aG m c) (aW m c) 768 (by omega)) (row (aX m c) b i) l := by
  refine (congrFun (tl43 m c) (ix3 b i l)).trans ?_
  pointwise
  exact rowOf_at m c (fun r => cols (n := 256) r (aG m c) (aW m c) 768 (by omega)) _ b i l (by show b.val * 8 + i.val = 8 * b.val + i.val; omega)

theorem after45 (W : Valuation τ sig (Elt Ideal)) : StableHlo.after hostOps1 W (Proc.devRef .tc main_v45)
    = extractStridedSlice S32x4x256 ![0, 0, 0] (shapeCast S32x8x256 (W (Proc.devRef .tc main_v31_5)) shapeCasts_S256x256_S32x8x256) slices_S32x8x256_S32x4x256_0_0_0 := by
  unfold hostOps1
  after_reads_simp
  rfl

theorem tl45 : tl m c main_v45 = extractStridedSlice S32x4x256 ![0, 0, 0] (shapeCast S32x8x256 (rowOf (fun r => cols (n := 256) r (aG m c) (aW m c) 1024 (by omega)) (xrow m c)) shapeCasts_S256x256_S32x8x256) slices_S32x8x256_S32x4x256_0_0_0 := by
  rw [tl_eq, after45, left9, arr9]

theorem tl45_at (b : Fin 32) (i : Fin 4) (l : Fin 256) : tl m c main_v45 (ix3 b i l) = (fun r => cols (n := 256) r (aG m c) (aW m c) 1024 (by omega)) (row (aX m c) b i) l := by
  refine (congrFun (tl45 m c) (ix3 b i l)).trans ?_
  pointwise
  exact rowOf_at m c (fun r => cols (n := 256) r (aG m c) (aW m c) 1024 (by omega)) _ b i l (by show b.val * 8 + i.val = 8 * b.val + i.val; omega)

theorem after47 (W : Valuation τ sig (Elt Ideal)) : StableHlo.after hostOps1 W (Proc.devRef .tc main_v47)
    = extractStridedSlice S32x4x512 ![0, 0, 0] (shapeCast S32x8x512 (W (Proc.devRef .tc main_v31_6)) shapeCasts_S256x512_S32x8x512) slices_S32x8x512_S32x4x512_0_0_0 := by
  unfold hostOps1
  after_reads_simp
  rfl

theorem tl47 : tl m c main_v47 = extractStridedSlice S32x4x512 ![0, 0, 0] (shapeCast S32x8x512 (rowOf (fun r => qfCol r (aG m c) (aW m c)) (xrow m c)) shapeCasts_S256x512_S32x8x512) slices_S32x8x512_S32x4x512_0_0_0 := by
  rw [tl_eq, after47, left10, arr10]

theorem tl47_at (b : Fin 32) (i : Fin 4) (l : Fin 512) : tl m c main_v47 (ix3 b i l) = (fun r => qfCol r (aG m c) (aW m c)) (row (aX m c) b i) l := by
  refine (congrFun (tl47 m c) (ix3 b i l)).trans ?_
  pointwise
  exact rowOf_at m c (fun r => qfCol r (aG m c) (aW m c)) _ b i l (by show b.val * 8 + i.val = 8 * b.val + i.val; omega)

theorem after49 (W : Valuation τ sig (Elt Ideal)) : StableHlo.after hostOps1 W (Proc.devRef .tc main_v49)
    = extractStridedSlice S32x4x1024 ![0, 0, 0] (shapeCast S32x8x1024 (W (Proc.devRef .tc main_v31_7)) shapeCasts_S256x1024_S32x8x1024) slices_S32x8x1024_S32x4x1024_0_0_0 := by
  unfold hostOps1
  after_reads_simp
  rfl

theorem tl49 : tl m c main_v49 = extractStridedSlice S32x4x1024 ![0, 0, 0] (shapeCast S32x8x1024 (rowOf (fun r => cols (n := 1024) r (aG m c) (aW m c) 1816 (by omega)) (xrow m c)) shapeCasts_S256x1024_S32x8x1024) slices_S32x8x1024_S32x4x1024_0_0_0 := by
  rw [tl_eq, after49, left11, arr11]

theorem tl49_at (b : Fin 32) (i : Fin 4) (l : Fin 1024) : tl m c main_v49 (ix3 b i l) = (fun r => cols (n := 1024) r (aG m c) (aW m c) 1816 (by omega)) (row (aX m c) b i) l := by
  refine (congrFun (tl49 m c) (ix3 b i l)).trans ?_
  pointwise
  exact rowOf_at m c (fun r => cols (n := 1024) r (aG m c) (aW m c) 1816 (by omega)) _ b i l (by show b.val * 8 + i.val = 8 * b.val + i.val; omega)

theorem after51 (W : Valuation τ sig (Elt Ideal)) : StableHlo.after hostOps1 W (Proc.devRef .tc main_v51)
    = extractStridedSlice S32x4x1024 ![0, 0, 0] (shapeCast S32x8x1024 (W (Proc.devRef .tc main_v31_8)) shapeCasts_S256x1024_S32x8x1024) slices_S32x8x1024_S32x4x1024_0_0_0 := by
  unfold hostOps1
  after_reads_simp
  rfl

theorem tl51 : tl m c main_v51 = extractStridedSlice S32x4x1024 ![0, 0, 0] (shapeCast S32x8x1024 (rowOf (fun r => cols (n := 1024) r (aG m c) (aW m c) 1816 (by omega)) (xrow m c)) shapeCasts_S256x1024_S32x8x1024) slices_S32x8x1024_S32x4x1024_0_0_0 := by
  rw [tl_eq, after51, left12, arr12]

theorem tl51_at (b : Fin 32) (i : Fin 4) (l : Fin 1024) : tl m c main_v51 (ix3 b i l) = (fun r => cols (n := 1024) r (aG m c) (aW m c) 1816 (by omega)) (row (aX m c) b i) l := by
  refine (congrFun (tl51 m c) (ix3 b i l)).trans ?_
  pointwise
  exact rowOf_at m c (fun r => cols (n := 1024) r (aG m c) (aW m c) 1816 (by omega)) _ b i l (by show b.val * 8 + i.val = 8 * b.val + i.val; omega)

theorem after52 (W : Valuation τ sig (Elt Ideal)) : StableHlo.after hostOps1 W (Proc.devRef .tc main_v52)
    = extractStridedSlice S32x4x24 ![0, 0, 0] (extractStridedSlice S32x4x128 ![0, 0, 0] (shapeCast S32x8x128 (W (Proc.devRef .tc main_v31_9)) shapeCasts_S256x128_S32x8x128) slices_S32x8x128_S32x4x128_0_0_0) slices_S32x4x128_S32x4x24_0_0_0 := by
  unfold hostOps1
  after_reads_simp
  rfl

theorem tl52 : tl m c main_v52 = extractStridedSlice S32x4x24 ![0, 0, 0] (extractStridedSlice S32x4x128 ![0, 0, 0] (shapeCast S32x8x128 (rowOf (fun r => smallCol r (aG m c) (aW m c) (aB m c) (aF m c)) (xrow m c)) shapeCasts_S256x128_S32x8x128) slices_S32x8x128_S32x4x128_0_0_0) slices_S32x4x128_S32x4x24_0_0_0 := by
  rw [tl_eq, after52, left13, arr13]

theorem after53 (W : Valuation τ sig (Elt Ideal)) : StableHlo.after hostOps1 W (Proc.devRef .tc main_v53)
    = extractStridedSlice S32x4x8 ![0, 0, 24] (extractStridedSlice S32x4x128 ![0, 0, 0] (shapeCast S32x8x128 (W (Proc.devRef .tc main_v31_9)) shapeCasts_S256x128_S32x8x128) slices_S32x8x128_S32x4x128_0_0_0) slices_S32x4x128_S32x4x8_0_0_24 := by
  unfold hostOps1
  after_reads_simp
  rfl

theorem tl53 : tl m c main_v53 = extractStridedSlice S32x4x8 ![0, 0, 24] (extractStridedSlice S32x4x128 ![0, 0, 0] (shapeCast S32x8x128 (rowOf (fun r => smallCol r (aG m c) (aW m c) (aB m c) (aF m c)) (xrow m c)) shapeCasts_S256x128_S32x8x128) slices_S32x8x128_S32x4x128_0_0_0) slices_S32x4x128_S32x4x8_0_0_24 := by
  rw [tl_eq, after53, left13, arr13]

theorem tl52_at (b : Fin 32) (i : Fin 4) (l : Fin 24) : tl m c main_v52 (ix3 b i l)
    = Ideal.logistic (col (row (aX m c) b i) (aG m c) (aW m c) (gcol l) + aB m c (ix1 (gsrc l))) := by
  refine (congrFun (tl52 m c) (ix3 b i l)).trans ?_
  pointwise
  refine (rowOf_at m c (fun r => smallCol r (aG m c) (aW m c) (aB m c) (aF m c)) _ b i ⟨l.val, by omega⟩ (by show b.val * 8 + i.val = 8 * b.val + i.val; omega)).trans ?_
  exact dif_pos l.isLt

theorem tl53_at (b : Fin 32) (i : Fin 4) (l : Fin 8) : tl m c main_v53 (ix3 b i l)
    = lsg (col (row (aX m c) b i) (aG m c) (aW m c) ⟨2840 + l.val, by omega⟩ + aF m c (ix1 l)) := by
  refine (congrFun (tl53 m c) (ix3 b i l)).trans ?_
  pointwise
  refine (rowOf_at m c (fun r => smallCol r (aG m c) (aW m c) (aB m c) (aF m c)) _ b i ⟨24 + l.val, by omega⟩ (by show b.val * 8 + i.val = 8 * b.val + i.val; omega)).trans ?_
  unfold smallCol
  refine (dif_neg (show ¬24 + l.val < 24 by omega)).trans ((dif_pos (show 24 + l.val < 32 by omega)).trans ?_)
  refine congrArg lsg (congrArg₂ (· + ·) (congrArg (col _ _ _) (Fin.ext ?_)) (congrArg (fun p => aF m c (ix1 p)) (Fin.ext ?_)))
  · show 2840 + (24 + l.val - 24) = 2840 + l.val; omega
  · show 24 + l.val - 24 = l.val; omega

/-- The new rows of the window, as the call leaves them. -/
def newRows : FVec Ideal S32x4x2x2x64 .f32 :=
  extractStridedSlice S32x4x2x2x64 ![0, 0, 0, 0, 0] (shapeCast S32x8x2x2x64
    (rowOf (fun r => cols (n := 256) r (aG m c) (aW m c) 1024 (by omega)) (xrow m c)) shapeCasts_S256x256_S32x8x2x2x64) slices_S32x8x2x2x64_S32x4x2x2x64_0_0_0_0_0

theorem newRows_at (b : Fin 32) (i : Fin 4) (a : Fin 2) (h : Fin 2) (d : Fin 64) : newRows m c (ix5 b i a h d)
    = cols (row (aX m c) b i) (aG m c) (aW m c) 1024 (by omega) (⟨128 * a.val + 64 * h.val + d.val, by omega⟩ : Fin 256) := by
  pointwise [newRows]
  refine (rowOf_at m c (fun r => cols (n := 256) r (aG m c) (aW m c) 1024 (by omega)) _ b i _ (by show b.val * 8 + i.val = 8 * b.val + i.val; omega)).trans ?_
  refine congrArg (cols (n := 256) _ _ _ 1024 _) (Fin.ext ?_)
  show a.val * 128 + h.val * 64 + d.val = 128 * a.val + 64 * h.val + d.val
  omega

theorem after35 (W : Valuation τ sig (Elt Ideal)) : StableHlo.after hostOps1 W (Proc.devRef .tc main_v35)
    = extractStridedSlice S32x512x2x2x64 ![0, 4, 0, 0, 0]
    (concatenate S32x516x2x2x64 1 [⟨S32x512x2x2x64, W (Proc.devRef .tc main_arg1)⟩, ⟨S32x4x2x2x64, extractStridedSlice S32x4x2x2x64 ![0, 0, 0, 0, 0] (shapeCast S32x8x2x2x64 (W (Proc.devRef .tc main_v31_2)) shapeCasts_S256x256_S32x8x2x2x64) slices_S32x8x2x2x64_S32x4x2x2x64_0_0_0_0_0⟩] concatenates_S32x512x2x2x64_S32x4x2x2x64_S32x516x2x2x64_d1)
    slices_S32x516x2x2x64_S32x512x2x2x64_0_4_0_0_0 := by
  unfold hostOps1
  after_reads_simp
  rfl

theorem tl35 : tl m c main_v35 = extractStridedSlice S32x512x2x2x64 ![0, 4, 0, 0, 0]
    (concatenate S32x516x2x2x64 1 [⟨S32x512x2x2x64, aS m c⟩, ⟨S32x4x2x2x64, newRows m c⟩] concatenates_S32x512x2x2x64_S32x4x2x2x64_S32x516x2x2x64_d1)
    slices_S32x516x2x2x64_S32x512x2x2x64_0_4_0_0_0 := by
  rw [tl_eq, after35, left_arg1, left6, arr6]
  rfl

end Cert.PrjS
-- ==== Proof.ProjSValue.lean ====
module

public import proofs.«01_k».proof.Defs
public import proofs.«01_k».proof.Proof.ProjSTail
public import proofs.«01_k».proof.Proof.FfnRef
public import proofs.«01_k».proof.Proof.Pre
public import Idealize.ShloMosaic.Lib.Claim
public import Idealize.ShloMosaic.Lib.Quiescent
public import Idealize.ShloMosaic.Adequacy
public import Idealize.ShloMosaic.Init

/-! The decode step's input projection: kernel and reference leave equal results. -/

@[expose] public section

set_option maxRecDepth 16384

noncomputable section

namespace Cert.PrjS

open Idealize.ShloMosaic Idealize.ShloMosaic.TcCoe Idealize.SL.Sem

/-- An index of five axes from its coordinates. -/
theorem ix5_self {n₀ n₁ n₂ n₃ n₄ : ℕ} (y : (⟨5, ![n₀, n₁, n₂, n₃, n₄]⟩ : Shape).Idx) :
    y = ix5 (y 0 : Fin n₀) (y 1 : Fin n₁) (y 2 : Fin n₂) (y 3 : Fin n₃) (y 4 : Fin n₄) := by
  funext a
  fin_cases a <;> rfl

theorem projSReferenceFrame : Cert.quiescent_ProjSReferenceIdeal := fun m g _ =>
  (θ_run Cert.ProjSReferenceIdeal.defs _ _).mono (fun r h => ⟨fun c => (h c).2.2.2.2.2.2.2.2.2.2, sem_eq_zero_of_no_sems (by decide) r.2⟩)
    (Cert.ProjSReferenceIdeal.Value.run (F := Ideal) m g)

set_option maxHeartbeats 4000000 in
theorem projSValue : Cert.algebraic_ProjSIdeal_ProjSReferenceIdeal := by
  pair_intro
  · run_from Cert.ProjSIdeal.Gen.run_main m g
    · exact Cert.ProjSIdeal.Gen.W_main_arg0 m _ c
    · exact Cert.ProjSIdeal.Gen.W_main_arg1 m _ c
    · exact Cert.ProjSIdeal.Gen.W_main_arg2 m _ c
    · exact Cert.ProjSIdeal.Gen.W_main_arg3 m _ c
    · exact Cert.ProjSIdeal.Gen.W_main_arg4 m _ c
    · exact Cert.ProjSIdeal.Gen.W_main_arg5 m _ c
  · run_from Cert.ProjSReferenceIdeal.Value.run m' g'
    · funext y
      refine (congrArg (Cert.ProjSReferenceIdeal.Read.val_main_v44 (F := Ideal) _ _ _) (Cert.Fox.ix3_self y)).trans ?_
      refine (ref_qn _ _ _ (y 0) (y 1) (y 2)).trans ?_
      exact (tl39_at m c (y 0) (y 1) (y 2)).symm.trans (congrArg (tl m c Cert.ProjSIdeal.main_v39) (Cert.Fox.ix3_self y).symm)
    · funext y
      refine (congrArg (Cert.ProjSReferenceIdeal.Read.val_main_v45 (F := Ideal) _ _ _) (Cert.Fox.ix3_self y)).trans ?_
      refine (ref_kvn _ _ _ (y 0) (y 1) (y 2)).trans ?_
      exact (tl41_at m c (y 0) (y 1) (y 2)).symm.trans (congrArg (tl m c Cert.ProjSIdeal.main_v41) (Cert.Fox.ix3_self y).symm)
    · refine Eq.trans ?_ (tl35 m c).symm
      refine congrArg (fun a => extractStridedSlice Cert.ProjSIdeal.S32x512x2x2x64 ![0, 4, 0, 0, 0]
        (concatenate Cert.ProjSIdeal.S32x516x2x2x64 1 [⟨Cert.ProjSIdeal.S32x512x2x2x64, aS m c⟩, ⟨Cert.ProjSIdeal.S32x4x2x2x64, a⟩]
          Cert.ProjSIdeal.Gen.concatenates_S32x512x2x2x64_S32x4x2x2x64_S32x516x2x2x64_d1)
        Cert.ProjSIdeal.Gen.slices_S32x516x2x2x64_S32x512x2x2x64_0_4_0_0_0) (funext fun y => ?_)
      refine (congrArg (Cert.ProjSReferenceIdeal.Read.val_main_v40 (F := Ideal) (aX m c) (aG m c) (aW m c)) (ix5_self y)).trans ?_
      refine (ref_new _ _ _ (y 0) (y 1) (y 2) (y 3) (y 4)).trans ?_
      exact (newRows_at m c (y 0) (y 1) (y 2) (y 3) (y 4)).symm.trans (congrArg (newRows m c) (ix5_self y).symm)
    · funext y
      refine (congrArg (Cert.ProjSReferenceIdeal.Read.val_main_v48 (F := Ideal) _ _ _) (Cert.Fox.ix3_self y)).trans ?_
      refine (ref_slc _ _ _ (y 0) (y 1) (y 2)).trans ?_
      exact (tl43_at m c (y 0) (y 1) (y 2)).symm.trans (congrArg (tl m c Cert.ProjSIdeal.main_v43) (Cert.Fox.ix3_self y).symm)
    · funext y
      refine (congrArg (Cert.ProjSReferenceIdeal.Read.val_main_v50 (F := Ideal) _ _ _) (Cert.Fox.ix3_self y)).trans ?_
      refine (ref_winb _ _ _ (y 0) (y 1) (y 2)).trans ?_
      exact (tl45_at m c (y 0) (y 1) (y 2)).symm.trans (congrArg (tl m c Cert.ProjSIdeal.main_v45) (Cert.Fox.ix3_self y).symm)
    · funext y
      refine (congrArg (Cert.ProjSReferenceIdeal.Read.val_main_v53 (F := Ideal) _ _ _) (Cert.Fox.ix3_self y)).trans ?_
      refine (ref_qf _ _ _ (y 0) (y 1) (y 2)).trans ?_
      exact (tl47_at m c (y 0) (y 1) (y 2)).symm.trans (congrArg (tl m c Cert.ProjSIdeal.main_v47) (Cert.Fox.ix3_self y).symm)
    · funext y
      refine (congrArg (Cert.ProjSReferenceIdeal.Read.val_main_v18 (F := Ideal) _ _ _) (Cert.Fox.ix3_self y)).trans ?_
      refine (ref_kvf _ _ _ (y 0) (y 1) (y 2)).trans ?_
      exact (tl49_at m c (y 0) (y 1) (y 2)).symm.trans (congrArg (tl m c Cert.ProjSIdeal.main_v49) (Cert.Fox.ix3_self y).symm)
    · funext y
      refine (congrArg (Cert.ProjSReferenceIdeal.Read.val_main_v54 (F := Ideal) _ _ _) (Cert.Fox.ix3_self y)).trans ?_
      refine (ref_kvfb _ _ _ (y 0) (y 1) (y 2)).trans ?_
      exact (tl51_at m c (y 0) (y 1) (y 2)).symm.trans (congrArg (tl m c Cert.ProjSIdeal.main_v51) (Cert.Fox.ix3_self y).symm)
    · funext y
      refine (congrArg (Cert.ProjSReferenceIdeal.Read.val_main_v38 (F := Ideal) _ _ _ _) (Cert.Fox.ix3_self y)).trans ?_
      refine (ref_gate _ _ _ _ (y 0) (y 1) (y 2)).trans ?_
      exact (tl52_at m c (y 0) (y 1) (y 2)).symm.trans (congrArg (tl m c Cert.ProjSIdeal.main_v52) (Cert.Fox.ix3_self y).symm)
    · refine (Cert.ProjSReferenceIdeal.Read.val_main_v33_eq m' c).trans ?_
      rw [(hagree c).1, (hagree c).2.2.1, (hagree c).2.2.2.1, (hagree c).2.2.2.2.2]
      funext y
      refine (congrArg _ (Cert.Fox.ix3_self y)).trans ((ref_forget _ _ _ _ (y 0) (y 1) (y 2)).trans ?_)
      exact (tl53_at m c (y 0) (y 1) (y 2)).symm.trans (congrArg (tl m c Cert.ProjSIdeal.main_v53) (Cert.Fox.ix3_self y).symm)

end Cert.PrjS
-- ==== Proof.MixSCell.lean ====
module

public import proofs.«01_k».proof.Proof.Gen.MixS
public import proofs.«01_k».proof.Proof.Gen.MixS.Frame
public import proofs.«01_k».proof.Proof.Gen.MixSIdeal
public import proofs.«01_k».proof.Proof.Gen.MixSIdeal.Frame
public import proofs.«01_k».proof.Proof.Gen.MixSIdeal.Value
public import proofs.«01_k».proof.Proof.MixRef

/-! The decoding step's output projection: the stored term read at one element, and the windows' blocks. -/

@[expose] public section

set_option maxRecDepth 16384

noncomputable section

namespace Cert.MixoS

open Idealize.ShloMosaic Idealize.ShloMosaic.TcCoe
open Cert.Ffwd (nrm)
open Cert.Prj (ix2_self)
open Cert.Mixo (nrh lo hi prm unp unp_prm sum_prm gg ww gg_lo gg_hi ww_lo ww_hi)

/-- The sequence and the position of a row of the call, eight rows to a sequence. -/
def sq (s : Fin 256) : Fin 32 := ⟨s.val / 8, by omega⟩
def ps (s : Fin 256) : Fin 8 := ⟨s.val % 8, by omega⟩

section
variable (on : (⟨3, ![32, 8, 512]⟩ : Shape).Idx → EReal) (of : (⟨3, ![32, 8, 512]⟩ : Shape).Idx → EReal) (x : (⟨3, ![32, 8, 1024]⟩ : Shape).Idx → EReal)
  (g : (⟨1, ![1024]⟩ : Shape).Idx → EReal) (w : (⟨2, ![1024, 1024]⟩ : Shape).Idx → EReal) (gp : (⟨1, ![1024]⟩ : Shape).Idx → EReal)

/-- The normed rows of the two attentions' outputs, the first in the kernel's order of heads. -/
def yn (b : Fin 32) (t : Fin 8) : Fin 512 → EReal := nrh (fun k => on (ix3 b t k)) (fun k => g (ix1 (lo (prm k))))
def yf (b : Fin 32) (t : Fin 8) : Fin 512 → EReal := nrh (fun k => of (ix3 b t k)) (fun k => g (ix1 (hi k)))

/-- Column `j` of the output projection, and the layer's result. -/
def prj (b : Fin 32) (t : Fin 8) (j : Fin 1024) : EReal :=
  (∑ l : Fin 512, yn on g b t l * w (ix2 (lo (prm l)) j)) + ∑ l : Fin 512, yf of g b t l * w (ix2 (hi l) j)
def mixOut (b : Fin 32) (t : Fin 8) (j : Fin 1024) : EReal := x (ix3 b t j) + nrm (prj on of g w b t) (fun k => gp (ix1 k)) j

/-- The result with its rows on one axis. -/
def mixRows (z : (⟨2, ![256, 1024]⟩ : Shape).Idx) : EReal := mixOut on of x g w gp (sq (z 0)) (ps (z 0)) (z 1)

end

open Cert.MixSIdeal Cert.MixSIdeal.Gen

theorem pay2_at (g : Vec Ideal S1x1024 .f32) (a b : Vec Ideal S256x512 .f32) (w : Vec Ideal S1024x1024 .bf16) (s : Fin 256) (j : Fin 1024) :
    k0_pay2 g a b w (ix2 s j) = (∑ l : Fin 512, nrh (fun k => a (ix2 s k)) (fun k => g (ix2 0 (lo k))) l * w (ix2 (lo l) j))
      + ∑ l : Fin 512, nrh (fun k => b (ix2 s k)) (fun k => g (ix2 0 (hi k))) l * w (ix2 (hi l) j) := by
  pointwise [k0_pay2]
  rfl

theorem pay1_at (y x : FVec Ideal S256x1024 .f32) (g : Vec Ideal S1x1024 .f32) (s : Fin 256) (j : Fin 1024) :
    k0_pay1 y (k0_pay3 x) g (ix2 s j) = x (ix2 s j) + nrm (fun k => y (ix2 s k)) (fun k => g (ix2 0 k)) j := by
  pointwise [k0_pay1, k0_pay3]
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

theorem tlt (t : Fin cfg0.N) : t.val < 1 := t.isLt

variable (m : (ℓ : Loc nD τ sig) → Buf (Elt Ideal) ℓ) (c : Dev nD) (t : Fin cfg0.N)

set_option maxHeartbeats 4000000 in
theorem entry_g : V (F := Ideal) m c main_v8 = shapeCast _ (gg (m ((c : Thread nD τ).loc main_arg3))) shapeCasts_S1024_S1x1024 := by
  show StableHlo.after hostOps0 _ _ = _
  unfold hostOps0
  after_reads_simp
  rfl

set_option maxHeartbeats 4000000 in
theorem entry_w : V (F := Ideal) m c main_v17 = truncf .bf16 (ww (m ((c : Thread nD τ).loc main_arg4))) bitsLt_bf16_f32 := by
  show StableHlo.after hostOps0 _ _ = _
  unfold hostOps0
  after_reads_simp
  rfl

theorem blk0 (s : Fin 256) (k : Fin 512) :
    iblk (F := Ideal) m c 0 t (ix2 s k) = m ((c : Thread nD τ).loc main_arg0) (ix3 (sq s) (ps s) k) := by
  have hs := s.isLt
  have ht := tlt t
  unfold sq ps
  blk_ext! [iblk, V, idx0 t]

theorem blk1 (s : Fin 256) (k : Fin 512) :
    iblk (F := Ideal) m c 1 t (ix2 s k) = m ((c : Thread nD τ).loc main_arg1) (ix3 (sq s) (ps s) k) := by
  have hs := s.isLt
  have ht := tlt t
  unfold sq ps
  blk_ext! [iblk, V, idx1 t]

theorem blk2 (s : Fin 256) (k : Fin 1024) :
    iblk (F := Ideal) m c 2 t (ix2 s k) = m ((c : Thread nD τ).loc main_arg2) (ix3 (sq s) (ps s) k) := by
  have hs := s.isLt
  have ht := tlt t
  unfold sq ps
  blk_ext! [iblk, V, idx2 t]

theorem blk5 (k : Fin 1024) : iblk (F := Ideal) m c 5 t (ix2 0 k) = m ((c : Thread nD τ).loc main_arg5) (ix1 k) := by
  blk_ext! [iblk, V, idx5 t]

theorem blk4 (k j : Fin 1024) : iblk (F := Ideal) m c 4 t (ix2 k j) = ww (m ((c : Thread nD τ).loc main_arg4)) (ix2 k j) := by
  refine Eq.trans ?_ (congrFun (entry_w m c) (ix2 k j))
  refine congrArg (V (F := Ideal) m c main_v17) ?_
  funext a
  fin_cases a
  · exact Fin.ext (by blk_simp [idx4 t])
  · exact Fin.ext (by blk_simp [idx4 t])

theorem blk3 (k : Fin 1024) : iblk (F := Ideal) m c 3 t (ix2 0 k) = gg (m ((c : Thread nD τ).loc main_arg3)) (ix1 k) := by
  refine Eq.trans ?_ ((congrFun (entry_g m c) (ix2 0 k)).trans ?_)
  · refine congrArg (V (F := Ideal) m c main_v8) ?_
    funext a
    fin_cases a
    · exact Fin.ext (by blk_simp [idx3 t])
    · exact Fin.ext (by blk_simp [idx3 t])
  · pointwise

end Cert.MixoS
-- ==== Proof.MixSArray.lean ====
module

public import proofs.«01_k».proof.Proof.MixSCell

/-! The decoding step's output projection: the kernel's result, of its arguments. -/

@[expose] public section

set_option maxRecDepth 16384

noncomputable section

namespace Cert.MixoS

open Idealize.ShloMosaic Idealize.ShloMosaic.TcCoe
open Cert.Ffwd (nrm)
open Cert.Prj (ix2_self)
open Cert.Mixo (nrh lo hi prm unp unp_prm sum_prm gg ww gg_lo gg_hi ww_lo ww_hi)
open Cert.MixSIdeal Cert.MixSIdeal.Gen

theorem out6 {X0 X1 : Vec Ideal S256x512 .f32} {X2 : Vec Ideal S256x1024 .f32} {X3 : Vec Ideal S1x1024 .f32} {X4 : Vec Ideal S1024x1024 .bf16}
    {X5 : Vec Ideal S1x1024 .f32} {on of : FVec Ideal S32x8x512 .f32} {x : FVec Ideal S32x8x1024 .f32} {g : FVec Ideal S1024 .f32}
    {w : FVec Ideal S1024x1024 .f32} {gp : FVec Ideal S1024 .f32}
    (h0 : ∀ (s : Fin 256) (k : Fin 512), X0 (ix2 s k) = on (ix3 (sq s) (ps s) k)) (h1 : ∀ (s : Fin 256) (k : Fin 512), X1 (ix2 s k) = of (ix3 (sq s) (ps s) k))
    (h2 : ∀ (s : Fin 256) (k : Fin 1024), X2 (ix2 s k) = x (ix3 (sq s) (ps s) k)) (h3 : ∀ k : Fin 1024, X3 (ix2 0 k) = gg g (ix1 k))
    (h4 : ∀ k j : Fin 1024, X4 (ix2 k j) = ww w (ix2 k j)) (h5 : ∀ k : Fin 1024, X5 (ix2 0 k) = gp (ix1 k)) :
    out0_6 X0 X1 X2 X3 X4 X5 = mixRows on of x g w gp := by
  have e0 (s : Fin 256) : (fun k : Fin 512 => X0 (ix2 s k)) = fun k => on (ix3 (sq s) (ps s) k) := funext fun k => h0 s k
  have e1 (s : Fin 256) : (fun k : Fin 512 => X1 (ix2 s k)) = fun k => of (ix3 (sq s) (ps s) k) := funext fun k => h1 s k
  have e3 : (fun k : Fin 512 => X3 (ix2 0 (lo k))) = fun k => g (ix1 (lo (prm k))) := funext fun k => (h3 _).trans (gg_lo g k)
  have e3' : (fun k : Fin 512 => X3 (ix2 0 (hi k))) = fun k => g (ix1 (hi k)) := funext fun k => (h3 _).trans (gg_hi g k)
  have e5 : (fun k : Fin 1024 => X5 (ix2 0 k)) = fun k => gp (ix1 k) := funext h5
  have hy (s : Fin 256) (j : Fin 1024) : k0_pay2 X3 X0 X1 X4 (ix2 s j) = prj on of g w (sq s) (ps s) j := by
    refine (pay2_at X3 X0 X1 X4 s j).trans ?_
    unfold prj yn yf
    rw [e0, e1, e3, e3']
    exact congrArg₂ (· + ·) (Finset.sum_congr rfl fun l _ => congrArg _ ((h4 _ j).trans (ww_lo w l j)))
      (Finset.sum_congr rfl fun l _ => congrArg _ ((h4 _ j).trans (ww_hi w l j)))
  frame_out
  funext z
  refine (congrArg (k0_pay1 _ _ _) (ix2_self z)).trans ((pay1_at _ X2 X5 (z 0) (z 1)).trans ?_)
  exact congrArg₂ (· + ·) (h2 (z 0) (z 1)) (congrArg₂ (fun r p => nrm r p (z 1)) (funext fun k => hy (z 0) k) e5)

variable (m : (ℓ : Loc nD τ sig) → Buf (Elt Ideal) ℓ) (c : Dev nD)

abbrev aOn := m ((c : Thread nD τ).loc main_arg0)
abbrev aOf := m ((c : Thread nD τ).loc main_arg1)
abbrev aX := m ((c : Thread nD τ).loc main_arg2)
abbrev aG := m ((c : Thread nD τ).loc main_arg3)
abbrev aW := m ((c : Thread nD τ).loc main_arg4)
abbrev aP := m ((c : Thread nD τ).loc main_arg5)

theorem arr6 : (dats (F := Ideal) m 0 c).arrAt 6 cfg0.N = mixRows (aOn m c) (aOf m c) (aX m c) (aG m c) (aW m c) (aP m c) := by
  refine (dats (F := Ideal) m 0 c).arrAt_eq_of_covers 6 _ (by decide +kernel) fun t hf y => ?_
  rw [after0_6, out6 (blk0 m c t) (blk1 m c t) (blk2 m c t) (blk3 m c t) (blk4 m c t) (blk5 m c t)]
  have ht := tlt t
  refine congrArg (mixRows (aOn m c) (aOf m c) (aX m c) (aG m c) (aW m c) (aP m c)) ?_
  funext a
  fin_cases a
  · exact Fin.ext (by blk_simp [idx6 t]; try omega)
  · exact Fin.ext (by blk_simp [idx6 t]; try omega)

end Cert.MixoS
-- ==== Proof.MixSRef.lean ====
module

public import proofs.«01_k».proof.Proof.MixSArray
public import proofs.«01_k».proof.Proof.Gen.MixSReferenceIdeal
public import proofs.«01_k».proof.Proof.Gen.MixSReferenceIdeal.Run
public import proofs.«01_k».proof.Proof.Gen.MixSReferenceIdeal.Read

/-! The decoding step's output projection: the reference as the same function of the arguments. -/

@[expose] public section

set_option maxRecDepth 16384

noncomputable section

namespace Cert.MixoS

open Idealize.ShloMosaic Idealize.ShloMosaic.TcCoe
open Cert.Ffwd (nrm)
open Cert.Prj (ix2_self)
open Cert.Mixo (nrh lo hi prm unp unp_prm sum_prm gg ww gg_lo gg_hi ww_lo ww_hi)
open Cert.MixSReferenceIdeal Cert.MixSReferenceIdeal.Gen Cert.MixSReferenceIdeal.Read

variable (on of : FVec Ideal S32x8x512 .f32) (x : FVec Ideal S32x8x1024 .f32) (g : FVec Ideal S1024 .f32) (w : FVec Ideal S1024x1024 .f32)
  (gp : FVec Ideal S1024 .f32)

theorem ref_on (b : Fin 32) (t : Fin 8) (k : Fin 512) : val_main_v2 (F := Ideal) on (ix3 b t k) = on (ix3 b t (unp k)) := by
  pointwise [val_main_v2, val_main_v1, val_main_v0]
  refine congrArg (fun q => on (ix3 b t q)) (Fin.ext ?_)
  show k.val / 64 % 4 * 128 + k.val / 256 * 64 + k.val % 64 = 128 * (k.val / 64 % 4) + 64 * (k.val / 256) + k.val % 64
  omega

theorem ref_yn (b : Fin 32) (t : Fin 8) (k : Fin 512) :
    val_main_v16 (F := Ideal) on g (ix3 b t k) = nrh (fun k => val_main_v2 (F := Ideal) on (ix3 b t k)) (fun k => g (ix1 (lo k))) k := by
  pointwise [val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  rfl

theorem ref_yf (b : Fin 32) (t : Fin 8) (k : Fin 512) : val_main_v30 (F := Ideal) of g (ix3 b t k) = yf of g b t k := by
  pointwise [val_main_v30, val_main_v29, val_main_v28, val_main_v27, val_main_v26, val_main_v25, val_main_v24, val_main_v23, val_main_v22, val_main_v21, val_main_v20, val_main_v19, val_main_v18, val_main_v17, val_main_cst_2, val_main_cst_3, val_main_cst_4]
  rfl

theorem ref_yp (b : Fin 32) (t : Fin 8) (l : Fin 512) : val_main_v16 (F := Ideal) on g (ix3 b t (prm l)) = yn on g b t l := by
  refine (ref_yn on g b t (prm l)).trans ?_
  have e (k : Fin 512) : val_main_v2 (F := Ideal) on (ix3 b t (prm k)) = on (ix3 b t k) := by rw [ref_on, unp_prm]
  have hs : (∑ k : Fin 512, (val_main_v2 (F := Ideal) on (ix3 b t k) * val_main_v2 (F := Ideal) on (ix3 b t k) : EReal))
      = ∑ k : Fin 512, (on (ix3 b t k) * on (ix3 b t k) : EReal) :=
    (sum_prm fun k => (val_main_v2 (F := Ideal) on (ix3 b t k) * val_main_v2 (F := Ideal) on (ix3 b t k) : EReal)).symm.trans
      (Finset.sum_congr rfl fun k _ => congrArg₂ (fun a b : EReal => a * b) (e k) (e k))
  unfold yn nrh
  exact congrArg₂ (fun a z => a * Ideal.rsqrt (Ideal.div z (Ideal.ofBits .f32 0x44000000#32) + Ideal.ofBits .f32 0x358637BD#32) * g (ix1 (lo (prm l)))) (e l) hs

theorem ref_prj (b : Fin 32) (t : Fin 8) (j : Fin 1024) : val_main_v32 (F := Ideal) on of g w (ix3 b t j) = prj on of g w b t j := by
  pointwise [val_main_v32, val_main_v31]
  unfold prj
  refine congrArg₂ (· + ·) ((sum_prm _).symm.trans ?_) ?_
  · exact Finset.sum_congr rfl fun l _ => congrArg (· * _) (ref_yp on g b t l)
  · exact Finset.sum_congr rfl fun l _ => congrArg (· * _) (ref_yf of g b t l)

theorem ref_out (s : Fin 256) (j : Fin 1024) : val_main_v47 (F := Ideal) on of x g w gp (ix2 s j) = mixRows on of x g w gp (ix2 s j) := by
  pointwise [val_main_v47, val_main_v46, val_main_v45, val_main_v44, val_main_v43, val_main_v42, val_main_v41, val_main_v40, val_main_v39, val_main_v38, val_main_v37, val_main_v36, val_main_v35, val_main_v34, val_main_v33, val_main_cst_5, val_main_cst_6, val_main_cst_7]
  simp only [ref_prj]
  rfl

end Cert.MixoS
-- ==== Proof.MixSValue.lean ====
module

public import proofs.«01_k».proof.Defs
public import proofs.«01_k».proof.Proof.MixSRef
public import Idealize.ShloMosaic.Lib.Claim
public import Idealize.ShloMosaic.Lib.Quiescent
public import Idealize.ShloMosaic.Adequacy
public import Idealize.ShloMosaic.Init

/-! The decoding step's output projection: kernel and reference leave equal results. -/

@[expose] public section

set_option maxRecDepth 16384

noncomputable section

namespace Cert.MixoS

open Idealize.ShloMosaic Idealize.SL.Sem

theorem mixSReferenceFrame : Cert.quiescent_MixSReferenceIdeal := fun m g _ =>
  (θ_run Cert.MixSReferenceIdeal.defs _ _).mono (fun r h => ⟨fun c => (h c).2, sem_eq_zero_of_no_sems (by decide) r.2⟩)
    (Cert.MixSReferenceIdeal.Value.run (F := Ideal) m g)

set_option maxHeartbeats 2000000 in
theorem mixSValue : Cert.algebraic_MixSIdeal_MixSReferenceIdeal := by
  pair_intro
  · run_from Cert.MixSIdeal.Value.run_blocks m g
  · run_from Cert.MixSReferenceIdeal.Value.run m' g'
    refine (Cert.MixSReferenceIdeal.Read.val_main_v47_eq m' c).trans ?_
    rw [(hagree c).1, (hagree c).2.1, (hagree c).2.2.1, (hagree c).2.2.2.1, (hagree c).2.2.2.2.1, (hagree c).2.2.2.2.2]
    refine Eq.trans ?_ (arr6 m c).symm
    funext y
    exact (congrArg _ (Cert.Prj.ix2_self y)).trans ((ref_out _ _ _ _ _ _ (y 0) (y 1)).trans (congrArg _ (Cert.Prj.ix2_self y).symm))

end Cert.MixoS
-- ==== Proof.FfnSCell.lean ====
module

public import proofs.«01_k».proof.Proof.FfnBlock
public import proofs.«01_k».proof.Proof.Gen.FfnS
public import proofs.«01_k».proof.Proof.Gen.FfnS.Frame
public import proofs.«01_k».proof.Proof.Gen.FfnSIdeal
public import proofs.«01_k».proof.Proof.Gen.FfnSIdeal.Frame

/-! The sample's feed-forward kernel: its stored terms, each read at one element. -/

@[expose] public section

set_option maxRecDepth 16384

noncomputable section

namespace Cert.FfwS

open Idealize.ShloMosaic Idealize.ShloMosaic.TcCoe
open Cert.Ffwd (nrm gelu act)
open Cert.FfnSIdeal Cert.FfnSIdeal.Gen

theorem pay6_at (g : Vec Ideal S1x1024 .f32) (x : Vec Ideal S256x1024 .f32) (s : Fin 256) (k : Fin 1024) :
    k0_pay6 g x (ix2 s k) = nrm (fun k => x (ix2 s k)) (fun k => g (ix2 0 k)) k := by
  pointwise [k0_pay6, k0_pay4]
  rfl

theorem pay8_at (s : Fin 256) (k : Fin 1024) : k0_pay8 (F := Ideal) k0_pay7 (ix2 s k) = 0 := by
  pointwise [k0_pay8, k0_pay7]

theorem pay3_at (x f : Vec Ideal S256x1024 .f32) (g : Vec Ideal S1x1024 .f32) (s : Fin 256) (k : Fin 1024) :
    k0_pay3 x f g (ix2 s k) = x (ix2 s k) + nrm (fun k => f (ix2 s k)) (fun k => g (ix2 0 k)) k := by
  pointwise [k0_pay3]
  rfl

theorem state_bit : ∀ r : Fin 264, IntOp.cmpi CmpIPredicate.sge (IntOp.andi (BitVec.ofNat 32 r.val) 7#32) 6#32 = if 6 ≤ r.val % 8 then 1#1 else 0#1 := by
  decide +kernel

theorem pay9_at (h : Vec Ideal S264x1024 .bf16) (w : Vec Ideal S1024x1408 .bf16) (st : Vec Ideal S264x1408 .f32) (r : Fin 264) (l : Fin 1408) :
    k0_pay9 h w st (ix2 r l) = if 6 ≤ r.val % 8 then st (ix2 r l) else ∑ k : Fin 1024, h (ix2 r k) * w (ix2 k l) := by
  pointwise [k0_pay9]
  have hr : IntOp.cmpi CmpIPredicate.sge (IntOp.andi (BitVec.ofNat 32 r.val) 7#32) 6#32 = if 6 ≤ r.val % 8 then 1#1 else 0#1 := state_bit r
  rw [hr]
  by_cases h1 : 6 ≤ r.val % 8 <;> simp [h1, Scalar.select]

theorem pay10_at (h : Vec Ideal S264x1024 .bf16) (w : Vec Ideal S1024x1408 .bf16) (st : Vec Ideal S264x1408 .f32) (s : Fin 256) (l : Fin 1408) :
    k0_pay10 h w st (ix2 s l) = k0_pay9 h w st (ix2 ⟨8 + s.val, by omega⟩ l) := by
  pointwise [k0_pay10]

theorem pay11_at (h : Vec Ideal S264x1024 .bf16) (w : Vec Ideal S1024x1408 .bf16) (st : Vec Ideal S264x1408 .f32) (cw : Vec Ideal S3x1408 .f32)
    (cb : Vec Ideal S1x1408 .f32) (s : Fin 256) (l : Fin 1408) :
    k0_pay11 h w st cw cb (ix2 s l)
      = cb (ix2 0 l) + cw (ix2 0 l) * k0_pay9 h w st (ix2 ⟨8 + s.val - 2, by omega⟩ l) + cw (ix2 1 l) * k0_pay9 h w st (ix2 ⟨8 + s.val - 1, by omega⟩ l)
        + cw (ix2 2 l) * k0_pay9 h w st (ix2 ⟨8 + s.val, by omega⟩ l) := by
  pointwise [k0_pay11, k0_pay10]
  refine congrArg₂ (· + ·) (congrArg₂ (· + ·) (congrArg (_ + cw (ix2 0 l) * ·) ?_) (congrArg (cw (ix2 1 l) * ·) ?_)) rfl
  · exact congrArg (fun r : Fin 264 => k0_pay9 h w st (ix2 r l)) (Fin.ext (show (8 + s.val + 264 - 2) % 264 = 8 + s.val - 2 by omega))
  · exact congrArg (fun r : Fin 264 => k0_pay9 h w st (ix2 r l)) (Fin.ext (show (8 + s.val + 264 - 1) % 264 = 8 + s.val - 1 by omega))

theorem pay1_at (v : FVec Ideal S256x1408 .f32) (h : Vec Ideal S256x1024 .bf16) (wb : Vec Ideal S1024x1408 .bf16) (acc : Vec Ideal S256x1024 .f32)
    (wo : Vec Ideal S1408x1024 .bf16) (s : Fin 256) (j : Fin 1024) :
    k0_pay1 v h wb acc wo (ix2 s j)
      = acc (ix2 s j) + ∑ x, gelu (v (ix2 s x)) * (∑ k : Fin 1024, h (ix2 s k) * wb (ix2 k x)) * wo (ix2 x j) := by
  pointwise [k0_pay1]
  rfl

theorem pay2_at (a : FVec Ideal S256x1408 .f32) (s : Fin 256) (l : Fin 1408) : k0_pay2 a (ix3 0 s l) = a (ix2 s l) := by
  pointwise [k0_pay2]

end Cert.FfwS
-- ==== Proof.FfnSBlock.lean ====
module

public import proofs.«01_k».proof.Proof.FfnSCell
public import Idealize.ShloMosaic.Lib.StableHlo.RunRead
public import Idealize.ShloMosaic.Lib.KernelVsHost
public import Idealize.ShloMosaic.Lib.Routing.OpsPair

/-! The sample's feed-forward layer over rows as the kernel lays them out, eight to a sequence, and the blocks a grid point reads. -/

@[expose] public section

set_option maxRecDepth 16384

noncomputable section

namespace Cert.FfwS

open Idealize.ShloMosaic Idealize.ShloMosaic.TcCoe
open Cert.Ffwd (nrm gelu act lo hi half sum_halves)

section
variable (X : Fin 256 → Fin 1024 → EReal) (St : Fin 264 → Fin 2816 → EReal) (g : (⟨1, ![1024]⟩ : Shape).Idx → EReal)
  (w : (⟨2, ![1024, 5632]⟩ : Shape).Idx → EReal) (cw : (⟨2, ![3, 2816]⟩ : Shape).Idx → EReal) (cb : (⟨1, ![2816]⟩ : Shape).Idx → EReal)
  (wo : (⟨2, ![2816, 1024]⟩ : Shape).Idx → EReal) (gp : (⟨1, ![1024]⟩ : Shape).Idx → EReal)

/-- Column `l` of row `s`'s up-projection. -/
def up (s : Fin 256) (l : Fin 5632) : EReal := ∑ k : Fin 1024, nrm (X s) (fun k => g (ix1 k)) k * w (ix2 k l)

/-- The convolution's input: the state in the last two rows of every eight, the up-projection eight rows back in the others. -/
def ext (r : Fin 264) (l : Fin 2816) : EReal :=
  if 6 ≤ r.val % 8 then St r l else if h : 8 ≤ r.val then up X g w ⟨r.val - 8, by omega⟩ (lo l) else 0

/-- Hidden unit `l` of row `s`. -/
def hid (s : Fin 256) (l : Fin 2816) : EReal :=
  act (cb (ix1 l)) (cw (ix2 0 l)) (cw (ix2 1 l)) (cw (ix2 2 l)) (ext X St g w ⟨8 + s.val - 2, by omega⟩ l) (ext X St g w ⟨8 + s.val - 1, by omega⟩ l)
    (ext X St g w ⟨8 + s.val, by omega⟩ l) (up X g w s (hi l))

/-- The down-projection of row `s`. -/
def down (s : Fin 256) (j : Fin 1024) : EReal := ∑ l : Fin 2816, hid X St g w cw cb s l * wo (ix2 l j)

/-- The layer's result at row `s`. -/
def out (s : Fin 256) (j : Fin 1024) : EReal := X s j + nrm (down X St g w cw cb wo s) (fun k => gp (ix1 k)) j

end

open Cert.FfnSIdeal Cert.FfnSIdeal.Gen

section
variable (t : Fin cfg0.N)
theorem tlt : t.val < 2 := t.isLt

/-- A grid point's half of the hidden units. -/
def hlf : Fin 2 := ⟨t.val % 2, by omega⟩
end

theorem idx0 : ∀ t : Fin cfg0.N, win0_0.index t = ![0, 0] := (by decide +kernel : ∀ t : Fin grid0.N, _)
theorem idx2 : ∀ t : Fin cfg0.N, win0_2.index t = ![0, t.val % 2] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, t.val % 2] := (by decide +kernel : ∀ t : Fin grid0.N, _)
theorem idx5 : ∀ t : Fin cfg0.N, win0_5.index t = ![0, t.val % 2] := (by decide +kernel : ∀ t : Fin grid0.N, _)
theorem idx6 : ∀ t : Fin cfg0.N, win0_6.index t = ![0, t.val % 2] := (by decide +kernel : ∀ t : Fin grid0.N, _)
theorem idx7 : ∀ t : Fin cfg0.N, win0_7.index t = ![0, t.val % 2] := (by decide +kernel : ∀ t : Fin grid0.N, _)
theorem idx8 : ∀ t : Fin cfg0.N, win0_8.index t = ![t.val % 2, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0, t.val % 2] := (by decide +kernel : ∀ t : Fin grid0.N, _)

variable (m : (ℓ : Loc nD τ sig) → Buf (Elt Ideal) ℓ) (c : Dev nD) (t : Fin cfg0.N)

/-- The arguments. -/
abbrev aX : FVec Ideal S32x8x1024 .f32 := m ((c : Thread nD τ).loc main_arg0)
abbrev aS : FVec Ideal S32x2x2816 .f32 := m ((c : Thread nD τ).loc main_arg1)
abbrev aG : FVec Ideal S1024 .f32 := m ((c : Thread nD τ).loc main_arg2)
abbrev aW : FVec Ideal S1024x5632 .f32 := m ((c : Thread nD τ).loc main_arg3)
abbrev aC : FVec Ideal S3x2816 .f32 := m ((c : Thread nD τ).loc main_arg4)
abbrev aB : FVec Ideal S2816 .f32 := m ((c : Thread nD τ).loc main_arg5)
abbrev aO : FVec Ideal S2816x1024 .f32 := m ((c : Thread nD τ).loc main_arg6)
abbrev aP : FVec Ideal S1024 .f32 := m ((c : Thread nD τ).loc main_arg7)

/-- The two start indices of the state's write: sequence 0, row 6. -/
def startAt : IVec S2 32 :=
  concatenate S2 0 [⟨S1, broadcastInDim S1 ![] bcast_S_S1 (constantI S_ 32 0#32)⟩, ⟨S1, broadcastInDim S1 ![] bcast_S_S1 (constantI S_ 32 6#32)⟩]
    concatenates_S1_S1_S2_d0

/-- Zeros with the state written into the last two rows of every eight. -/
def stateIn (st : FVec Ideal S32x2x2816 .f32) : FVec Ideal S33x8x2816 .f32 :=
  Host.scatter scatter_S33x8x2816_S2_S32x2x2816_012_n_01_0 (fun _ b => b)
    (broadcastInDim S33x8x2816 ![] bcast_S_S33x8x2816 (constant (F := Ideal) S_ .f32 0x00000000#32)) startAt st

set_option maxHeartbeats 4000000 in
theorem entry_x : V (F := Ideal) m c main_v13 = shapeCast _ (aX m c) shapeCasts_S32x8x1024_S256x1024 := by
  show StableHlo.after (List.flatten [hostOps0]) _ _ = _
  unfold hostOps0
  simp only [List.flatten_cons, List.flatten_nil, List.append_nil, List.cons_append, List.nil_append]
  after_reads_simp
  rfl

set_option maxHeartbeats 4000000 in
theorem entry_s : V (F := Ideal) m c main_v14 = shapeCast _ (stateIn (aS m c)) shapeCasts_S33x8x2816_S264x2816 := by
  show StableHlo.after (List.flatten [hostOps0]) _ _ = _
  unfold hostOps0
  simp only [List.flatten_cons, List.flatten_nil, List.append_nil, List.cons_append, List.nil_append]
  after_reads_simp
  rfl

set_option maxHeartbeats 4000000 in
theorem entry_g : V (F := Ideal) m c main_v5 = shapeCast _ (aG m c) shapeCasts_S1024_S1x1024 := by
  show StableHlo.after (List.flatten [hostOps0]) _ _ = _
  unfold hostOps0
  simp only [List.flatten_cons, List.flatten_nil, List.append_nil, List.cons_append, List.nil_append]
  after_reads_simp
  rfl

set_option maxHeartbeats 4000000 in
theorem entry_wa : V (F := Ideal) m c main_v1 = truncf .bf16 (extractStridedSlice S1024x2816 ![0, 0] (aW m c) slices_S1024x5632_S1024x2816_0_0) bitsLt_bf16_f32 := by
  show StableHlo.after (List.flatten [hostOps0]) _ _ = _
  unfold hostOps0
  simp only [List.flatten_cons, List.flatten_nil, List.append_nil, List.cons_append, List.nil_append]
  after_reads_simp

set_option maxHeartbeats 4000000 in
theorem entry_wb : V (F := Ideal) m c main_v3 = truncf .bf16 (extractStridedSlice S1024x2816 ![0, 2816] (aW m c) slices_S1024x5632_S1024x2816_0_2816) bitsLt_bf16_f32 := by
  show StableHlo.after (List.flatten [hostOps0]) _ _ = _
  unfold hostOps0
  simp only [List.flatten_cons, List.flatten_nil, List.append_nil, List.cons_append, List.nil_append]
  after_reads_simp

set_option maxHeartbeats 4000000 in
theorem entry_o : V (F := Ideal) m c main_v4 = truncf .bf16 (aO m c) bitsLt_bf16_f32 := by
  show StableHlo.after (List.flatten [hostOps0]) _ _ = _
  unfold hostOps0
  simp only [List.flatten_cons, List.flatten_nil, List.append_nil, List.cons_append, List.nil_append]
  after_reads_simp

set_option maxHeartbeats 4000000 in
theorem entry_b : V (F := Ideal) m c main_v6 = shapeCast _ (aB m c) shapeCasts_S2816_S1x2816 := by
  show StableHlo.after (List.flatten [hostOps0]) _ _ = _
  unfold hostOps0
  simp only [List.flatten_cons, List.flatten_nil, List.append_nil, List.cons_append, List.nil_append]
  after_reads_simp
  rfl

set_option maxHeartbeats 4000000 in
theorem entry_p : V (F := Ideal) m c main_v7 = shapeCast _ (aP m c) shapeCasts_S1024_S1x1024 := by
  show StableHlo.after (List.flatten [hostOps0]) _ _ = _
  unfold hostOps0
  simp only [List.flatten_cons, List.flatten_nil, List.append_nil, List.cons_append, List.nil_append]
  after_reads_simp
  rfl

/-- The input's rows, eight to a sequence. -/
def xrow (s : Fin 256) (k : Fin 1024) : EReal := aX m c (ix3 (⟨s.val / 8, by omega⟩ : Fin 32) (⟨s.val % 8, by omega⟩ : Fin 8) k)

/-- The rows the state is written into. -/
def srow (r : Fin 264) (l : Fin 2816) : EReal := stateIn (aS m c) (ix3 (⟨r.val / 8, by omega⟩ : Fin 33) (⟨r.val % 8, by omega⟩ : Fin 8) l)

theorem blk0 (s : Fin 256) (k : Fin 1024) : iblk (F := Ideal) m c 0 t (ix2 s k) = xrow m c s k := by
  refine Eq.trans ?_ ((congrFun (entry_x m c) (ix2 s k)).trans ?_)
  · refine congrArg (V (F := Ideal) m c main_v13) ?_
    funext a
    fin_cases a
    · exact Fin.ext (by blk_simp [idx0 t]; try first | rfl | exact congrArg (· + l.val) (Nat.mul_comm (t.val % 2) 1408))
    · exact Fin.ext (by blk_simp [idx0 t]; try first | rfl | exact congrArg (· + l.val) (Nat.mul_comm (t.val % 2) 1408))
  · pointwise
    rfl

theorem blk2 (r : Fin 264) (l : Fin 1408) : iblk (F := Ideal) m c 2 t (ix2 r l) = srow m c r (half (hlf t) l) := by
  unfold half hlf
  refine Eq.trans ?_ ((congrFun (entry_s m c) (ix2 r (⟨1408 * (t.val % 2) + l.val, by omega⟩ : Fin 2816))).trans ?_)
  · refine congrArg (V (F := Ideal) m c main_v14) ?_
    funext a
    fin_cases a
    · exact Fin.ext (by blk_simp [idx2 t]; try first | rfl | exact congrArg (· + l.val) (Nat.mul_comm (t.val % 2) 1408))
    · exact Fin.ext (by blk_simp [idx2 t]; try first | rfl | exact congrArg (· + l.val) (Nat.mul_comm (t.val % 2) 1408))
  · pointwise
    rfl

theorem blk3 (k : Fin 1024) : iblk (F := Ideal) m c 3 t (ix2 0 k) = aG m c (ix1 k) := by
  refine Eq.trans ?_ ((congrFun (entry_g m c) (ix2 0 k)).trans ?_)
  · refine congrArg (V (F := Ideal) m c main_v5) ?_
    funext a
    fin_cases a
    · exact Fin.ext (by blk_simp [idx3 t]; try first | rfl | exact congrArg (· + l.val) (Nat.mul_comm (t.val % 2) 1408))
    · exact Fin.ext (by blk_simp [idx3 t]; try first | rfl | exact congrArg (· + l.val) (Nat.mul_comm (t.val % 2) 1408))
  · pointwise

theorem blk4 (k : Fin 1024) (l : Fin 1408) : iblk (F := Ideal) m c 4 t (ix2 k l) = aW m c (ix2 k (lo (half (hlf t) l))) := by
  unfold lo half hlf
  refine Eq.trans ?_ ((congrFun (entry_wa m c) (ix2 k (⟨1408 * (t.val % 2) + l.val, by omega⟩ : Fin 2816))).trans ?_)
  · refine congrArg (V (F := Ideal) m c main_v1) ?_
    funext a
    fin_cases a
    · exact Fin.ext (by blk_simp [idx4 t]; try first | rfl | exact congrArg (· + l.val) (Nat.mul_comm (t.val % 2) 1408))
    · exact Fin.ext (by blk_simp [idx4 t]; try first | rfl | exact congrArg (· + l.val) (Nat.mul_comm (t.val % 2) 1408))
  · pointwise

theorem blk5 (k : Fin 1024) (l : Fin 1408) : iblk (F := Ideal) m c 5 t (ix2 k l) = aW m c (ix2 k (hi (half (hlf t) l))) := by
  unfold hi half hlf
  refine Eq.trans ?_ ((congrFun (entry_wb m c) (ix2 k (⟨1408 * (t.val % 2) + l.val, by omega⟩ : Fin 2816))).trans ?_)
  · refine congrArg (V (F := Ideal) m c main_v3) ?_
    funext a
    fin_cases a
    · exact Fin.ext (by blk_simp [idx5 t]; try first | rfl | exact congrArg (· + l.val) (Nat.mul_comm (t.val % 2) 1408))
    · exact Fin.ext (by blk_simp [idx5 t]; try first | rfl | exact congrArg (· + l.val) (Nat.mul_comm (t.val % 2) 1408))
  · pointwise

theorem blk6 (d : Fin 3) (l : Fin 1408) : iblk (F := Ideal) m c 6 t (ix2 d l) = aC m c (ix2 d (half (hlf t) l)) := by
  unfold half hlf
  blk_ext! [iblk, V, idx6 t]

theorem blk7 (l : Fin 1408) : iblk (F := Ideal) m c 7 t (ix2 0 l) = aB m c (ix1 (half (hlf t) l)) := by
  unfold half hlf
  refine Eq.trans ?_ ((congrFun (entry_b m c) (ix2 0 (⟨1408 * (t.val % 2) + l.val, by omega⟩ : Fin 2816))).trans ?_)
  · refine congrArg (V (F := Ideal) m c main_v6) ?_
    funext a
    fin_cases a
    · exact Fin.ext (by blk_simp [idx7 t]; try first | rfl | exact congrArg (· + l.val) (Nat.mul_comm (t.val % 2) 1408))
    · exact Fin.ext (by blk_simp [idx7 t]; try first | rfl | exact congrArg (· + l.val) (Nat.mul_comm (t.val % 2) 1408))
  · pointwise

theorem blk8 (l : Fin 1408) (j : Fin 1024) : iblk (F := Ideal) m c 8 t (ix2 l j) = aO m c (ix2 (half (hlf t) l) j) := by
  unfold half hlf
  refine Eq.trans ?_ ((congrFun (entry_o m c) (ix2 (⟨1408 * (t.val % 2) + l.val, by omega⟩ : Fin 2816) j)).trans ?_)
  · refine congrArg (V (F := Ideal) m c main_v4) ?_
    funext a
    fin_cases a
    · exact Fin.ext (by blk_simp [idx8 t]; try first | rfl | exact congrArg (· + l.val) (Nat.mul_comm (t.val % 2) 1408))
    · exact Fin.ext (by blk_simp [idx8 t]; try first | rfl | exact congrArg (· + l.val) (Nat.mul_comm (t.val % 2) 1408))
  · pointwise

theorem blk9 (k : Fin 1024) : iblk (F := Ideal) m c 9 t (ix2 0 k) = aP m c (ix1 k) := by
  refine Eq.trans ?_ ((congrFun (entry_p m c) (ix2 0 k)).trans ?_)
  · refine congrArg (V (F := Ideal) m c main_v7) ?_
    funext a
    fin_cases a
    · exact Fin.ext (by blk_simp [idx9 t]; try first | rfl | exact congrArg (· + l.val) (Nat.mul_comm (t.val % 2) 1408))
    · exact Fin.ext (by blk_simp [idx9 t]; try first | rfl | exact congrArg (· + l.val) (Nat.mul_comm (t.val % 2) 1408))
  · pointwise

end Cert.FfwS
-- ==== Proof.FfnSPoint.lean ====
module

public import proofs.«01_k».proof.Proof.FfnSBlock

/-! What each of the two grid points of the sample's feed-forward kernel leaves in its scratch and in its output blocks. -/

@[expose] public section

set_option maxRecDepth 16384

noncomputable section

namespace Cert.FfwS

open Idealize.ShloMosaic Idealize.ShloMosaic.TcCoe
open Cert.Ffwd (nrm gelu act lo hi half sum_halves)
open Cert.FfnSIdeal Cert.FfnSIdeal.Gen

variable (m : (ℓ : Loc nD τ sig) → Buf (Elt Ideal) ℓ) (c : Dev nD) (t : Fin cfg0.N)

/-- The normed input, the projections and the layer's result, of the kernel's arguments. -/
abbrev hAt (s : Fin 256) (k : Fin 1024) : EReal := nrm (xrow m c s) (fun k => aG m c (ix1 k)) k
abbrev upAt (s : Fin 256) (l : Fin 5632) : EReal := up (xrow m c) (aG m c) (aW m c) s l
abbrev extAt (r : Fin 264) (l : Fin 2816) : EReal := ext (xrow m c) (srow m c) (aG m c) (aW m c) r l
abbrev hidAt (s : Fin 256) (l : Fin 2816) : EReal := hid (xrow m c) (srow m c) (aG m c) (aW m c) (aC m c) (aB m c) s l
abbrev partAt (h : Fin 2) (s : Fin 256) (j : Fin 1024) : EReal := ∑ l : Fin 1408, hidAt m c s (half h l) * aO m c (ix2 (half h l) j)
abbrev outAt (s : Fin 256) (j : Fin 1024) : EReal :=
  out (xrow m c) (srow m c) (aG m c) (aW m c) (aC m c) (aB m c) (aO m c) (aP m c) s j

/-- The scratch holds the normed rows after its first eight. -/
def Rows (H : Vec Ideal S264x1024 .bf16) : Prop :=
  ∀ (s : Fin 256) (r : Fin 264) (k : Fin 1024), r.val = 8 + s.val → H (ix2 r k) = hAt m c s k

section
variable {H : Vec Ideal S264x1024 .bf16} (hH : Rows m c H)
include hH

theorem ext_at (r : Fin 264) (hr : 6 ≤ r.val) (l : Fin 1408) :
    k0_pay9 H (iblk m c 4 t) (iblk m c 2 t) (ix2 r l) = extAt m c r (half (hlf t) l) := by
  rw [pay9_at]
  unfold extAt ext
  by_cases h : 6 ≤ r.val % 8
  · rw [if_pos h, if_pos h]
    exact blk2 m c t r l
  · rw [if_neg h, if_neg h]
    refine Eq.trans ?_ (dif_pos (show 8 ≤ r.val by omega)).symm
    exact Finset.sum_congr rfl fun k _ => congrArg₂ (· * ·) (hH ⟨r.val - 8, by omega⟩ r k (show r.val = 8 + (r.val - 8) by omega)) (blk4 m c t k l)

theorem step_at (h : Vec Ideal S256x1024 .bf16) (hh : ∀ (s : Fin 256) (k : Fin 1024), h (ix2 s k) = hAt m c s k)
    (acc : Vec Ideal S256x1024 .f32) (s : Fin 256) (j : Fin 1024) :
    k0_pay1 (k0_pay11 H (iblk m c 4 t) (iblk m c 2 t) (iblk m c 6 t) (iblk m c 7 t)) h (iblk m c 5 t) acc (iblk m c 8 t) (ix2 s j)
      = acc (ix2 s j) + partAt m c (hlf t) s j := by
  rw [pay1_at]
  refine congrArg (acc (ix2 s j) + ·) (Finset.sum_congr rfl fun l _ => congrArg₂ (· * ·) ?_ (blk8 m c t l j))
  rw [pay11_at, ext_at m c t hH _ (show 6 ≤ 8 + s.val - 2 by omega), ext_at m c t hH _ (show 6 ≤ 8 + s.val - 1 by omega),
    ext_at m c t hH _ (show 6 ≤ 8 + s.val by omega), blk6, blk6, blk6, blk7]
  exact congrArg (gelu _ * ·) (Finset.sum_congr rfl fun k _ => congrArg₂ (· * ·) (hh s k) (blk5 m c t k l))

theorem rows_at (s : Fin 256) (l : Fin 1408) :
    k0_pay2 (k0_pay10 H (iblk m c 4 t) (iblk m c 2 t)) (ix3 0 s l) = extAt m c ⟨8 + s.val, by omega⟩ (half (hlf t) l) := by
  rw [pay2_at, pay10_at, ext_at m c t hH _ (show 6 ≤ 8 + s.val by omega)]

end

theorem down_at (s : Fin 256) (j : Fin 1024) :
    (0 + partAt m c 0 s j) + partAt m c 1 s j
      = down (xrow m c) (srow m c) (aG m c) (aW m c) (aC m c) (aB m c) (aO m c) s j :=
  (sum_halves fun l => hidAt m c s l * aO m c (ix2 l j)).symm

theorem normed_at (s : Fin 256) (k : Fin 1024) : k0_pay6 (iblk m c 3 t) (iblk m c 0 t) (ix2 s k) = hAt m c s k := by
  rw [pay6_at]
  exact congrArg₂ (fun a b => nrm a b k) (funext fun k => blk0 m c t s k) (funext fun k => blk3 m c t k)

/-- The scratch's two stores read back. -/
theorem stored_rows (P : Vec Ideal S8x1024 .bf16) : Rows m c (View.canon (Val := Elt Ideal) (s := S264x1024) (e := .bf16)
    [⟨Rect.unit ![8, 0] ![256, 1024] inb_S264x1024_S256x1024_8_0, k0_pay6 (iblk m c 3 t) (iblk m c 0 t)⟩,
      ⟨Rect.unit ![0, 0] ![8, 1024] inb_S264x1024_S8x1024_0_0, P⟩]) := by
  intro s r k h
  rw [← View.read_writes_junk_apply_eq_canon (View.whole cc0_scratch0)]
  refine (View.read_writes_cons_rows_of_mem (Val := Elt Ideal) (View.whole cc0_scratch0) _ inb_S264x1024_S256x1024_8_0 _ _ (ix2 r k)
    (ix2 s k) (o := 8) rfl h rfl).trans ?_
  exact normed_at m c t s k

theorem full_load (L : List (View.Piece (Elt Ideal) S264x1024 .bf16)) (hL : Rows m c (View.canon L)) :
    Rows m c (View.readCov (Val := Elt Ideal) (s := S264x1024) (e := .bf16) (View.whole cc0_scratch0) L
      (Rect.unit (s := S264x1024) ![0, 0] ![264, 1024] inb_S264x1024_S264x1024_0_0).toLoadRect) := by
  intro s r k h
  rw [View.readCov_eq_canon', ← hL s r k h]
  refine congrArg (View.canon L) (funext fun a => ?_)
  fin_cases a
  · exact Fin.ext (by show 0 + 1 * r.val = r.val; omega)
  · exact Fin.ext (by show 0 + 1 * k.val = k.val; omega)

section
variable (h0 : t.val % 2 = 0)
include h0

theorem even_scratch : Rows m c (outsAt0 (F := Ideal) m c t.val t.isLt).2.2.1 := by
  intro s r k h
  rw [outsAt0_A m c t h0 (by omega)]
  frame_out
  exact stored_rows m c t _ s r k h

theorem even_acc (s : Fin 256) (j : Fin 1024) :
    (outsAt0 (F := Ideal) m c t.val t.isLt).2.2.2 (ix2 s j) = 0 + partAt m c (hlf t) s j := by
  rw [outsAt0_A m c t h0 (by omega)]
  frame_out
  rw [step_at m c t (full_load m c _ (stored_rows m c t _)), pay8_at]
  intro s k
  rw [View.readCov_cons_toLoadRect]
  exact normed_at m c t s k

theorem even_rows (s : Fin 256) (l : Fin 1408) :
    (outsAt0 (F := Ideal) m c t.val t.isLt).2.1 (ix3 0 s l) = extAt m c ⟨8 + s.val, by omega⟩ (half (hlf t) l) := by
  rw [outsAt0_A m c t h0 (by omega)]
  frame_out
  exact rows_at m c t (full_load m c _ (stored_rows m c t _)) s l
end

section
variable (h1 : t.val % 2 = 1)
include h1

theorem before_lt : t.val - 1 < cfg0.N := by have := t.isLt; omega

theorem odd_scratch : Rows m c (outsAt0 (F := Ideal) m c (t.val - 1) (before_lt t h1)).2.2.1 :=
  even_scratch m c ⟨t.val - 1, before_lt t h1⟩ (show (t.val - 1) % 2 = 0 by omega)

theorem odd_acc (s : Fin 256) (j : Fin 1024) :
    (outsAt0 (F := Ideal) m c (t.val - 1) (before_lt t h1)).2.2.2 (ix2 s j) = 0 + partAt m c 0 s j := by
  have h := even_acc m c ⟨t.val - 1, before_lt t h1⟩ (show (t.val - 1) % 2 = 0 by omega) s j
  have e3 : hlf ⟨t.val - 1, before_lt t h1⟩ = 0 := Fin.ext (show (t.val - 1) % 2 = 0 by omega)
  rw [e3] at h
  exact h

theorem odd_out (s : Fin 256) (j : Fin 1024) :
    (outsAt0 (F := Ideal) m c t.val t.isLt).1 (ix2 s j) = outAt m c s j := by
  rw [outsAt0_B m c t (by omega) h1]
  frame_out
  simp only [read_unread_whole]
  rw [pay3_at, blk0]
  refine congrArg (_ + ·) (congrArg₂ (fun a b => nrm a b j) (funext fun k => ?_) (funext fun k => blk9 m c t k))
  rw [step_at m c t (odd_scratch m c t h1), odd_acc m c t h1]
  · rw [show hlf t = 1 from Fin.ext h1]
    exact down_at m c s k
  · intro s k
    refine (View.ld_unit_apply_of _ _ _ _ (ix2 s k) (ix2 (⟨8 + s.val, by omega⟩ : Fin 264) k) fun a => ?_).trans
      (odd_scratch m c t h1 s _ k rfl)
    fin_cases a
    · rfl
    · exact (Nat.zero_add _).symm

theorem odd_rows (s : Fin 256) (l : Fin 1408) :
    (outsAt0 (F := Ideal) m c t.val t.isLt).2.1 (ix3 0 s l) = extAt m c ⟨8 + s.val, by omega⟩ (half (hlf t) l) := by
  rw [outsAt0_B m c t (by omega) h1]
  frame_out
  simp only [read_unread_whole]
  exact rows_at m c t (odd_scratch m c t h1) s l
end

end Cert.FfwS
-- ==== Proof.FfnSArray.lean ====
module

public import proofs.«01_k».proof.Proof.FfnSPoint
public import Idealize.ShloMosaic.Lib.Routing.OpsSet

/-! The two arrays the sample's feed-forward kernel leaves, and the sample's own rows of them. -/

@[expose] public section

set_option maxRecDepth 16384

noncomputable section

namespace Cert.FfwS

open Idealize.ShloMosaic Idealize.ShloMosaic.TcCoe
open Cert.Ffwd (nrm gelu act lo hi half sum_halves)
open Cert.FfnSIdeal Cert.FfnSIdeal.Gen

variable (m : (ℓ : Loc nD τ sig) → Buf (Elt Ideal) ℓ) (c : Dev nD)

/-- The layer's result, and the convolution's input after its first eight rows, as arrays. -/
def outRow (y : (⟨2, ![256, 1024]⟩ : Shape).Idx) : EReal := outAt m c (y 0) (y 1)
def extRow (y : (⟨3, ![1, 256, 2816]⟩ : Shape).Idx) : EReal :=
  extAt m c ⟨8 + (y 1).val, by have : (y 1).val < 256 := (y 1).isLt; omega⟩ (y 2)

theorem arr10 : (dats (F := Ideal) m 0 c).arrAt 10 cfg0.N = outRow m c := by
  refine (dats (F := Ideal) m 0 c).arrAt_eq_of_covers 10 _ (by decide +kernel) fun t hf y => ?_
  rw [after0_10]
  have h1 : t.val % 2 = 1 := (flush0_10 t).mp hf
  have hy : y = ix2 (y 0 : Fin 256) (y 1 : Fin 1024) := by funext a; fin_cases a <;> rfl
  refine (congrArg (outsAt0 (F := Ideal) m c t.val t.isLt).1 hy).trans ((odd_out m c t h1 (y 0) (y 1)).trans ?_)
  have e0 : (win0_10.blk t).view.emb y 0 = y 0 := Fin.ext (by blk_simp [idx10 t])
  have e1 : (win0_10.blk t).view.emb y 1 = y 1 := Fin.ext (by blk_simp [idx10 t])
  exact (congrArg₂ (outAt m c) e0 e1).symm

theorem arr11 : (dats (F := Ideal) m 0 c).arrAt 11 cfg0.N = extRow m c := by
  refine (dats (F := Ideal) m 0 c).arrAt_eq_of_covers 11 _ (by decide +kernel) fun t hf y => ?_
  rw [after0_11]
  have hy : y = ix3 (0 : Fin 1) (y 1 : Fin 256) (y 2 : Fin 1408) := by
    funext a
    fin_cases a
    · exact Fin.ext (by have h0 : (y 0).val < 1 := (y 0).isLt; show (y 0).val = 0; omega)
    · rfl
    · rfl
  have hv : (outsAt0 (F := Ideal) m c t.val t.isLt).2.1 (ix3 0 (y 1 : Fin 256) (y 2 : Fin 1408))
      = extAt m c ⟨8 + (y 1).val, by have : (y 1).val < 256 := (y 1).isLt; omega⟩ (half (hlf t) (y 2)) := by
    rcases Nat.mod_two_eq_zero_or_one t.val with h | h
    · exact even_rows m c t h (y 1) (y 2)
    · exact odd_rows m c t h (y 1) (y 2)
  refine (congrArg (outsAt0 (F := Ideal) m c t.val t.isLt).2.1 hy).trans (hv.trans ?_)
  have e1 : ((win0_11.blk t).view.emb y 1).val = (y 1).val := by blk_simp [idx11 t]
  have e2 : ((win0_11.blk t).view.emb y 2).val = 1408 * (t.val % 2) + (y 2).val := by blk_simp [idx11 t]; try omega
  exact congrArg₂ (extAt m c) (Fin.ext (congrArg (8 + ·) e1.symm)) (Fin.ext (show 1408 * (t.val % 2) + (y 2).val = _ from e2.symm))

theorem start_at (d : ScatterDims (⟨3, ![33, 8, 2816]⟩ : Shape) S2 S32x2x2816) (hsd : d.scatterDimsToOperandDims = [0, 1]) (hivd : d.indexVectorDim = 0)
    (idx : IVec S2 32) (j : S32x2x2816.Idx) (q : Fin 3) (p : Fin 2) (hq : q = 0 ∧ p = 0 ∨ q = 1 ∧ p = 1) : d.start j idx q = (idx (ix1 p)).toInt := by
  have hm : q ∈ d.scatterDimsToOperandDims := by rw [hsd]; rcases hq with ⟨rfl, rfl⟩ | ⟨rfl, rfl⟩ <;> simp
  have hsi : d.siIdx j ⟨d.scatterDimsToOperandDims.idxOf q, List.idxOf_lt_length_iff.2 hm⟩ = ix1 p := by
    funext b'
    apply Fin.ext
    match b' with
    | ⟨0, _⟩ =>
      unfold ScatterDims.siIdx
      rw [dif_pos (by rw [hivd])]
      show List.idxOf q d.scatterDimsToOperandDims = p.val
      rw [hsd]
      rcases hq with ⟨rfl, rfl⟩ | ⟨rfl, rfl⟩ <;> rfl
  unfold ScatterDims.start
  rw [dif_pos hm, hsi]

theorem startAt_zero : (startAt (ix1 0)).toInt = 0 := by
  decide +kernel
theorem startAt_one : (startAt (ix1 1)).toInt = 6 := by
  decide +kernel

theorem lands (b : Fin 32) (j : Fin 2) (l : Fin 2816) (k : S32x2x2816.Idx) :
    scatter_S33x8x2816_S2_S32x2x2816_012_n_01_0.resultIdx? k startAt = some (ix3 (⟨b.val, by omega⟩ : Fin 33) (⟨6 + j.val, by omega⟩ : Fin 8) l) ↔ k = ix3 b j l := by
  have s0 : scatter_S33x8x2816_S2_S32x2x2816_012_n_01_0.start k startAt 0 = 0 := (start_at _ rfl rfl startAt k 0 0 (Or.inl ⟨rfl, rfl⟩)).trans startAt_zero
  have s1 : scatter_S33x8x2816_S2_S32x2x2816_012_n_01_0.start k startAt 1 = 6 := (start_at _ rfl rfl startAt k 1 1 (Or.inr ⟨rfl, rfl⟩)).trans startAt_one
  have s2 : scatter_S33x8x2816_S2_S32x2x2816_012_n_01_0.start k startAt 2 = 0 := dif_neg (by decide)
  have w0 : scatter_S33x8x2816_S2_S32x2x2816_012_n_01_0.window k 0 = (k 0).val := rfl
  have w1 : scatter_S33x8x2816_S2_S32x2x2816_012_n_01_0.window k 1 = (k 1).val := rfl
  have w2 : scatter_S33x8x2816_S2_S32x2x2816_012_n_01_0.window k 2 = (k 2).val := rfl
  rw [Routing.resultIdx?_eq_some]
  constructor
  · intro h
    have h0 := h 0
    have h1 := h 1
    have h2 := h 2
    rw [s0, w0] at h0
    rw [s1, w1] at h1
    rw [s2, w2] at h2
    funext a
    fin_cases a
    · exact Fin.ext (by have : (0 : ℤ) + ((k 0).val : ℤ) = (b.val : ℤ) := h0; show (k 0).val = b.val; omega)
    · exact Fin.ext (by have : (6 : ℤ) + ((k 1).val : ℤ) = ((6 + j.val : ℕ) : ℤ) := h1; show (k 1).val = j.val; omega)
    · exact Fin.ext (by have : (0 : ℤ) + ((k 2).val : ℤ) = (l.val : ℤ) := h2; show (k 2).val = l.val; omega)
  · rintro rfl a
    fin_cases a
    · show scatter_S33x8x2816_S2_S32x2x2816_012_n_01_0.start _ startAt 0 + ((scatter_S33x8x2816_S2_S32x2x2816_012_n_01_0.window _ 0 : ℕ) : ℤ) = (b.val : ℤ)
      rw [s0, w0]; exact zero_add _
    · show scatter_S33x8x2816_S2_S32x2x2816_012_n_01_0.start _ startAt 1 + ((scatter_S33x8x2816_S2_S32x2x2816_012_n_01_0.window _ 1 : ℕ) : ℤ) = ((6 + j.val : ℕ) : ℤ)
      rw [s1, w1]; show (6 : ℤ) + (j.val : ℤ) = ((6 + j.val : ℕ) : ℤ); omega
    · show scatter_S33x8x2816_S2_S32x2x2816_012_n_01_0.start _ startAt 2 + ((scatter_S33x8x2816_S2_S32x2x2816_012_n_01_0.window _ 2 : ℕ) : ℤ) = (l.val : ℤ)
      rw [s2, w2]; exact zero_add _

/-- The two rows before a sequence's first hold its state. -/
theorem stateIn_at (st : FVec Ideal S32x2x2816 .f32) (b : Fin 32) (j : Fin 2) (l : Fin 2816) :
    stateIn st (ix3 (⟨b.val, by omega⟩ : Fin 33) (⟨6 + j.val, by omega⟩ : Fin 8) l) = st (ix3 b j l) :=
  Routing.scatter_set_hit scatter_S33x8x2816_S2_S32x2x2816_012_n_01_0 _ startAt st _ _ (fun k hk => congrArg st ((lands b j l k).1 hk)) (ix3 b j l) ((lands b j l _).2 rfl)

end Cert.FfwS
-- ==== Proof.FfnSRef.lean ====
module

public import proofs.«01_k».proof.Proof.FfnSArray
public import proofs.«01_k».proof.Proof.Gen.FfnSReferenceIdeal
public import proofs.«01_k».proof.Proof.Gen.FfnSReferenceIdeal.Run
public import proofs.«01_k».proof.Proof.Gen.FfnSReferenceIdeal.Read

/-! The sample's feed-forward reference read at one element, and the kernel's rows as the same terms. -/

@[expose] public section

set_option maxRecDepth 16384

noncomputable section

namespace Cert.FfwS

open Idealize.ShloMosaic Idealize.ShloMosaic.TcCoe
open Cert.Ffwd (nrm gelu act lo hi half sum_halves)

section
open Cert.FfnSReferenceIdeal Cert.FfnSReferenceIdeal.Gen Cert.FfnSReferenceIdeal.Read

variable (x : FVec Ideal S32x8x1024 .f32) (st : FVec Ideal S32x2x2816 .f32) (g : FVec Ideal S1024 .f32) (w : FVec Ideal S1024x5632 .f32) (cw : FVec Ideal S3x2816 .f32)
  (cb : FVec Ideal S2816 .f32) (wo : FVec Ideal S2816x1024 .f32) (gp : FVec Ideal S1024 .f32)

/-- A sequence's row `i` of the input, of its first four. -/
def own (b : Fin 32) (i : Fin 4) (k : Fin 1024) : EReal := x (ix3 b (⟨i.val, by omega⟩ : Fin 8) k)

/-- Column `l` of that row's up-projection. -/
def rup (b : Fin 32) (i : Fin 4) (l : Fin 5632) : EReal := ∑ k : Fin 1024, nrm (own x b i) (fun k => g (ix1 k)) k * w (ix2 k l)

/-- The state's two rows, then the four rows' up-projections. -/
def rext (b : Fin 32) (r : Fin 6) (l : Fin 2816) : EReal :=
  if h : r.val < 2 then st (ix3 b (⟨r.val, h⟩ : Fin 2) l) else rup x g w b ⟨r.val - 2, by omega⟩ (lo l)

def rhid (b : Fin 32) (i : Fin 4) (l : Fin 2816) : EReal :=
  act (cb (ix1 l)) (cw (ix2 0 l)) (cw (ix2 1 l)) (cw (ix2 2 l)) (rext x st g w b ⟨i.val, by omega⟩ l) (rext x st g w b ⟨1 + i.val, by omega⟩ l)
    (rext x st g w b ⟨2 + i.val, by omega⟩ l) (rup x g w b i (hi l))

def rdown (b : Fin 32) (i : Fin 4) (j : Fin 1024) : EReal := ∑ l : Fin 2816, rhid x st g w cw cb b i l * wo (ix2 l j)

def rout (b : Fin 32) (i : Fin 4) (j : Fin 1024) : EReal := own x b i j + nrm (rdown x st g w cw cb wo b i) (fun k => gp (ix1 k)) j

theorem ref_h (b : Fin 32) (i : Fin 4) (k : Fin 1024) :
    val_main_v13 (F := Ideal) x g (ix3 b i k) = nrm (own x b i) (fun k => g (ix1 k)) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_up (b : Fin 32) (i : Fin 4) (l : Fin 5632) : val_main_v14 (F := Ideal) x g w (ix3 b i l) = rup x g w b i l := by
  pointwise [val_main_v14]
  exact Finset.sum_congr rfl fun k _ => congrArg (· * _) (ref_h x g b i k)

theorem ref_new (b : Fin 32) (i : Fin 4) (l : Fin 2816) : val_main_v15 (F := Ideal) x g w (ix3 b i l) = rup x g w b i (lo l) := by
  pointwise [val_main_v15]
  exact ref_up x g w b i (lo l)

theorem ref_ext (b : Fin 32) (r : Fin 6) (l : Fin 2816) : val_main_v17 (F := Ideal) x st g w (ix3 b r l) = rext x st g w b r l := by
  pointwise [val_main_v17, val_main_v15]
  by_cases h : r.val < 2
  · have e : rext x st g w b r l = st (ix3 b (⟨r.val, h⟩ : Fin 2) l) := dif_pos h
    rw [e]
    exact dif_pos h
  · have e : rext x st g w b r l = rup x g w b ⟨r.val - 2, by omega⟩ (lo l) := dif_neg h
    rw [e]
    exact (dif_neg h).trans (ref_up x g w b ⟨r.val - 2, by omega⟩ (lo l))

theorem ref_hid (b : Fin 32) (i : Fin 4) (l : Fin 2816) :
    val_main_v54 (F := Ideal) x st g w cw cb (ix3 b i l) = rhid x st g w cw cb b i l := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v16, val_main_cst_2, val_main_cst_3, val_main_cst_4, val_main_cst_5]
  rw [ref_ext x st g w b ⟨i.val, by omega⟩ l, ref_ext x st g w b ⟨1 + i.val, by omega⟩ l, ref_ext x st g w b ⟨2 + i.val, by omega⟩ l]
  exact congrArg₂ (· * ·) ((mul_left_comm _ _ _).trans (mul_assoc _ _ _).symm) (ref_up x g w b i (hi l))

theorem ref_down (b : Fin 32) (i : Fin 4) (j : Fin 1024) :
    val_main_v55 (F := Ideal) x st g w cw cb wo (ix3 b i j) = rdown x st g w cw cb wo b i j := by
  pointwise [val_main_v55]
  exact Finset.sum_congr rfl fun l _ => congrArg (· * _) (ref_hid x st g w cw cb b i l)

theorem ref_out (b : Fin 32) (i : Fin 4) (j : Fin 1024) :
    val_main_v69 (F := Ideal) x st g w cw cb wo gp (ix3 b i j) = rout x st g w cw cb wo gp b i j := by
  pointwise [val_main_v69, val_main_v68, val_main_v67, val_main_v66, val_main_v65, val_main_v64, val_main_v63, val_main_v62, val_main_v61, val_main_v60, val_main_v59, val_main_v58, val_main_v57, val_main_v56, val_main_v0, val_main_cst_6, val_main_cst_7, val_main_cst_8]
  simp only [ref_down]
  rfl

end

open Cert.FfnSIdeal Cert.FfnSIdeal.Gen

variable (m : (ℓ : Loc nD τ sig) → Buf (Elt Ideal) ℓ) (c : Dev nD)

theorem xrow_own (b : Fin 32) (i : Fin 4) (s : Fin 256) (hs : s.val = 8 * b.val + i.val) : xrow m c s = own (aX m c) b i := by
  funext k
  unfold xrow own
  exact congrArg₂ (fun (p : Fin 32) (q : Fin 8) => aX m c (ix3 p q k)) (Fin.ext (show s.val / 8 = b.val by omega)) (Fin.ext (show s.val % 8 = i.val by omega))

theorem up_own (b : Fin 32) (i : Fin 4) (s : Fin 256) (hs : s.val = 8 * b.val + i.val) (l : Fin 5632) :
    upAt m c s l = rup (aX m c) (aG m c) (aW m c) b i l := by
  unfold upAt up rup
  rw [xrow_own m c b i s hs]

theorem ext_own (b : Fin 32) (q : Fin 6) (r : Fin 264) (hr : r.val = 8 * b.val + 6 + q.val) (l : Fin 2816) :
    extAt m c r l = rext (aX m c) (aS m c) (aG m c) (aW m c) b q l := by
  unfold extAt ext rext
  by_cases h : q.val < 2
  · refine (if_pos (show 6 ≤ r.val % 8 by omega)).trans (Eq.trans ?_ (dif_pos h).symm)
    refine Eq.trans ?_ (stateIn_at (aS m c) b ⟨q.val, h⟩ l)
    exact congrArg₂ (fun (p : Fin 33) (q : Fin 8) => stateIn (aS m c) (ix3 p q l)) (Fin.ext (show r.val / 8 = b.val by omega))
      (Fin.ext (show r.val % 8 = 6 + q.val by omega))
  · refine (if_neg (show ¬6 ≤ r.val % 8 by omega)).trans ((dif_pos (show 8 ≤ r.val by omega)).trans (Eq.trans ?_ (dif_neg h).symm))
    exact up_own m c b ⟨q.val - 2, by omega⟩ _ (show r.val - 8 = 8 * b.val + (q.val - 2) by omega) (lo l)

theorem hid_own (b : Fin 32) (i : Fin 4) (s : Fin 256) (hs : s.val = 8 * b.val + i.val) (l : Fin 2816) :
    hidAt m c s l = rhid (aX m c) (aS m c) (aG m c) (aW m c) (aC m c) (aB m c) b i l := by
  have e2 := ext_own m c b ⟨i.val, by omega⟩ ⟨8 + s.val - 2, by omega⟩ (show 8 + s.val - 2 = 8 * b.val + 6 + i.val by omega) l
  have e1 := ext_own m c b ⟨1 + i.val, by omega⟩ ⟨8 + s.val - 1, by omega⟩ (show 8 + s.val - 1 = 8 * b.val + 6 + (1 + i.val) by omega) l
  have e0 := ext_own m c b ⟨2 + i.val, by omega⟩ ⟨8 + s.val, by omega⟩ (show 8 + s.val = 8 * b.val + 6 + (2 + i.val) by omega) l
  have eu := up_own m c b i s hs (hi l)
  unfold extAt at e2 e1 e0
  unfold upAt at eu
  unfold hidAt hid rhid
  rw [e2, e1, e0, eu]

theorem out_own (b : Fin 32) (i : Fin 4) (s : Fin 256) (hs : s.val = 8 * b.val + i.val) (j : Fin 1024) :
    outAt m c s j = rout (aX m c) (aS m c) (aG m c) (aW m c) (aC m c) (aB m c) (aO m c) (aP m c) b i j := by
  unfold outAt out rout
  rw [xrow_own m c b i s hs]
  refine congrArg (_ + ·) (congrArg (fun f => nrm f _ j) (funext fun j => ?_))
  unfold down rdown
  exact Finset.sum_congr rfl fun l _ => congrArg (· * _) (hid_own m c b i s hs l)

end Cert.FfwS
-- ==== Proof.FfnSTail.lean ====
module

public import proofs.«01_k».proof.Proof.FfnSRef

/-! The sample's feed-forward part: what the slices after the call hold. -/

@[expose] public section

set_option maxRecDepth 16384

noncomputable section

namespace Cert.FfwS

open Idealize.ShloMosaic Idealize.ShloMosaic.TcCoe
open Cert.Ffwd (nrm gelu act lo hi half sum_halves)
open Cert.FfnSIdeal Cert.FfnSIdeal.Gen

variable (m : (ℓ : Loc nD τ sig) → Buf (Elt Ideal) ℓ) (c : Dev nD)

/-- A buffer after the operations that follow the call. -/
abbrev tl (b : Ref sig .tc) := Pipeline.afterTail₀ cfgs (dats (F := Ideal) m) 0 (V0 m) [hostOps1] c b

/-- The buffers as the call leaves them. -/
def left : Valuation τ sig (Elt Ideal) := Pipeline.withArrays (cfgs 0).spec c (V0 (F := Ideal) m c) fun w => (dats m 0 c).arrAt w (cfgs 0).N

theorem tl_eq (b : Ref sig .tc) : tl m c b = StableHlo.after hostOps1 (left m c) (Proc.devRef .tc b) := rfl

theorem left_arg1 : left m c (Proc.devRef .tc main_arg1) = aS m c :=
  (Pipeline.withArrays_of_ne (cfgs 0).spec c _ _ main_arg1 (by exact (by decide : ∀ w, Pipeline.arrRef spec0 w ≠ main_arg1))).trans (V_main_arg1 m c)

theorem left10 : left m c (Proc.devRef .tc main_v15_0) = (dats m 0 c).arrAt 10 cfg0.N :=
  Pipeline.Dat.withArrays_arrAt (dats m 0 c) sharedIn0 (V0 m c) (A_eq m c) 10

theorem left11 : left m c (Proc.devRef .tc main_v15_1) = (dats m 0 c).arrAt 11 cfg0.N :=
  Pipeline.Dat.withArrays_arrAt (dats m 0 c) sharedIn0 (V0 m c) (A_eq m c) 11

theorem after20 (W : Valuation τ sig (Elt Ideal)) : StableHlo.after hostOps1 W (Proc.devRef .tc main_v20)
    = extractStridedSlice S32x4x1024 ![0, 0, 0] (shapeCast S32x8x1024 (W (Proc.devRef .tc main_v15_0)) shapeCasts_S256x1024_S32x8x1024) slices_S32x8x1024_S32x4x1024_0_0_0 := by
  unfold hostOps1
  after_reads_simp
  rfl

theorem tl20 : tl m c main_v20
    = extractStridedSlice S32x4x1024 ![0, 0, 0] (shapeCast S32x8x1024 (outRow m c) shapeCasts_S256x1024_S32x8x1024) slices_S32x8x1024_S32x4x1024_0_0_0 := by
  rw [tl_eq, after20, left10, arr10]

theorem tl20_at (b : Fin 32) (i : Fin 4) (j : Fin 1024) : tl m c main_v20 (ix3 b i j)
    = rout (aX m c) (aS m c) (aG m c) (aW m c) (aC m c) (aB m c) (aO m c) (aP m c) b i j := by
  refine (congrFun (tl20 m c) (ix3 b i j)).trans ?_
  pointwise
  exact out_own m c b i _ (by show b.val * 8 + i.val = 8 * b.val + i.val; omega) j

/-- The four new rows of the convolution's input, as the call leaves them. -/
def newRows : FVec Ideal S32x4x2816 .f32 :=
  extractStridedSlice S32x4x2816 ![0, 0, 0] (shapeCast S32x8x2816 (extRow m c) shapeCasts_S1x256x2816_S32x8x2816) slices_S32x8x2816_S32x4x2816_0_0_0

theorem newRows_at (b : Fin 32) (i : Fin 4) (l : Fin 2816) : newRows m c (ix3 b i l) = rup (aX m c) (aG m c) (aW m c) b i (lo l) := by
  pointwise [newRows]
  refine (ext_own m c b ⟨2 + i.val, by omega⟩ _ (by show 8 + (b.val * 8 + i.val) = 8 * b.val + 6 + (2 + i.val); omega) l).trans ?_
  exact dif_neg (by show ¬2 + i.val < 2; omega) |>.trans (congrArg (fun q => rup (aX m c) (aG m c) (aW m c) b q (lo l)) (Fin.ext (show 2 + i.val - 2 = i.val by omega)))

theorem after21 (W : Valuation τ sig (Elt Ideal)) : StableHlo.after hostOps1 W (Proc.devRef .tc main_v21)
    = extractStridedSlice S32x2x2816 ![0, 4, 0]
      (concatenate S32x6x2816 1 [⟨S32x2x2816, W (Proc.devRef .tc main_arg1)⟩,
        ⟨S32x4x2816, extractStridedSlice S32x4x2816 ![0, 0, 0] (shapeCast S32x8x2816 (W (Proc.devRef .tc main_v15_1)) shapeCasts_S1x256x2816_S32x8x2816)
          slices_S32x8x2816_S32x4x2816_0_0_0⟩] concatenates_S32x2x2816_S32x4x2816_S32x6x2816_d1)
      slices_S32x6x2816_S32x2x2816_0_4_0 := by
  unfold hostOps1
  after_reads_simp
  rfl

theorem tl21 : tl m c main_v21 = extractStridedSlice S32x2x2816 ![0, 4, 0]
      (concatenate S32x6x2816 1 [⟨S32x2x2816, aS m c⟩, ⟨S32x4x2816, newRows m c⟩] concatenates_S32x2x2816_S32x4x2816_S32x6x2816_d1)
      slices_S32x6x2816_S32x2x2816_0_4_0 := by
  rw [tl_eq, after21, left_arg1, left11, arr11]
  rfl

end Cert.FfwS
-- ==== Proof.FfnSValue.lean ====
module

public import proofs.«01_k».proof.Defs
public import proofs.«01_k».proof.Proof.FfnSTail
public import proofs.«01_k».proof.Proof.FfnRef
public import proofs.«01_k».proof.Proof.Pre
public import Idealize.ShloMosaic.Lib.Claim
public import Idealize.ShloMosaic.Lib.Quiescent
public import Idealize.ShloMosaic.Adequacy
public import Idealize.ShloMosaic.Init

/-! The sample's feed-forward part: kernel and reference leave equal results. -/

@[expose] public section

set_option maxRecDepth 16384

noncomputable section

namespace Cert.FfwS

open Idealize.ShloMosaic Idealize.ShloMosaic.TcCoe Idealize.SL.Sem

theorem ffnSReferenceFrame : Cert.quiescent_FfnSReferenceIdeal := fun m g _ =>
  (θ_run Cert.FfnSReferenceIdeal.defs _ _).mono (fun r h => ⟨fun c => (h c).2.2, sem_eq_zero_of_no_sems (by decide) r.2⟩)
    (Cert.FfnSReferenceIdeal.Value.run (F := Ideal) m g)

set_option maxHeartbeats 4000000 in
theorem ffnSValue : Cert.algebraic_FfnSIdeal_FfnSReferenceIdeal := by
  pair_intro
  · run_from Cert.FfnSIdeal.Gen.run_main m g
    · exact Cert.FfnSIdeal.Gen.W_main_arg0 m _ c
    · exact Cert.FfnSIdeal.Gen.W_main_arg1 m _ c
    · exact Cert.FfnSIdeal.Gen.W_main_arg2 m _ c
    · exact Cert.FfnSIdeal.Gen.W_main_arg3 m _ c
    · exact Cert.FfnSIdeal.Gen.W_main_arg5 m _ c
    · exact Cert.FfnSIdeal.Gen.W_main_arg6 m _ c
    · exact Cert.FfnSIdeal.Gen.W_main_arg7 m _ c
  · run_from Cert.FfnSReferenceIdeal.Value.run m' g'
    · refine (Cert.FfnSReferenceIdeal.Read.val_main_v69_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      funext y
      refine (congrArg _ (Cert.Fox.ix3_self y)).trans ((ref_out _ _ _ _ _ _ _ _ (y 0) (y 1) (y 2)).trans ?_)
      exact (tl20_at m c (y 0) (y 1) (y 2)).symm.trans (congrArg (tl m c Cert.FfnSIdeal.main_v20) (Cert.Fox.ix3_self y).symm)
    · refine Eq.trans ?_ (tl21 m c).symm
      refine congrArg (fun a => extractStridedSlice Cert.FfnSIdeal.S32x2x2816 ![0, 4, 0]
        (concatenate Cert.FfnSIdeal.S32x6x2816 1 [⟨Cert.FfnSIdeal.S32x2x2816, aS m c⟩, ⟨Cert.FfnSIdeal.S32x4x2816, a⟩]
          Cert.FfnSIdeal.Gen.concatenates_S32x2x2816_S32x4x2816_S32x6x2816_d1)
        Cert.FfnSIdeal.Gen.slices_S32x6x2816_S32x2x2816_0_4_0) (funext fun y => ?_)
      refine (congrArg (Cert.FfnSReferenceIdeal.Read.val_main_v15 (F := Ideal) (aX m c) (aG m c) (aW m c)) (Cert.Fox.ix3_self y)).trans ?_
      refine (ref_new _ _ _ (y 0) (y 1) (y 2)).trans ?_
      exact (newRows_at m c (y 0) (y 1) (y 2)).symm.trans (congrArg (newRows m c) (Cert.Fox.ix3_self y).symm)

end Cert.FfwS
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Array
public import proofs.«01_k».proof.Proof.Pre
public import proofs.«01_k».proof.Proof.FfnArray
public import proofs.«01_k».proof.Proof.FfnRef
public import proofs.«01_k».proof.Proof.ProjValue
public import proofs.«01_k».proof.Proof.MixValue
public import proofs.«01_k».proof.Proof.ProjSValue
public import proofs.«01_k».proof.Proof.MixSValue
public import proofs.«01_k».proof.Proof.FfnSValue
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.ProjS
public import proofs.«01_k».proof.Proof.Gen.ProjS.Frame
public import proofs.«01_k».proof.Proof.Gen.ProjSIdeal
public import proofs.«01_k».proof.Proof.Gen.ProjSIdeal.Frame
public import proofs.«01_k».proof.Proof.Gen.ProjSReferenceIdeal
public import proofs.«01_k».proof.Proof.Gen.ProjSReferenceIdeal.Run
public import proofs.«01_k».proof.Proof.Gen.ProjSReferenceIdeal.Read
public import proofs.«01_k».proof.Proof.Gen.MixS
public import proofs.«01_k».proof.Proof.Gen.MixS.Frame
public import proofs.«01_k».proof.Proof.Gen.MixSIdeal
public import proofs.«01_k».proof.Proof.Gen.MixSIdeal.Frame
public import proofs.«01_k».proof.Proof.Gen.MixSIdeal.Value
public import proofs.«01_k».proof.Proof.Gen.MixSReferenceIdeal
public import proofs.«01_k».proof.Proof.Gen.MixSReferenceIdeal.Run
public import proofs.«01_k».proof.Proof.Gen.MixSReferenceIdeal.Read
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

attribute [local instance] Cert.Fox.preFacts

theorem referenceFrame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

set_option maxHeartbeats 1000000 in
theorem value : Cert.algebraic_KernelIdeal_ReferenceIdeal_pre_finite := by
  pair_intro
  · run_from Cert.KernelIdeal.Value.run_blocks m g
  · run_from Cert.ReferenceIdeal.Value.run m' g'
    have H := Cert.Fox.finite_of_pre _ _ _ (hpre c)
    refine (Cert.ReferenceIdeal.Read.val_main_v49_eq m' c).trans ?_
    rw [(hagree c).1, (hagree c).2.1, (hagree c).2.2]
    refine Eq.trans ?_ (Cert.Fox.arr m c H).symm
    funext y
    exact (congrArg _ (Cert.Fox.ix3_self y)).trans (Cert.Fox.ref_at H (y 0) (y 1) (y 2))

theorem ffnReferenceFrame : Cert.quiescent_FfnReferenceIdeal := fun m g _ =>
  (θ_run Cert.FfnReferenceIdeal.defs _ _).mono (fun r h => ⟨fun c => (h c).2.2, sem_eq_zero_of_no_sems (by decide) r.2⟩)
    (Cert.FfnReferenceIdeal.Value.run (F := Ideal) m g)

set_option maxHeartbeats 1000000 in
theorem ffnValue : Cert.algebraic_FfnIdeal_FfnReferenceIdeal := by
  pair_intro
  · run_from Cert.FfnIdeal.Value.run_blocks m g
  · run_from Cert.FfnReferenceIdeal.Value.run m' g'
    · refine (Cert.FfnReferenceIdeal.Read.val_main_v70_eq m' c).trans ?_
      rw [(hagree c).1, (hagree c).2.1, (hagree c).2.2.1, (hagree c).2.2.2.1, (hagree c).2.2.2.2.1, (hagree c).2.2.2.2.2.1, (hagree c).2.2.2.2.2.2]
      refine Eq.trans ?_ (Cert.Ffwd.arr9 m c).symm
      funext y
      exact (congrArg _ (Cert.Ffwd.ix2_self y)).trans (Cert.Ffwd.ref_out _ _ _ _ _ _ _ (y 0) (y 1))
    · refine Eq.trans ?_ (Cert.Ffwd.arr10 m c).symm
      funext y
      refine Eq.trans ?_ (Cert.Ffwd.ref_tail _ _ _ (y 0) (y 1) (y 2))
      exact congrArg (Cert.FfnReferenceIdeal.Read.val_main_v72 (F := Ideal) _ _ _) (Cert.Fox.ix3_self y)

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Proj.Gen.facts, Cert.ProjIdeal.Gen.facts, Cert.ProjReferenceIdeal.Gen.facts,
  Cert.Mix.Gen.facts, Cert.MixIdeal.Gen.facts, Cert.MixReferenceIdeal.Gen.facts,
  Cert.ProjS.Gen.facts, Cert.ProjSIdeal.Gen.facts, Cert.ProjSReferenceIdeal.Gen.facts,
  Cert.MixS.Gen.facts, Cert.MixSIdeal.Gen.facts, Cert.MixSReferenceIdeal.Gen.facts,
  Cert.FfnS.Gen.facts, Cert.FfnSIdeal.Gen.facts, Cert.FfnSReferenceIdeal.Gen.facts, Cert.Fox.preFacts,
  fun m g _ => Cert.Kernel.Gen.frame m g, fun m g _ => Cert.KernelIdeal.Gen.frame m g, fun m g _ => Cert.KernelIdeal.Gen.frame m g,
  referenceFrame, fun m g _ => referenceFrame m g trivial,
  fun m g _ => Cert.Ffn.Gen.frame m g, fun m g _ => Cert.FfnIdeal.Gen.frame m g, ffnReferenceFrame,
  fun m g _ => Cert.Proj.Gen.frame m g, fun m g _ => Cert.ProjIdeal.Gen.frame m g, Cert.Prj.projReferenceFrame,
  fun m g _ => Cert.Mix.Gen.frame m g, fun m g _ => Cert.MixIdeal.Gen.frame m g, Cert.Mixo.mixReferenceFrame,
  fun m g _ => Cert.ProjS.Gen.frame m g, fun m g _ => Cert.ProjSIdeal.Gen.frame m g, Cert.PrjS.projSReferenceFrame,
  fun m g _ => Cert.MixS.Gen.frame m g, fun m g _ => Cert.MixSIdeal.Gen.frame m g, Cert.MixoS.mixSReferenceFrame,
  fun m g _ => Cert.FfnS.Gen.frame m g, fun m g _ => Cert.FfnSIdeal.Gen.frame m g, Cert.FfwS.ffnSReferenceFrame,
  IdealRules.named_const.statement Cert.KernelIdeal.κ "mask" .f32 0xF1800000#32 ⊥ rfl, value, trivial, ffnValue,
  trivial, Cert.Prj.projValue, trivial, Cert.Mixo.mixValue, trivial, Cert.PrjS.projSValue,
  trivial, Cert.MixoS.mixSValue, trivial, Cert.FfwS.ffnSValue⟩

end Cert.Proof

end
